-- ==== Defs.lean ====
def Pre_Kernel [hPre_pairs_in_buffer : Cert.Pre_pairs_in_buffer.Facts] (m : (ℓ : Loc Cert.Kernel.nD Cert.Kernel.τ Cert.Kernel.sig) → Buf (Elt Bits) ℓ) : Prop :=
  ∀ c : Dev Cert.Kernel.nD,
    (Cert.Pre_pairs_in_buffer.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_pairs_in_buffer : Cert.Pre_pairs_in_buffer.Facts] (m : (ℓ : Loc Cert.KernelIdeal.nD Cert.KernelIdeal.τ Cert.KernelIdeal.sig) → Buf (Elt Ideal) ℓ) : Prop :=
  ∀ c : Dev Cert.KernelIdeal.nD,
    (Cert.Pre_pairs_in_buffer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pairs_in_buffer [hPre_pairs_in_buffer : Cert.Pre_pairs_in_buffer.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pairs_in_buffer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_pairs_in_buffer : Cert.Pre_pairs_in_buffer.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_pairs_in_buffer : Cert.Pre_pairs_in_buffer.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pairs_in_buffer [hReferenceIdeal : Cert.ReferenceIdeal.Facts] [hPre_pairs_in_buffer : Cert.Pre_pairs_in_buffer.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pairs_in_buffer m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S73764x2x128 Cert.KernelIdeal.S73764x1x128
  ∧ IdealRules.bf16_pair.BufferStatement Cert.KernelIdeal.S800x2x128 Cert.KernelIdeal.S800x1x128
  ∧ IdealRules.bf16_pair.BufferStatement Cert.KernelIdeal.S512x2x128 Cert.KernelIdeal.S512x1x128
  ∧ IdealRules.bf16_pair.Statement Cert.KernelIdeal.S800x2x128 Cert.KernelIdeal.S800x1x128
  ∧ IdealRules.bf16_pair.SelectZeroStatement Cert.KernelIdeal.S800x128
  ∧ IdealRules.bf16_pair.Statement Cert.KernelIdeal.S18x2x128 Cert.KernelIdeal.S18x1x128
  ∧ IdealRules.bf16_pair.SelectZeroStatement Cert.KernelIdeal.S18x128
  ∧ IdealRules.bf16_pair.Statement Cert.KernelIdeal.S1024x128 Cert.KernelIdeal.S512x128
  ∧ IdealRules.bf16_pair.Statement Cert.KernelIdeal.S512x2x128 Cert.KernelIdeal.S512x1x128
  ∧ IdealRules.bf16_pair.Statement Cert.KernelIdeal.S8x2x1 Cert.KernelIdeal.S8x1x1
  ∧ IdealRules.bf16_pair.Statement Cert.KernelIdeal.S16x1 Cert.KernelIdeal.S8x1
  ∧ IdealRules.bf16_pair.Statement Cert.KernelIdeal.S16x128 Cert.KernelIdeal.S8x128
  ∧ IdealRules.bf16_pair.Statement Cert.KernelIdeal.S8x2x128 Cert.KernelIdeal.S8x1x128
  ∧ IdealRules.bf16_pair.Statement Cert.KernelIdeal.S96x2x128 Cert.KernelIdeal.S96x1x128
  ∧ IdealRules.bf16_pair.Statement Cert.KernelIdeal.S192x128 Cert.KernelIdeal.S96x128

def algebraic_KernelIdeal_ReferenceIdeal [hKernelIdeal : Cert.KernelIdeal.Facts] [hReferenceIdeal : Cert.ReferenceIdeal.Facts] [hPre_pairs_in_buffer : Cert.Pre_pairs_in_buffer.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pairs_in_buffer : Cert.Pre_pairs_in_buffer.Facts),
    quiescent_Kernel (hKernel := hKernel) (hPre_pairs_in_buffer := hPre_pairs_in_buffer)
    ∧ quiescent_KernelIdeal (hKernelIdeal := hKernelIdeal) (hPre_pairs_in_buffer := hPre_pairs_in_buffer)
    ∧ quiescent_ReferenceIdeal (hReferenceIdeal := hReferenceIdeal)
    ∧ quiescent_ReferenceIdeal_pre_pairs_in_buffer (hReferenceIdeal := hReferenceIdeal) (hPre_pairs_in_buffer := hPre_pairs_in_buffer)
    ∧ preserves_Kernel_KernelIdeal
    ∧ algebraic_KernelIdeal_ReferenceIdeal (hKernelIdeal := hKernelIdeal) (hReferenceIdeal := hReferenceIdeal) (hPre_pairs_in_buffer := hPre_pairs_in_buffer)
-- ==== Pre_pairs_in_buffer.lean ====
abbrev S64x128 : Shape := ⟨2, ![64, 128]⟩
abbrev S2048x6144 : Shape := ⟨2, ![2048, 6144]⟩
abbrev S8192x6144 : Shape := ⟨2, ![8192, 6144]⟩
abbrev S8192x128 : Shape := ⟨2, ![8192, 128]⟩
abbrev S6144x256 : Shape := ⟨2, ![6144, 256]⟩
abbrev S64x48 : Shape := ⟨2, ![64, 48]⟩
abbrev S_ : Shape := ⟨0, ![]⟩

class Facts : Prop where
  slices_S64x128_S64x48_0_0 : S64x128.Slices ![0, 0] S64x48
  bcast_S_S64x48 : S_.BroadcastsInDim S64x48 (![] : Fin 0 → Fin S64x48.rank)
  reducesTo_S64x48_S_d0_1 : S64x48.ReducesTo [0, 1] S_
  h_S_ : 0 < S_.numel

variable [Facts]

def fn {F : FTy → Type} [FloatOps F] (main_arg0 : IVec S64x128 32) (main_arg1 : FVec F S2048x6144 .bf16) (main_arg2 : FVec F S8192x6144 .fp8e4m3) (main_arg3 : FVec F S8192x128 .bf16) (main_arg4 : FVec F S6144x256 .bf16) : IVec S_ 1 :=
  let main_v0 : IVec S64x48 32 := (extractStridedSlice S64x48 ![0, 0] · slices_S64x128_S64x48_0_0) main_arg0
  let main_c : IVec S_ 32 := constantI S_ 32 0#32
  let main_v1 : IVec S64x48 32 := broadcastInDim S64x48 ![] bcast_S_S64x48 main_c
  let main_v2 : IVec S64x48 1 := cmpi .sge main_v0 main_v1
  let main_c_0 : IVec S_ 32 := constantI S_ 32 36864#32
  let main_v3 : IVec S64x48 32 := broadcastInDim S64x48 ![] bcast_S_S64x48 main_c_0
  let main_v4 : IVec S64x48 1 := cmpi .sle main_v0 main_v3
  let main_v5 : IVec S64x48 1 := andi main_v2 main_v4
  let main_c_1 : IVec S_ 32 := constantI S_ 32 9#32
  let main_v6 : IVec S64x48 32 := broadcastInDim S64x48 ![] bcast_S_S64x48 main_c_1
  let main_v7 : IVec S64x48 32 := Host.remsi main_v0 main_v6
  let main_c_2 : IVec S_ 32 := constantI S_ 32 0#32
  let main_v8 : IVec S64x48 32 := broadcastInDim S64x48 ![] bcast_S_S64x48 main_c_2
  let main_v9 : IVec S64x48 1 := cmpi .eq main_v7 main_v8
  let main_v10 : IVec S64x48 1 := andi main_v5 main_v9
  let main_c_3 : IVec S_ 1 := constantI S_ 1 1#1
  let main_v11 : IVec S_ 1 := (fun x v => Host.reduce IntOp.andi x v reducesTo_S64x48_S_d0_1 h_S_) main_v10 main_c_3
  main_v11
-- ==== Kernel.lean ====
abbrev S64x128 : Shape := ⟨2, ![64, 128]⟩
abbrev S2048x6144 : Shape := ⟨2, ![2048, 6144]⟩
abbrev S8192x6144 : Shape := ⟨2, ![8192, 6144]⟩
abbrev S8192x128 : Shape := ⟨2, ![8192, 128]⟩
abbrev S6144x256 : Shape := ⟨2, ![6144, 256]⟩
abbrev S256x1024 : Shape := ⟨2, ![256, 1024]⟩
abbrev S1024x1024 : Shape := ⟨2, ![1024, 1024]⟩
abbrev S1024x128 : Shape := ⟨2, ![1024, 128]⟩
abbrev S73764x128 : Shape := ⟨2, ![73764, 128]⟩
abbrev S800x128 : Shape := ⟨2, ![800, 128]⟩
abbrev S512x128 : Shape := ⟨2, ![512, 128]⟩
abbrev S18x128 : Shape := ⟨2, ![18, 128]⟩
abbrev S32x128 : Shape := ⟨2, ![32, 128]⟩
abbrev S8x1 : Shape := ⟨2, ![8, 1]⟩
abbrev S16x1 : Shape := ⟨2, ![16, 1]⟩
abbrev S16x128 : Shape := ⟨2, ![16, 128]⟩
abbrev S8x128 : Shape := ⟨2, ![8, 128]⟩
abbrev S1x1 : Shape := ⟨2, ![1, 1]⟩
abbrev S96x256 : Shape := ⟨2, ![96, 256]⟩
abbrev S96x192 : Shape := ⟨2, ![96, 192]⟩
abbrev S96x128 : Shape := ⟨2, ![96, 128]⟩
abbrev S192x128 : Shape := ⟨2, ![192, 128]⟩
abbrev S192x256 : Shape := ⟨2, ![192, 256]⟩
abbrev S32x256 : Shape := ⟨2, ![32, 256]⟩

abbrev nBuf : Space → Nat
  | .hbm => 5
  | .vmem => 13
  | .smem => 1
  | _ => 0

abbrev bufTy : (tb : Table) → Fin (tcTables nBuf tb) → BufTy
  | .hbm, ⟨0, _⟩ => ⟨S2048x6144, .bf16⟩
  | .hbm, ⟨1, _⟩ => ⟨S8192x6144, .fp8e4m3⟩
  | .hbm, ⟨2, _⟩ => ⟨S8192x128, .bf16⟩
  | .hbm, ⟨3, _⟩ => ⟨S6144x256, .bf16⟩
  | .hbm, ⟨4, _⟩ => ⟨S2048x6144, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .fp8e4m3⟩
  | .local _ .vmem, ⟨3, _⟩ => ⟨S1024x1024, .fp8e4m3⟩
  | .local _ .vmem, ⟨4, _⟩ => ⟨S1024x128, .bf16⟩
  | .local _ .vmem, ⟨5, _⟩ => ⟨S1024x128, .bf16⟩
  | .local _ .vmem, ⟨6, _⟩ => ⟨S6144x256, .bf16⟩
  | .local _ .vmem, ⟨7, _⟩ => ⟨S256x1024, .bf16⟩
  | .local _ .vmem, ⟨8, _⟩ => ⟨S256x1024, .bf16⟩
  | .local _ .vmem, ⟨9, _⟩ => ⟨S73764x128, .i32⟩
  | .local _ .vmem, ⟨10, _⟩ => ⟨S800x128, .i32⟩
  | .local _ .vmem, ⟨11, _⟩ => ⟨S800x128, .i32⟩
  | .local _ .vmem, ⟨12, _⟩ => ⟨S512x128, .i32⟩
  | .local _ .smem, ⟨0, _⟩ => ⟨S64x128, .i32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨2, ![7, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg0 : BitVec 32 := BitVec.ofNat 32 (i 0).val
  let c0_i32_6 : BitVec 32 := 0#32
  let v13 : BitVec 1 := Scalar.cmpi .eq arg0 c0_i32_6
  let v14 : BitVec 32 := Scalar.extui v13
  let c0_i32_7 : BitVec 32 := 0#32
  let v15 : BitVec 1 := Scalar.cmpi .ne v14 c0_i32_7
  v15

@[reducible] def k0_t1_loop : Scf.Loop 32 :=
  let c0_i32_13 : BitVec 32 := 0#32
  let c32_i32 : BitVec 32 := 32#32
  let v24 : BitVec 32 := Scalar.addi c0_i32_13 c32_i32
  let c1_i32_14 : BitVec 32 := 1#32
  ⟨c0_i32_13, v24, c1_i32_14⟩
def k0_off1 (k0_t1 : Fin k0_t1_loop.trips) : Fin 2 → Nat :=
  let c32_i32_16 : BitVec 32 := 32#32
  let c0_i32_13 : BitVec 32 := 0#32
  let c1_i32_14 : BitVec 32 := 1#32
  let arg12 : BitVec 32 := Scf.iv c0_i32_13 c1_i32_14 k0_t1
  let v25 : BitVec 32 := Scalar.muli c32_i32_16 arg12
  let v26 : Index := Scalar.indexCast v25
  let c0 : Index := 0#32
  ![v26.toNat, 0]
def k0_off2 (k0_t1 : Fin k0_t1_loop.trips) (c0_i32_17 : BitVec 32) : Fin 2 → Nat :=
  let c16_i32 : BitVec 32 := 16#32
  let c0_i32_13 : BitVec 32 := 0#32
  let c1_i32_14 : BitVec 32 := 1#32
  let arg12 : BitVec 32 := Scf.iv c0_i32_13 c1_i32_14 k0_t1
  let v29 : BitVec 32 := Scalar.muli c16_i32 arg12
  let v30 : BitVec 32 := Scalar.addi v29 c0_i32_17
  let v31 : Index := Scalar.indexCast v30
  let c0_18 : Index := 0#32
  ![v31.toNat, 0]
def k0_off3 (i : grid0.Coords) (k0_t1 : Fin k0_t1_loop.trips) (c0_i32_20 : BitVec 32) (c0_i32_21 : BitVec 32) : Fin 2 → Nat :=
  let arg0 : BitVec 32 := BitVec.ofNat 32 (i 0).val
  let c1_i32_1 : BitVec 32 := 1#32
  let v3 : BitVec 32 := Scalar.andi arg0 c1_i32_1
  let c36882_i32_2 : BitVec 32 := 36882#32
  let v4 : BitVec 32 := Scalar.muli v3 c36882_i32_2
  let arg1 : BitVec 32 := BitVec.ofNat 32 (i 1).val
  let c512_i32 : BitVec 32 := 512#32
  let v39 : BitVec 32 := Scalar.muli arg1 c512_i32
  let c16_i32_19 : BitVec 32 := 16#32
  let c0_i32_13 : BitVec 32 := 0#32
  let c1_i32_14 : BitVec 32 := 1#32
  let arg12 : BitVec 32 := Scf.iv c0_i32_13 c1_i32_14 k0_t1
  let v40 : BitVec 32 := Scalar.muli c16_i32_19 arg12
  let v41 : BitVec 32 := Scalar.addi v39 v40
  let v42 : BitVec 32 := Scalar.addi v41 c0_i32_20
  let c9_i32 : BitVec 32 := 9#32
  let v43 : BitVec 32 := Scalar.muli v42 c9_i32
  let v44 : BitVec 32 := Scalar.addi v4 v43
  let v45 : BitVec 32 := Scalar.addi v44 c0_i32_21
  let v46 : Index := Scalar.indexCast v45
  let c0_22 : Index := 0#32
  ![v46.toNat, 0]
def k0_off4 (k0_t1 : Fin k0_t1_loop.trips) : Fin 2 → Nat :=
  let c32_i32_31 : BitVec 32 := 32#32
  let c0_i32_13 : BitVec 32 := 0#32
  let c1_i32_14 : BitVec 32 := 1#32
  let arg12 : BitVec 32 := Scf.iv c0_i32_13 c1_i32_14 k0_t1
  let v71 : BitVec 32 := Scalar.muli c32_i32_31 arg12
  let v72 : Index := Scalar.indexCast v71
  let c128 : Index := 128#32
  ![v72.toNat, 128]
def k0_off5 (k0_t1 : Fin k0_t1_loop.trips) (c0_i32_33 : BitVec 32) : Fin 2 → Nat :=
  let c16_i32_32 : BitVec 32 := 16#32
  let c0_i32_13 : BitVec 32 := 0#32
  let c1_i32_14 : BitVec 32 := 1#32
  let arg12 : BitVec 32 := Scf.iv c0_i32_13 c1_i32_14 k0_t1
  let v75 : BitVec 32 := Scalar.muli c16_i32_32 arg12
  let v76 : BitVec 32 := Scalar.addi v75 c0_i32_33
  let v77 : Index := Scalar.indexCast v76
  let c1 : Index := 1#32
  ![v77.toNat, 1]
def k0_off6 (k0_t1 : Fin k0_t1_loop.trips) : Fin 2 → Nat :=
  let c32_i32_49 : BitVec 32 := 32#32
  let c0_i32_13 : BitVec 32 := 0#32
  let c1_i32_14 : BitVec 32 := 1#32
  let arg12 : BitVec 32 := Scf.iv c0_i32_13 c1_i32_14 k0_t1
  let v117 : BitVec 32 := Scalar.muli c32_i32_49 arg12
  let v118 : Index := Scalar.indexCast v117
  let c256 : Index := 256#32
  ![v118.toNat, 256]
def k0_off7 (k0_t1 : Fin k0_t1_loop.trips) (c0_i32_51 : BitVec 32) : Fin 2 → Nat :=
  let c16_i32_50 : BitVec 32 := 16#32
  let c0_i32_13 : BitVec 32 := 0#32
  let c1_i32_14 : BitVec 32 := 1#32
  let arg12 : BitVec 32 := Scf.iv c0_i32_13 c1_i32_14 k0_t1
  let v121 : BitVec 32 := Scalar.muli c16_i32_50 arg12
  let v122 : BitVec 32 := Scalar.addi v121 c0_i32_51
  let v123 : Index := Scalar.indexCast v122
  let c2 : Index := 2#32
  ![v123.toNat, 2]
def k0_off8 (k0_t1 : Fin k0_t1_loop.trips) : Fin 2 → Nat :=
  let c32_i32_66 : BitVec 32 := 32#32
  let c0_i32_13 : BitVec 32 := 0#32
  let c1_i32_14 : BitVec 32 := 1#32
  let arg12 : BitVec 32 := Scf.iv c0_i32_13 c1_i32_14 k0_t1
  let v163 : BitVec 32 := Scalar.muli c32_i32_66 arg12
  let v164 : Index := Scalar.indexCast v163
  let c384 : Index := 384#32
  ![v164.toNat, 384]
def k0_off9 (k0_t1 : Fin k0_t1_loop.trips) (c0_i32_68 : BitVec 32) : Fin 2 → Nat :=
  let c16_i32_67 : BitVec 32 := 16#32
  let c0_i32_13 : BitVec 32 := 0#32
  let c1_i32_14 : BitVec 32 := 1#32
  let arg12 : BitVec 32 := Scf.iv c0_i32_13 c1_i32_14 k0_t1
  let v167 : BitVec 32 := Scalar.muli c16_i32_67 arg12
  let v168 : BitVec 32 := Scalar.addi v167 c0_i32_68
  let v169 : Index := Scalar.indexCast v168
  let c3 : Index := 3#32
  ![v169.toNat, 3]
def k0_off10 (k0_t1 : Fin k0_t1_loop.trips) : Fin 2 → Nat :=
  let c32_i32_83 : BitVec 32 := 32#32
  let c0_i32_13 : BitVec 32 := 0#32
  let c1_i32_14 : BitVec 32 := 1#32
  let arg12 : BitVec 32 := Scf.iv c0_i32_13 c1_i32_14 k0_t1
  let v209 : BitVec 32 := Scalar.muli c32_i32_83 arg12
  let v210 : Index := Scalar.indexCast v209
  let c512 : Index := 512#32
  ![v210.toNat, 512]
def k0_off11 (k0_t1 : Fin k0_t1_loop.trips) (c0_i32_85 : BitVec 32) : Fin 2 → Nat :=
  let c16_i32_84 : BitVec 32 := 16#32
  let c0_i32_13 : BitVec 32 := 0#32
  let c1_i32_14 : BitVec 32 := 1#32
  let arg12 : BitVec 32 := Scf.iv c0_i32_13 c1_i32_14 k0_t1
  let v213 : BitVec 32 := Scalar.muli c16_i32_84 arg12
  let v214 : BitVec 32 := Scalar.addi v213 c0_i32_85
  let v215 : Index := Scalar.indexCast v214
  let c4 : Index := 4#32
  ![v215.toNat, 4]
def k0_off12 (k0_t1 : Fin k0_t1_loop.trips) : Fin 2 → Nat :=
  let c32_i32_100 : BitVec 32 := 32#32
  let c0_i32_13 : BitVec 32 := 0#32
  let c1_i32_14 : BitVec 32 := 1#32
  let arg12 : BitVec 32 := Scf.iv c0_i32_13 c1_i32_14 k0_t1
  let v255 : BitVec 32 := Scalar.muli c32_i32_100 arg12
  let v256 : Index := Scalar.indexCast v255
  let c640 : Index := 640#32
  ![v256.toNat, 640]
def k0_off13 (k0_t1 : Fin k0_t1_loop.trips) (c0_i32_102 : BitVec 32) : Fin 2 → Nat :=
  let c16_i32_101 : BitVec 32 := 16#32
  let c0_i32_13 : BitVec 32 := 0#32
  let c1_i32_14 : BitVec 32 := 1#32
  let arg12 : BitVec 32 := Scf.iv c0_i32_13 c1_i32_14 k0_t1
  let v259 : BitVec 32 := Scalar.muli c16_i32_101 arg12
  let v260 : BitVec 32 := Scalar.addi v259 c0_i32_102
  let v261 : Index := Scalar.indexCast v260
  let c5 : Index := 5#32
  ![v261.toNat, 5]
def k0_off14 (k0_t1 : Fin k0_t1_loop.trips) : Fin 2 → Nat :=
  let c32_i32_117 : BitVec 32 := 32#32
  let c0_i32_13 : BitVec 32 := 0#32
  let c1_i32_14 : BitVec 32 := 1#32
  let arg12 : BitVec 32 := Scf.iv c0_i32_13 c1_i32_14 k0_t1
  let v301 : BitVec 32 := Scalar.muli c32_i32_117 arg12
  let v302 : Index := Scalar.indexCast v301
  let c768 : Index := 768#32
  ![v302.toNat, 768]
def k0_off15 (k0_t1 : Fin k0_t1_loop.trips) (c0_i32_119 : BitVec 32) : Fin 2 → Nat :=
  let c16_i32_118 : BitVec 32 := 16#32
  let c0_i32_13 : BitVec 32 := 0#32
  let c1_i32_14 : BitVec 32 := 1#32
  let arg12 : BitVec 32 := Scf.iv c0_i32_13 c1_i32_14 k0_t1
  let v305 : BitVec 32 := Scalar.muli c16_i32_118 arg12
  let v306 : BitVec 32 := Scalar.addi v305 c0_i32_119
  let v307 : Index := Scalar.indexCast v306
  let c6 : Index := 6#32
  ![v307.toNat, 6]
def k0_off16 (k0_t1 : Fin k0_t1_loop.trips) : Fin 2 → Nat :=
  let c32_i32_135 : BitVec 32 := 32#32
  let c0_i32_13 : BitVec 32 := 0#32
  let c1_i32_14 : BitVec 32 := 1#32
  let arg12 : BitVec 32 := Scf.iv c0_i32_13 c1_i32_14 k0_t1
  let v347 : BitVec 32 := Scalar.muli c32_i32_135 arg12
  let v348 : Index := Scalar.indexCast v347
  let c896 : Index := 896#32
  ![v348.toNat, 896]
def k0_off17 (k0_t1 : Fin k0_t1_loop.trips) (c0_i32_137 : BitVec 32) : Fin 2 → Nat :=
  let c16_i32_136 : BitVec 32 := 16#32
  let c0_i32_13 : BitVec 32 := 0#32
  let c1_i32_14 : BitVec 32 := 1#32
  let arg12 : BitVec 32 := Scf.iv c0_i32_13 c1_i32_14 k0_t1
  let v351 : BitVec 32 := Scalar.muli c16_i32_136 arg12
  let v352 : BitVec 32 := Scalar.addi v351 c0_i32_137
  let v353 : Index := Scalar.indexCast v352
  let c7 : Index := 7#32
  ![v353.toNat, 7]
def k0_cond4 (i : grid0.Coords) : BitVec 1 :=
  let arg0 : BitVec 32 := BitVec.ofNat 32 (i 0).val
  let c0_i32_8 : BitVec 32 := 0#32
  let v16 : BitVec 1 := Scalar.cmpi .sgt arg0 c0_i32_8
  let c6_i32_9 : BitVec 32 := 6#32
  let v17 : BitVec 1 := Scalar.cmpi .slt arg0 c6_i32_9
  let v18 : BitVec 1 := Scalar.andi v16 v17
  let v19 : BitVec 32 := Scalar.extui v18
  let c0_i32_10 : BitVec 32 := 0#32
  let v20 : BitVec 1 := Scalar.cmpi .ne v19 c0_i32_10
  v20

@[reducible] def k0_t2_loop : Scf.Loop 32 :=
  let c0_i32_13 : BitVec 32 := 0#32
  let c4_i32 : BitVec 32 := 4#32
  let v24 : BitVec 32 := Scalar.addi c0_i32_13 c4_i32
  let c1_i32_14 : BitVec 32 := 1#32
  ⟨c0_i32_13, v24, c1_i32_14⟩
@[reducible] def k0_t3_loop : Scf.Loop 32 :=
  let c0_i32_17 : BitVec 32 := 0#32
  let c48_i32 : BitVec 32 := 48#32
  let v27 : BitVec 32 := Scalar.addi c0_i32_17 c48_i32
  let c1_i32_18 : BitVec 32 := 1#32
  ⟨c0_i32_17, v27, c1_i32_18⟩
def k0_off18 (i : grid0.Coords) (k0_t2 : Fin k0_t2_loop.trips) (k0_t3 : Fin k0_t3_loop.trips) : Fin 2 → Nat :=
  let arg1 : BitVec 32 := BitVec.ofNat 32 (i 1).val
  let c8_i32_89 : BitVec 32 := 8#32
  let v197 : BitVec 32 := Scalar.muli arg1 c8_i32_89
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let v198 : BitVec 32 := Scalar.addi v197 v26
  let v199 : Index := Scalar.indexCast v198
  let c0_i32_17 : BitVec 32 := 0#32
  let c1_i32_18 : BitVec 32 := 1#32
  let arg13 : BitVec 32 := Scf.iv c0_i32_17 c1_i32_18 k0_t3
  let v200 : Index := Scalar.indexCast arg13
  ![v199.toNat, v200.toNat]
def k0_off19 (i : grid0.Coords) (v201 : BitVec 32) (c0_i32_90 : BitVec 32) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.andi v0 c1_i32_0
  let c36882_i32 : BitVec 32 := 36882#32
  let v2 : BitVec 32 := Scalar.muli v1 c36882_i32
  let v202 : BitVec 32 := Scalar.addi v2 v201
  let v203 : BitVec 32 := Scalar.addi v202 c0_i32_90
  let v204 : Index := Scalar.indexCast v203
  let c0_91 : Index := 0#32
  ![v204.toNat, 0]

def k0_chk1 (i : grid0.Coords) (v201 : BitVec 32) : Prop :=
  (∀ (k0_h4 : k0_cond4 i = 1#1), ∀ (r : Fin 2), ∀ a, (k0_off19 i v201 (BitVec.ofNat 32 (9 * r.val))) a + S8x128.size a ≤ S73764x128.size a)
theorem k0_off19_inb : ∀ (i : grid0.Coords) (v201 : BitVec 32) (k0_hw1 : k0_chk1 i v201), ∀ (k0_h4 : k0_cond4 i = 1#1), ∀ (r : Fin 2), ∀ a, (k0_off19 i v201 (BitVec.ofNat 32 (9 * r.val))) a + S8x128.size a ≤ S73764x128.size a := fun i v201 k0_hw1 k0_h4 r => k0_hw1 k0_h4 r

def k0_off20 (k0_t3 : Fin k0_t3_loop.trips) (c0_i32_93 : BitVec 32) : Fin 2 → Nat :=
  let c2_i32_92 : BitVec 32 := 2#32
  let c0_i32_17 : BitVec 32 := 0#32
  let c1_i32_18 : BitVec 32 := 1#32
  let arg13 : BitVec 32 := Scf.iv c0_i32_17 c1_i32_18 k0_t3
  let v206 : BitVec 32 := Scalar.muli c2_i32_92 arg13
  let v207 : BitVec 32 := Scalar.addi v206 c0_i32_93
  let v208 : Index := Scalar.indexCast v207
  let c0_94 : Index := 0#32
  ![v208.toNat, 0]
def k0_off21 (i : grid0.Coords) (k0_t2 : Fin k0_t2_loop.trips) (c0_i32_16 : BitVec 32) : Fin 2 → Nat :=
  let arg1 : BitVec 32 := BitVec.ofNat 32 (i 1).val
  let c8_i32 : BitVec 32 := 8#32
  let v28 : BitVec 32 := Scalar.muli arg1 c8_i32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let v26 : BitVec 32 := Scalar.addi v25 c0_i32_16
  let v29 : BitVec 32 := Scalar.addi v28 v26
  let c96_i32 : BitVec 32 := 96#32
  let v30 : BitVec 32 := Scalar.muli v29 c96_i32
  let v31 : Index := Scalar.indexCast v30
  let c0 : Index := 0#32
  ![v31.toNat, 0]
def k0_off22 (k0_t2 : Fin k0_t2_loop.trips) (c0_i32_16 : BitVec 32) : Fin 2 → Nat :=
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let v26 : BitVec 32 := Scalar.addi v25 c0_i32_16
  let c32_i32 : BitVec 32 := 32#32
  let v45 : BitVec 32 := Scalar.muli v26 c32_i32
  let v46 : Index := Scalar.indexCast v45
  let c0_23 : Index := 0#32
  ![v46.toNat, 0]
def k0_off23 (k0_t2 : Fin k0_t2_loop.trips) (c0_i32_16 : BitVec 32) : Fin 2 → Nat :=
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let v26 : BitVec 32 := Scalar.addi v25 c0_i32_16
  let c32_i32_28 : BitVec 32 := 32#32
  let v64 : BitVec 32 := Scalar.muli v26 c32_i32_28
  let v65 : Index := Scalar.indexCast v64
  let c256 : Index := 256#32
  ![v65.toNat, 256]
def k0_off24 (k0_t2 : Fin k0_t2_loop.trips) (c0_i32_16 : BitVec 32) : Fin 2 → Nat :=
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let v26 : BitVec 32 := Scalar.addi v25 c0_i32_16
  let c32_i32_33 : BitVec 32 := 32#32
  let v83 : BitVec 32 := Scalar.muli v26 c32_i32_33
  let v84 : Index := Scalar.indexCast v83
  let c512 : Index := 512#32
  ![v84.toNat, 512]
def k0_off25 (k0_t2 : Fin k0_t2_loop.trips) (c0_i32_16 : BitVec 32) : Fin 2 → Nat :=
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let v26 : BitVec 32 := Scalar.addi v25 c0_i32_16
  let c32_i32_38 : BitVec 32 := 32#32
  let v102 : BitVec 32 := Scalar.muli v26 c32_i32_38
  let v103 : Index := Scalar.indexCast v102
  let c768 : Index := 768#32
  ![v103.toNat, 768]
@[reducible] def k0_t4_loop : Scf.Loop 32 :=
  let c0_i32_40 : BitVec 32 := 0#32
  let c4_i32_41 : BitVec 32 := 4#32
  let v110 : BitVec 32 := Scalar.addi c0_i32_40 c4_i32_41
  let c1_i32_42 : BitVec 32 := 1#32
  ⟨c0_i32_40, v110, c1_i32_42⟩
def k0_off26 (k0_t2 : Fin k0_t2_loop.trips) (k0_t4 : Fin k0_t4_loop.trips) : Fin 2 → Nat :=
  let c32_i32_90 : BitVec 32 := 32#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v199 : BitVec 32 := Scalar.muli c32_i32_90 v198
  let v200 : Index := Scalar.indexCast v199
  let c0_91 : Index := 0#32
  ![v200.toNat, 0]
def k0_off27 (k0_t2 : Fin k0_t2_loop.trips) (k0_t4 : Fin k0_t4_loop.trips) (c0_i32_92 : BitVec 32) : Fin 2 → Nat :=
  let c16_i32 : BitVec 32 := 16#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v203 : BitVec 32 := Scalar.muli c16_i32 v198
  let v204 : BitVec 32 := Scalar.addi v203 c0_i32_92
  let v205 : Index := Scalar.indexCast v204
  let c0_93 : Index := 0#32
  ![v205.toNat, 0]
def k0_off28 (i : grid0.Coords) (k0_t2 : Fin k0_t2_loop.trips) (k0_t4 : Fin k0_t4_loop.trips) (c0_i32_95 : BitVec 32) (c0_i32_96 : BitVec 32) : Fin 2 → Nat :=
  let arg0 : BitVec 32 := BitVec.ofNat 32 (i 0).val
  let c1_i32_1 : BitVec 32 := 1#32
  let v3 : BitVec 32 := Scalar.andi arg0 c1_i32_1
  let c36882_i32_2 : BitVec 32 := 36882#32
  let v4 : BitVec 32 := Scalar.muli v3 c36882_i32_2
  let arg1 : BitVec 32 := BitVec.ofNat 32 (i 1).val
  let c512_i32 : BitVec 32 := 512#32
  let v213 : BitVec 32 := Scalar.muli arg1 c512_i32
  let c16_i32_94 : BitVec 32 := 16#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v214 : BitVec 32 := Scalar.muli c16_i32_94 v198
  let v215 : BitVec 32 := Scalar.addi v213 v214
  let v216 : BitVec 32 := Scalar.addi v215 c0_i32_95
  let c9_i32 : BitVec 32 := 9#32
  let v217 : BitVec 32 := Scalar.muli v216 c9_i32
  let v218 : BitVec 32 := Scalar.addi v4 v217
  let v219 : BitVec 32 := Scalar.addi v218 c0_i32_96
  let v220 : Index := Scalar.indexCast v219
  let c0_97 : Index := 0#32
  ![v220.toNat, 0]
def k0_off29 (k0_t2 : Fin k0_t2_loop.trips) (k0_t4 : Fin k0_t4_loop.trips) : Fin 2 → Nat :=
  let c32_i32_107 : BitVec 32 := 32#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v245 : BitVec 32 := Scalar.muli c32_i32_107 v198
  let v246 : Index := Scalar.indexCast v245
  let c128 : Index := 128#32
  ![v246.toNat, 128]
def k0_off30 (k0_t2 : Fin k0_t2_loop.trips) (k0_t4 : Fin k0_t4_loop.trips) (c0_i32_109 : BitVec 32) : Fin 2 → Nat :=
  let c16_i32_108 : BitVec 32 := 16#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v249 : BitVec 32 := Scalar.muli c16_i32_108 v198
  let v250 : BitVec 32 := Scalar.addi v249 c0_i32_109
  let v251 : Index := Scalar.indexCast v250
  let c1 : Index := 1#32
  ![v251.toNat, 1]
def k0_off31 (k0_t2 : Fin k0_t2_loop.trips) (k0_t4 : Fin k0_t4_loop.trips) : Fin 2 → Nat :=
  let c32_i32_125 : BitVec 32 := 32#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v291 : BitVec 32 := Scalar.muli c32_i32_125 v198
  let v292 : Index := Scalar.indexCast v291
  let c256_126 : Index := 256#32
  ![v292.toNat, 256]
def k0_off32 (k0_t2 : Fin k0_t2_loop.trips) (k0_t4 : Fin k0_t4_loop.trips) (c0_i32_128 : BitVec 32) : Fin 2 → Nat :=
  let c16_i32_127 : BitVec 32 := 16#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v295 : BitVec 32 := Scalar.muli c16_i32_127 v198
  let v296 : BitVec 32 := Scalar.addi v295 c0_i32_128
  let v297 : Index := Scalar.indexCast v296
  let c2 : Index := 2#32
  ![v297.toNat, 2]
def k0_off33 (k0_t2 : Fin k0_t2_loop.trips) (k0_t4 : Fin k0_t4_loop.trips) : Fin 2 → Nat :=
  let c32_i32_144 : BitVec 32 := 32#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v337 : BitVec 32 := Scalar.muli c32_i32_144 v198
  let v338 : Index := Scalar.indexCast v337
  let c384 : Index := 384#32
  ![v338.toNat, 384]
def k0_off34 (k0_t2 : Fin k0_t2_loop.trips) (k0_t4 : Fin k0_t4_loop.trips) (c0_i32_146 : BitVec 32) : Fin 2 → Nat :=
  let c16_i32_145 : BitVec 32 := 16#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v341 : BitVec 32 := Scalar.muli c16_i32_145 v198
  let v342 : BitVec 32 := Scalar.addi v341 c0_i32_146
  let v343 : Index := Scalar.indexCast v342
  let c3 : Index := 3#32
  ![v343.toNat, 3]
def k0_off35 (k0_t2 : Fin k0_t2_loop.trips) (k0_t4 : Fin k0_t4_loop.trips) : Fin 2 → Nat :=
  let c32_i32_161 : BitVec 32 := 32#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v383 : BitVec 32 := Scalar.muli c32_i32_161 v198
  let v384 : Index := Scalar.indexCast v383
  let c512_162 : Index := 512#32
  ![v384.toNat, 512]
def k0_off36 (k0_t2 : Fin k0_t2_loop.trips) (k0_t4 : Fin k0_t4_loop.trips) (c0_i32_164 : BitVec 32) : Fin 2 → Nat :=
  let c16_i32_163 : BitVec 32 := 16#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v387 : BitVec 32 := Scalar.muli c16_i32_163 v198
  let v388 : BitVec 32 := Scalar.addi v387 c0_i32_164
  let v389 : Index := Scalar.indexCast v388
  let c4 : Index := 4#32
  ![v389.toNat, 4]
def k0_off37 (k0_t2 : Fin k0_t2_loop.trips) (k0_t4 : Fin k0_t4_loop.trips) : Fin 2 → Nat :=
  let c32_i32_180 : BitVec 32 := 32#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v429 : BitVec 32 := Scalar.muli c32_i32_180 v198
  let v430 : Index := Scalar.indexCast v429
  let c640 : Index := 640#32
  ![v430.toNat, 640]
def k0_off38 (k0_t2 : Fin k0_t2_loop.trips) (k0_t4 : Fin k0_t4_loop.trips) (c0_i32_182 : BitVec 32) : Fin 2 → Nat :=
  let c16_i32_181 : BitVec 32 := 16#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v433 : BitVec 32 := Scalar.muli c16_i32_181 v198
  let v434 : BitVec 32 := Scalar.addi v433 c0_i32_182
  let v435 : Index := Scalar.indexCast v434
  let c5 : Index := 5#32
  ![v435.toNat, 5]
def k0_off39 (k0_t2 : Fin k0_t2_loop.trips) (k0_t4 : Fin k0_t4_loop.trips) : Fin 2 → Nat :=
  let c32_i32_197 : BitVec 32 := 32#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v475 : BitVec 32 := Scalar.muli c32_i32_197 v198
  let v476 : Index := Scalar.indexCast v475
  let c768_198 : Index := 768#32
  ![v476.toNat, 768]
def k0_off40 (k0_t2 : Fin k0_t2_loop.trips) (k0_t4 : Fin k0_t4_loop.trips) (c0_i32_200 : BitVec 32) : Fin 2 → Nat :=
  let c16_i32_199 : BitVec 32 := 16#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v479 : BitVec 32 := Scalar.muli c16_i32_199 v198
  let v480 : BitVec 32 := Scalar.addi v479 c0_i32_200
  let v481 : Index := Scalar.indexCast v480
  let c6 : Index := 6#32
  ![v481.toNat, 6]
def k0_off41 (k0_t2 : Fin k0_t2_loop.trips) (k0_t4 : Fin k0_t4_loop.trips) : Fin 2 → Nat :=
  let c32_i32_216 : BitVec 32 := 32#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v521 : BitVec 32 := Scalar.muli c32_i32_216 v198
  let v522 : Index := Scalar.indexCast v521
  let c896 : Index := 896#32
  ![v522.toNat, 896]
def k0_off42 (k0_t2 : Fin k0_t2_loop.trips) (k0_t4 : Fin k0_t4_loop.trips) (c0_i32_218 : BitVec 32) : Fin 2 → Nat :=
  let c16_i32_217 : BitVec 32 := 16#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v525 : BitVec 32 := Scalar.muli c16_i32_217 v198
  let v526 : BitVec 32 := Scalar.addi v525 c0_i32_218
  let v527 : Index := Scalar.indexCast v526
  let c7 : Index := 7#32
  ![v527.toNat, 7]
@[reducible] def k0_t5_loop : Scf.Loop 32 :=
  let c0_i32_46 : BitVec 32 := 0#32
  let c48_i32_47 : BitVec 32 := 48#32
  let v113 : BitVec 32 := Scalar.addi c0_i32_46 c48_i32_47
  let c1_i32_48 : BitVec 32 := 1#32
  ⟨c0_i32_46, v113, c1_i32_48⟩
def k0_off43 (i : grid0.Coords) (k0_t2 : Fin k0_t2_loop.trips) (k0_t5 : Fin k0_t5_loop.trips) : Fin 2 → Nat :=
  let arg1 : BitVec 32 := BitVec.ofNat 32 (i 1).val
  let c8_i32_89 : BitVec 32 := 8#32
  let v197 : BitVec 32 := Scalar.muli arg1 c8_i32_89
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let v198 : BitVec 32 := Scalar.addi v197 v112
  let v199 : Index := Scalar.indexCast v198
  let c0_i32_46 : BitVec 32 := 0#32
  let c1_i32_48 : BitVec 32 := 1#32
  let arg13 : BitVec 32 := Scf.iv c0_i32_46 c1_i32_48 k0_t5
  let v200 : Index := Scalar.indexCast arg13
  ![v199.toNat, v200.toNat]
def k0_off44 (i : grid0.Coords) (v201 : BitVec 32) (c0_i32_90 : BitVec 32) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.andi v0 c1_i32_0
  let c36882_i32 : BitVec 32 := 36882#32
  let v2 : BitVec 32 := Scalar.muli v1 c36882_i32
  let v202 : BitVec 32 := Scalar.addi v2 v201
  let v203 : BitVec 32 := Scalar.addi v202 c0_i32_90
  let v204 : Index := Scalar.indexCast v203
  let c0_91 : Index := 0#32
  ![v204.toNat, 0]

def k0_chk2 (i : grid0.Coords) (v201 : BitVec 32) : Prop :=
  (∀ (k0_h4 : k0_cond4 i = 1#1), ∀ (r : Fin 2), ∀ a, (k0_off44 i v201 (BitVec.ofNat 32 (9 * r.val))) a + S8x128.size a ≤ S73764x128.size a)
theorem k0_off44_inb : ∀ (i : grid0.Coords) (v201 : BitVec 32) (k0_hw2 : k0_chk2 i v201), ∀ (k0_h4 : k0_cond4 i = 1#1), ∀ (r : Fin 2), ∀ a, (k0_off44 i v201 (BitVec.ofNat 32 (9 * r.val))) a + S8x128.size a ≤ S73764x128.size a := fun i v201 k0_hw2 k0_h4 r => k0_hw2 k0_h4 r

def k0_off45 (k0_t5 : Fin k0_t5_loop.trips) (c0_i32_93 : BitVec 32) : Fin 2 → Nat :=
  let c2_i32_92 : BitVec 32 := 2#32
  let c0_i32_46 : BitVec 32 := 0#32
  let c1_i32_48 : BitVec 32 := 1#32
  let arg13 : BitVec 32 := Scf.iv c0_i32_46 c1_i32_48 k0_t5
  let v206 : BitVec 32 := Scalar.muli c2_i32_92 arg13
  let v207 : BitVec 32 := Scalar.addi v206 c0_i32_93
  let v208 : Index := Scalar.indexCast v207
  let c0_94 : Index := 0#32
  ![v208.toNat, 0]
@[reducible] def k0_t6_loop : Scf.Loop 32 :=
  let c0_i32_85 : BitVec 32 := 0#32
  let c4_i32_86 : BitVec 32 := 4#32
  let v196 : BitVec 32 := Scalar.addi c0_i32_85 c4_i32_86
  let c1_i32_87 : BitVec 32 := 1#32
  ⟨c0_i32_85, v196, c1_i32_87⟩
def k0_off46 (k0_t2 : Fin k0_t2_loop.trips) (k0_t6 : Fin k0_t6_loop.trips) : Fin 2 → Nat :=
  let c32_i32_90 : BitVec 32 := 32#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v199 : BitVec 32 := Scalar.muli c32_i32_90 v198
  let v200 : Index := Scalar.indexCast v199
  let c0_91 : Index := 0#32
  ![v200.toNat, 0]
def k0_off47 (k0_t2 : Fin k0_t2_loop.trips) (k0_t6 : Fin k0_t6_loop.trips) (c0_i32_92 : BitVec 32) : Fin 2 → Nat :=
  let c16_i32 : BitVec 32 := 16#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v203 : BitVec 32 := Scalar.muli c16_i32 v198
  let v204 : BitVec 32 := Scalar.addi v203 c0_i32_92
  let v205 : Index := Scalar.indexCast v204
  let c0_93 : Index := 0#32
  ![v205.toNat, 0]
def k0_off48 (i : grid0.Coords) (k0_t2 : Fin k0_t2_loop.trips) (k0_t6 : Fin k0_t6_loop.trips) (c0_i32_95 : BitVec 32) (c0_i32_96 : BitVec 32) : Fin 2 → Nat :=
  let arg0 : BitVec 32 := BitVec.ofNat 32 (i 0).val
  let c1_i32_1 : BitVec 32 := 1#32
  let v3 : BitVec 32 := Scalar.andi arg0 c1_i32_1
  let c36882_i32_2 : BitVec 32 := 36882#32
  let v4 : BitVec 32 := Scalar.muli v3 c36882_i32_2
  let arg1 : BitVec 32 := BitVec.ofNat 32 (i 1).val
  let c512_i32 : BitVec 32 := 512#32
  let v213 : BitVec 32 := Scalar.muli arg1 c512_i32
  let c16_i32_94 : BitVec 32 := 16#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v214 : BitVec 32 := Scalar.muli c16_i32_94 v198
  let v215 : BitVec 32 := Scalar.addi v213 v214
  let v216 : BitVec 32 := Scalar.addi v215 c0_i32_95
  let c9_i32 : BitVec 32 := 9#32
  let v217 : BitVec 32 := Scalar.muli v216 c9_i32
  let v218 : BitVec 32 := Scalar.addi v4 v217
  let v219 : BitVec 32 := Scalar.addi v218 c0_i32_96
  let v220 : Index := Scalar.indexCast v219
  let c0_97 : Index := 0#32
  ![v220.toNat, 0]
def k0_off49 (k0_t2 : Fin k0_t2_loop.trips) (k0_t6 : Fin k0_t6_loop.trips) : Fin 2 → Nat :=
  let c32_i32_107 : BitVec 32 := 32#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v245 : BitVec 32 := Scalar.muli c32_i32_107 v198
  let v246 : Index := Scalar.indexCast v245
  let c128 : Index := 128#32
  ![v246.toNat, 128]
def k0_off50 (k0_t2 : Fin k0_t2_loop.trips) (k0_t6 : Fin k0_t6_loop.trips) (c0_i32_109 : BitVec 32) : Fin 2 → Nat :=
  let c16_i32_108 : BitVec 32 := 16#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v249 : BitVec 32 := Scalar.muli c16_i32_108 v198
  let v250 : BitVec 32 := Scalar.addi v249 c0_i32_109
  let v251 : Index := Scalar.indexCast v250
  let c1 : Index := 1#32
  ![v251.toNat, 1]
def k0_off51 (k0_t2 : Fin k0_t2_loop.trips) (k0_t6 : Fin k0_t6_loop.trips) : Fin 2 → Nat :=
  let c32_i32_125 : BitVec 32 := 32#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v291 : BitVec 32 := Scalar.muli c32_i32_125 v198
  let v292 : Index := Scalar.indexCast v291
  let c256_126 : Index := 256#32
  ![v292.toNat, 256]
def k0_off52 (k0_t2 : Fin k0_t2_loop.trips) (k0_t6 : Fin k0_t6_loop.trips) (c0_i32_128 : BitVec 32) : Fin 2 → Nat :=
  let c16_i32_127 : BitVec 32 := 16#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v295 : BitVec 32 := Scalar.muli c16_i32_127 v198
  let v296 : BitVec 32 := Scalar.addi v295 c0_i32_128
  let v297 : Index := Scalar.indexCast v296
  let c2 : Index := 2#32
  ![v297.toNat, 2]
def k0_off53 (k0_t2 : Fin k0_t2_loop.trips) (k0_t6 : Fin k0_t6_loop.trips) : Fin 2 → Nat :=
  let c32_i32_144 : BitVec 32 := 32#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v337 : BitVec 32 := Scalar.muli c32_i32_144 v198
  let v338 : Index := Scalar.indexCast v337
  let c384 : Index := 384#32
  ![v338.toNat, 384]
def k0_off54 (k0_t2 : Fin k0_t2_loop.trips) (k0_t6 : Fin k0_t6_loop.trips) (c0_i32_146 : BitVec 32) : Fin 2 → Nat :=
  let c16_i32_145 : BitVec 32 := 16#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v341 : BitVec 32 := Scalar.muli c16_i32_145 v198
  let v342 : BitVec 32 := Scalar.addi v341 c0_i32_146
  let v343 : Index := Scalar.indexCast v342
  let c3 : Index := 3#32
  ![v343.toNat, 3]
def k0_off55 (k0_t2 : Fin k0_t2_loop.trips) (k0_t6 : Fin k0_t6_loop.trips) : Fin 2 → Nat :=
  let c32_i32_161 : BitVec 32 := 32#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v383 : BitVec 32 := Scalar.muli c32_i32_161 v198
  let v384 : Index := Scalar.indexCast v383
  let c512_162 : Index := 512#32
  ![v384.toNat, 512]
def k0_off56 (k0_t2 : Fin k0_t2_loop.trips) (k0_t6 : Fin k0_t6_loop.trips) (c0_i32_164 : BitVec 32) : Fin 2 → Nat :=
  let c16_i32_163 : BitVec 32 := 16#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v387 : BitVec 32 := Scalar.muli c16_i32_163 v198
  let v388 : BitVec 32 := Scalar.addi v387 c0_i32_164
  let v389 : Index := Scalar.indexCast v388
  let c4 : Index := 4#32
  ![v389.toNat, 4]
def k0_off57 (k0_t2 : Fin k0_t2_loop.trips) (k0_t6 : Fin k0_t6_loop.trips) : Fin 2 → Nat :=
  let c32_i32_180 : BitVec 32 := 32#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v429 : BitVec 32 := Scalar.muli c32_i32_180 v198
  let v430 : Index := Scalar.indexCast v429
  let c640 : Index := 640#32
  ![v430.toNat, 640]
def k0_off58 (k0_t2 : Fin k0_t2_loop.trips) (k0_t6 : Fin k0_t6_loop.trips) (c0_i32_182 : BitVec 32) : Fin 2 → Nat :=
  let c16_i32_181 : BitVec 32 := 16#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v433 : BitVec 32 := Scalar.muli c16_i32_181 v198
  let v434 : BitVec 32 := Scalar.addi v433 c0_i32_182
  let v435 : Index := Scalar.indexCast v434
  let c5 : Index := 5#32
  ![v435.toNat, 5]
def k0_off59 (k0_t2 : Fin k0_t2_loop.trips) (k0_t6 : Fin k0_t6_loop.trips) : Fin 2 → Nat :=
  let c32_i32_197 : BitVec 32 := 32#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v475 : BitVec 32 := Scalar.muli c32_i32_197 v198
  let v476 : Index := Scalar.indexCast v475
  let c768_198 : Index := 768#32
  ![v476.toNat, 768]
def k0_off60 (k0_t2 : Fin k0_t2_loop.trips) (k0_t6 : Fin k0_t6_loop.trips) (c0_i32_200 : BitVec 32) : Fin 2 → Nat :=
  let c16_i32_199 : BitVec 32 := 16#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v479 : BitVec 32 := Scalar.muli c16_i32_199 v198
  let v480 : BitVec 32 := Scalar.addi v479 c0_i32_200
  let v481 : Index := Scalar.indexCast v480
  let c6 : Index := 6#32
  ![v481.toNat, 6]
def k0_off61 (k0_t2 : Fin k0_t2_loop.trips) (k0_t6 : Fin k0_t6_loop.trips) : Fin 2 → Nat :=
  let c32_i32_216 : BitVec 32 := 32#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v521 : BitVec 32 := Scalar.muli c32_i32_216 v198
  let v522 : Index := Scalar.indexCast v521
  let c896 : Index := 896#32
  ![v522.toNat, 896]
def k0_off62 (k0_t2 : Fin k0_t2_loop.trips) (k0_t6 : Fin k0_t6_loop.trips) (c0_i32_218 : BitVec 32) : Fin 2 → Nat :=
  let c16_i32_217 : BitVec 32 := 16#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v525 : BitVec 32 := Scalar.muli c16_i32_217 v198
  let v526 : BitVec 32 := Scalar.addi v525 c0_i32_218
  let v527 : Index := Scalar.indexCast v526
  let c7 : Index := 7#32
  ![v527.toNat, 7]
def k0_cond5 (i : grid0.Coords) : BitVec 1 :=
  let arg0 : BitVec 32 := BitVec.ofNat 32 (i 0).val
  let c6_i32_11 : BitVec 32 := 6#32
  let v21 : BitVec 1 := Scalar.cmpi .eq arg0 c6_i32_11
  let v22 : BitVec 32 := Scalar.extui v21
  let c0_i32_12 : BitVec 32 := 0#32
  let v23 : BitVec 1 := Scalar.cmpi .ne v22 c0_i32_12
  v23

@[reducible] def k0_t7_loop : Scf.Loop 32 :=
  let c0_i32_13 : BitVec 32 := 0#32
  let c4_i32 : BitVec 32 := 4#32
  let v24 : BitVec 32 := Scalar.addi c0_i32_13 c4_i32
  let c1_i32_14 : BitVec 32 := 1#32
  ⟨c0_i32_13, v24, c1_i32_14⟩
@[reducible] def k0_t8_loop : Scf.Loop 32 :=
  let c0_i32_17 : BitVec 32 := 0#32
  let c48_i32 : BitVec 32 := 48#32
  let v27 : BitVec 32 := Scalar.addi c0_i32_17 c48_i32
  let c1_i32_18 : BitVec 32 := 1#32
  ⟨c0_i32_17, v27, c1_i32_18⟩
def k0_off63 (i : grid0.Coords) (k0_t7 : Fin k0_t7_loop.trips) (k0_t8 : Fin k0_t8_loop.trips) : Fin 2 → Nat :=
  let arg1 : BitVec 32 := BitVec.ofNat 32 (i 1).val
  let c8_i32_81 : BitVec 32 := 8#32
  let v195 : BitVec 32 := Scalar.muli arg1 c8_i32_81
  let c2_i32 : BitVec 32 := 2#32
  let c0_i32_13 : BitVec 32 := 0#32
  let c1_i32_14 : BitVec 32 := 1#32
  let arg12 : BitVec 32 := Scf.iv c0_i32_13 c1_i32_14 k0_t7
  let v25 : BitVec 32 := Scalar.muli c2_i32 arg12
  let c0_i32_16 : BitVec 32 := 0#32
  let v26 : BitVec 32 := Scalar.addi v25 c0_i32_16
  let v196 : BitVec 32 := Scalar.addi v195 v26
  let v197 : Index := Scalar.indexCast v196
  let c0_i32_17 : BitVec 32 := 0#32
  let c1_i32_18 : BitVec 32 := 1#32
  let arg13 : BitVec 32 := Scf.iv c0_i32_17 c1_i32_18 k0_t8
  let v198 : Index := Scalar.indexCast arg13
  ![v197.toNat, v198.toNat]
def k0_off64 (i : grid0.Coords) (v199 : BitVec 32) (c0_i32_82 : BitVec 32) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.andi v0 c1_i32_0
  let c36882_i32 : BitVec 32 := 36882#32
  let v2 : BitVec 32 := Scalar.muli v1 c36882_i32
  let v200 : BitVec 32 := Scalar.addi v2 v199
  let v201 : BitVec 32 := Scalar.addi v200 c0_i32_82
  let v202 : Index := Scalar.indexCast v201
  let c0_83 : Index := 0#32
  ![v202.toNat, 0]

def k0_chk3 (i : grid0.Coords) (v199 : BitVec 32) : Prop :=
  (∀ (k0_h5 : k0_cond5 i = 1#1), ∀ (r : Fin 2), ∀ a, (k0_off64 i v199 (BitVec.ofNat 32 (9 * r.val))) a + S8x128.size a ≤ S73764x128.size a)
theorem k0_off64_inb : ∀ (i : grid0.Coords) (v199 : BitVec 32) (k0_hw3 : k0_chk3 i v199), ∀ (k0_h5 : k0_cond5 i = 1#1), ∀ (r : Fin 2), ∀ a, (k0_off64 i v199 (BitVec.ofNat 32 (9 * r.val))) a + S8x128.size a ≤ S73764x128.size a := fun i v199 k0_hw3 k0_h5 r => k0_hw3 k0_h5 r

def k0_off65 (k0_t8 : Fin k0_t8_loop.trips) (c0_i32_85 : BitVec 32) : Fin 2 → Nat :=
  let c2_i32_84 : BitVec 32 := 2#32
  let c0_i32_17 : BitVec 32 := 0#32
  let c1_i32_18 : BitVec 32 := 1#32
  let arg13 : BitVec 32 := Scf.iv c0_i32_17 c1_i32_18 k0_t8
  let v204 : BitVec 32 := Scalar.muli c2_i32_84 arg13
  let v205 : BitVec 32 := Scalar.addi v204 c0_i32_85
  let v206 : Index := Scalar.indexCast v205
  let c0_86 : Index := 0#32
  ![v206.toNat, 0]
def k0_off66 (i : grid0.Coords) (k0_t7 : Fin k0_t7_loop.trips) (c0_i32_16 : BitVec 32) : Fin 2 → Nat :=
  let arg1 : BitVec 32 := BitVec.ofNat 32 (i 1).val
  let c8_i32 : BitVec 32 := 8#32
  let v28 : BitVec 32 := Scalar.muli arg1 c8_i32
  let c2_i32 : BitVec 32 := 2#32
  let c0_i32_13 : BitVec 32 := 0#32
  let c1_i32_14 : BitVec 32 := 1#32
  let arg12 : BitVec 32 := Scf.iv c0_i32_13 c1_i32_14 k0_t7
  let v25 : BitVec 32 := Scalar.muli c2_i32 arg12
  let v26 : BitVec 32 := Scalar.addi v25 c0_i32_16
  let v29 : BitVec 32 := Scalar.addi v28 v26
  let c96_i32 : BitVec 32 := 96#32
  let v30 : BitVec 32 := Scalar.muli v29 c96_i32
  let v31 : Index := Scalar.indexCast v30
  let c0 : Index := 0#32
  ![v31.toNat, 0]
def k0_off67 (k0_t7 : Fin k0_t7_loop.trips) (c0_i32_16 : BitVec 32) : Fin 2 → Nat :=
  let c2_i32 : BitVec 32 := 2#32
  let c0_i32_13 : BitVec 32 := 0#32
  let c1_i32_14 : BitVec 32 := 1#32
  let arg12 : BitVec 32 := Scf.iv c0_i32_13 c1_i32_14 k0_t7
  let v25 : BitVec 32 := Scalar.muli c2_i32 arg12
  let v26 : BitVec 32 := Scalar.addi v25 c0_i32_16
  let c32_i32 : BitVec 32 := 32#32
  let v45 : BitVec 32 := Scalar.muli v26 c32_i32
  let v46 : Index := Scalar.indexCast v45
  let c0_23 : Index := 0#32
  ![v46.toNat, 0]
def k0_off68 (k0_t7 : Fin k0_t7_loop.trips) (c0_i32_16 : BitVec 32) : Fin 2 → Nat :=
  let c2_i32 : BitVec 32 := 2#32
  let c0_i32_13 : BitVec 32 := 0#32
  let c1_i32_14 : BitVec 32 := 1#32
  let arg12 : BitVec 32 := Scf.iv c0_i32_13 c1_i32_14 k0_t7
  let v25 : BitVec 32 := Scalar.muli c2_i32 arg12
  let v26 : BitVec 32 := Scalar.addi v25 c0_i32_16
  let c32_i32_28 : BitVec 32 := 32#32
  let v64 : BitVec 32 := Scalar.muli v26 c32_i32_28
  let v65 : Index := Scalar.indexCast v64
  let c256 : Index := 256#32
  ![v65.toNat, 256]
def k0_off69 (k0_t7 : Fin k0_t7_loop.trips) (c0_i32_16 : BitVec 32) : Fin 2 → Nat :=
  let c2_i32 : BitVec 32 := 2#32
  let c0_i32_13 : BitVec 32 := 0#32
  let c1_i32_14 : BitVec 32 := 1#32
  let arg12 : BitVec 32 := Scf.iv c0_i32_13 c1_i32_14 k0_t7
  let v25 : BitVec 32 := Scalar.muli c2_i32 arg12
  let v26 : BitVec 32 := Scalar.addi v25 c0_i32_16
  let c32_i32_33 : BitVec 32 := 32#32
  let v83 : BitVec 32 := Scalar.muli v26 c32_i32_33
  let v84 : Index := Scalar.indexCast v83
  let c512 : Index := 512#32
  ![v84.toNat, 512]
def k0_off70 (k0_t7 : Fin k0_t7_loop.trips) (c0_i32_16 : BitVec 32) : Fin 2 → Nat :=
  let c2_i32 : BitVec 32 := 2#32
  let c0_i32_13 : BitVec 32 := 0#32
  let c1_i32_14 : BitVec 32 := 1#32
  let arg12 : BitVec 32 := Scf.iv c0_i32_13 c1_i32_14 k0_t7
  let v25 : BitVec 32 := Scalar.muli c2_i32 arg12
  let v26 : BitVec 32 := Scalar.addi v25 c0_i32_16
  let c32_i32_38 : BitVec 32 := 32#32
  let v102 : BitVec 32 := Scalar.muli v26 c32_i32_38
  let v103 : Index := Scalar.indexCast v102
  let c768 : Index := 768#32
  ![v103.toNat, 768]
@[reducible] def k0_t9_loop : Scf.Loop 32 :=
  let c0_i32_42 : BitVec 32 := 0#32
  let c48_i32_43 : BitVec 32 := 48#32
  let v112 : BitVec 32 := Scalar.addi c0_i32_42 c48_i32_43
  let c1_i32_44 : BitVec 32 := 1#32
  ⟨c0_i32_42, v112, c1_i32_44⟩
def k0_off71 (i : grid0.Coords) (k0_t7 : Fin k0_t7_loop.trips) (k0_t9 : Fin k0_t9_loop.trips) : Fin 2 → Nat :=
  let arg1 : BitVec 32 := BitVec.ofNat 32 (i 1).val
  let c8_i32_81 : BitVec 32 := 8#32
  let v195 : BitVec 32 := Scalar.muli arg1 c8_i32_81
  let c2_i32_40 : BitVec 32 := 2#32
  let c0_i32_13 : BitVec 32 := 0#32
  let c1_i32_14 : BitVec 32 := 1#32
  let arg12 : BitVec 32 := Scf.iv c0_i32_13 c1_i32_14 k0_t7
  let v110 : BitVec 32 := Scalar.muli c2_i32_40 arg12
  let c1_i32_41 : BitVec 32 := 1#32
  let v111 : BitVec 32 := Scalar.addi v110 c1_i32_41
  let v196 : BitVec 32 := Scalar.addi v195 v111
  let v197 : Index := Scalar.indexCast v196
  let c0_i32_42 : BitVec 32 := 0#32
  let c1_i32_44 : BitVec 32 := 1#32
  let arg13 : BitVec 32 := Scf.iv c0_i32_42 c1_i32_44 k0_t9
  let v198 : Index := Scalar.indexCast arg13
  ![v197.toNat, v198.toNat]
def k0_off72 (i : grid0.Coords) (v199 : BitVec 32) (c0_i32_82 : BitVec 32) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.andi v0 c1_i32_0
  let c36882_i32 : BitVec 32 := 36882#32
  let v2 : BitVec 32 := Scalar.muli v1 c36882_i32
  let v200 : BitVec 32 := Scalar.addi v2 v199
  let v201 : BitVec 32 := Scalar.addi v200 c0_i32_82
  let v202 : Index := Scalar.indexCast v201
  let c0_83 : Index := 0#32
  ![v202.toNat, 0]

def k0_chk4 (i : grid0.Coords) (v199 : BitVec 32) : Prop :=
  (∀ (k0_h5 : k0_cond5 i = 1#1), ∀ (r : Fin 2), ∀ a, (k0_off72 i v199 (BitVec.ofNat 32 (9 * r.val))) a + S8x128.size a ≤ S73764x128.size a)
theorem k0_off72_inb : ∀ (i : grid0.Coords) (v199 : BitVec 32) (k0_hw4 : k0_chk4 i v199), ∀ (k0_h5 : k0_cond5 i = 1#1), ∀ (r : Fin 2), ∀ a, (k0_off72 i v199 (BitVec.ofNat 32 (9 * r.val))) a + S8x128.size a ≤ S73764x128.size a := fun i v199 k0_hw4 k0_h5 r => k0_hw4 k0_h5 r

def k0_off73 (k0_t9 : Fin k0_t9_loop.trips) (c0_i32_85 : BitVec 32) : Fin 2 → Nat :=
  let c2_i32_84 : BitVec 32 := 2#32
  let c0_i32_42 : BitVec 32 := 0#32
  let c1_i32_44 : BitVec 32 := 1#32
  let arg13 : BitVec 32 := Scf.iv c0_i32_42 c1_i32_44 k0_t9
  let v204 : BitVec 32 := Scalar.muli c2_i32_84 arg13
  let v205 : BitVec 32 := Scalar.addi v204 c0_i32_85
  let v206 : Index := Scalar.indexCast v205
  let c0_86 : Index := 0#32
  ![v206.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg0 c6_i32
  let c7_i32 : BitVec 32 := 7#32
  let v1 : BitVec 32 := Scalar.select v0 arg1 c7_i32
  let c5_i32 : BitVec 32 := 5#32
  let v2 : BitVec 32 := Scalar.minsi arg0 c5_i32
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S6144x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
abbrev S64x128 : Shape := ⟨2, ![64, 128]⟩
abbrev S2048x6144 : Shape := ⟨2, ![2048, 6144]⟩
abbrev S8192x6144 : Shape := ⟨2, ![8192, 6144]⟩
abbrev S8192x128 : Shape := ⟨2, ![8192, 128]⟩
abbrev S6144x256 : Shape := ⟨2, ![6144, 256]⟩
abbrev S256x1024 : Shape := ⟨2, ![256, 1024]⟩
abbrev S1024x1024 : Shape := ⟨2, ![1024, 1024]⟩
abbrev S1024x128 : Shape := ⟨2, ![1024, 128]⟩
abbrev S73764x128 : Shape := ⟨2, ![73764, 128]⟩
abbrev S73764x2x128 : Shape := ⟨3, ![73764, 2, 128]⟩
abbrev S73764x1x128 : Shape := ⟨3, ![73764, 1, 128]⟩
abbrev S800x128 : Shape := ⟨2, ![800, 128]⟩
abbrev S800x2x128 : Shape := ⟨3, ![800, 2, 128]⟩
abbrev S800x1x128 : Shape := ⟨3, ![800, 1, 128]⟩
abbrev S512x128 : Shape := ⟨2, ![512, 128]⟩
abbrev S512x2x128 : Shape := ⟨3, ![512, 2, 128]⟩
abbrev S512x1x128 : Shape := ⟨3, ![512, 1, 128]⟩
abbrev S18x128 : Shape := ⟨2, ![18, 128]⟩
abbrev S18x2x128 : Shape := ⟨3, ![18, 2, 128]⟩
abbrev S18x1x128 : Shape := ⟨3, ![18, 1, 128]⟩
abbrev S32x128 : Shape := ⟨2, ![32, 128]⟩
abbrev S8x1 : Shape := ⟨2, ![8, 1]⟩
abbrev S8x2x1 : Shape := ⟨3, ![8, 2, 1]⟩
abbrev S8x1x1 : Shape := ⟨3, ![8, 1, 1]⟩
abbrev S16x1 : Shape := ⟨2, ![16, 1]⟩
abbrev S16x128 : Shape := ⟨2, ![16, 128]⟩
abbrev S8x128 : Shape := ⟨2, ![8, 128]⟩
abbrev S8x2x128 : Shape := ⟨3, ![8, 2, 128]⟩
abbrev S8x1x128 : Shape := ⟨3, ![8, 1, 128]⟩
abbrev S1x1 : Shape := ⟨2, ![1, 1]⟩
abbrev S96x256 : Shape := ⟨2, ![96, 256]⟩
abbrev S96x192 : Shape := ⟨2, ![96, 192]⟩
abbrev S96x128 : Shape := ⟨2, ![96, 128]⟩
abbrev S96x2x128 : Shape := ⟨3, ![96, 2, 128]⟩
abbrev S96x1x128 : Shape := ⟨3, ![96, 1, 128]⟩
abbrev S192x128 : Shape := ⟨2, ![192, 128]⟩
abbrev S192x256 : Shape := ⟨2, ![192, 256]⟩
abbrev S32x256 : Shape := ⟨2, ![32, 256]⟩

abbrev nBuf : Space → Nat
  | .hbm => 5
  | .vmem => 13
  | .smem => 1
  | _ => 0

abbrev bufTy : (tb : Table) → Fin (tcTables nBuf tb) → BufTy
  | .hbm, ⟨0, _⟩ => ⟨S2048x6144, .bf16⟩
  | .hbm, ⟨1, _⟩ => ⟨S8192x6144, .fp8e4m3⟩
  | .hbm, ⟨2, _⟩ => ⟨S8192x128, .bf16⟩
  | .hbm, ⟨3, _⟩ => ⟨S6144x256, .bf16⟩
  | .hbm, ⟨4, _⟩ => ⟨S2048x6144, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .fp8e4m3⟩
  | .local _ .vmem, ⟨3, _⟩ => ⟨S1024x1024, .fp8e4m3⟩
  | .local _ .vmem, ⟨4, _⟩ => ⟨S1024x128, .bf16⟩
  | .local _ .vmem, ⟨5, _⟩ => ⟨S1024x128, .bf16⟩
  | .local _ .vmem, ⟨6, _⟩ => ⟨S6144x256, .bf16⟩
  | .local _ .vmem, ⟨7, _⟩ => ⟨S256x1024, .bf16⟩
  | .local _ .vmem, ⟨8, _⟩ => ⟨S256x1024, .bf16⟩
  | .local _ .vmem, ⟨9, _⟩ => ⟨S73764x2x128, .bf16⟩
  | .local _ .vmem, ⟨10, _⟩ => ⟨S800x2x128, .bf16⟩
  | .local _ .vmem, ⟨11, _⟩ => ⟨S800x2x128, .bf16⟩
  | .local _ .vmem, ⟨12, _⟩ => ⟨S512x2x128, .bf16⟩
  | .local _ .smem, ⟨0, _⟩ => ⟨S64x128, .i32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![7, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg0 : BitVec 32 := BitVec.ofNat 32 (i 0).val
  let c0_i32_6 : BitVec 32 := 0#32
  let v13 : BitVec 1 := Scalar.cmpi .eq arg0 c0_i32_6
  let v14 : BitVec 32 := Scalar.extui v13
  let c0_i32_7 : BitVec 32 := 0#32
  let v15 : BitVec 1 := Scalar.cmpi .ne v14 c0_i32_7
  v15

@[reducible] def k0_t1_loop : Scf.Loop 32 :=
  let c0_i32_13 : BitVec 32 := 0#32
  let c32_i32 : BitVec 32 := 32#32
  let v24 : BitVec 32 := Scalar.addi c0_i32_13 c32_i32
  let c1_i32_14 : BitVec 32 := 1#32
  ⟨c0_i32_13, v24, c1_i32_14⟩
def k0_off1 (k0_t1 : Fin k0_t1_loop.trips) : Fin 2 → Nat :=
  let c32_i32_16 : BitVec 32 := 32#32
  let c0_i32_13 : BitVec 32 := 0#32
  let c1_i32_14 : BitVec 32 := 1#32
  let arg12 : BitVec 32 := Scf.iv c0_i32_13 c1_i32_14 k0_t1
  let v25 : BitVec 32 := Scalar.muli c32_i32_16 arg12
  let v26 : Index := Scalar.indexCast v25
  let c0 : Index := 0#32
  ![v26.toNat, 0]
def k0_off2 (k0_t1 : Fin k0_t1_loop.trips) (c0_i32_17 : BitVec 32) : Fin 3 → Nat :=
  let c16_i32 : BitVec 32 := 16#32
  let c0_i32_13 : BitVec 32 := 0#32
  let c1_i32_14 : BitVec 32 := 1#32
  let arg12 : BitVec 32 := Scf.iv c0_i32_13 c1_i32_14 k0_t1
  let v29 : BitVec 32 := Scalar.muli c16_i32 arg12
  let v30 : BitVec 32 := Scalar.addi v29 c0_i32_17
  let v31 : Index := Scalar.indexCast v30
  let c0_18 : Index := 0#32
  ![v31.toNat, 0, 0]
def k0_off3 (i : grid0.Coords) (k0_t1 : Fin k0_t1_loop.trips) (c0_i32_20 : BitVec 32) (c0_i32_21 : BitVec 32) : Fin 3 → Nat :=
  let arg0 : BitVec 32 := BitVec.ofNat 32 (i 0).val
  let c1_i32_1 : BitVec 32 := 1#32
  let v3 : BitVec 32 := Scalar.andi arg0 c1_i32_1
  let c36882_i32_2 : BitVec 32 := 36882#32
  let v4 : BitVec 32 := Scalar.muli v3 c36882_i32_2
  let arg1 : BitVec 32 := BitVec.ofNat 32 (i 1).val
  let c512_i32 : BitVec 32 := 512#32
  let v39 : BitVec 32 := Scalar.muli arg1 c512_i32
  let c16_i32_19 : BitVec 32 := 16#32
  let c0_i32_13 : BitVec 32 := 0#32
  let c1_i32_14 : BitVec 32 := 1#32
  let arg12 : BitVec 32 := Scf.iv c0_i32_13 c1_i32_14 k0_t1
  let v40 : BitVec 32 := Scalar.muli c16_i32_19 arg12
  let v41 : BitVec 32 := Scalar.addi v39 v40
  let v42 : BitVec 32 := Scalar.addi v41 c0_i32_20
  let c9_i32 : BitVec 32 := 9#32
  let v43 : BitVec 32 := Scalar.muli v42 c9_i32
  let v44 : BitVec 32 := Scalar.addi v4 v43
  let v45 : BitVec 32 := Scalar.addi v44 c0_i32_21
  let v46 : Index := Scalar.indexCast v45
  let c0_22 : Index := 0#32
  ![v46.toNat, 0, 0]
def k0_off4 (k0_t1 : Fin k0_t1_loop.trips) : Fin 2 → Nat :=
  let c32_i32_31 : BitVec 32 := 32#32
  let c0_i32_13 : BitVec 32 := 0#32
  let c1_i32_14 : BitVec 32 := 1#32
  let arg12 : BitVec 32 := Scf.iv c0_i32_13 c1_i32_14 k0_t1
  let v71 : BitVec 32 := Scalar.muli c32_i32_31 arg12
  let v72 : Index := Scalar.indexCast v71
  let c128 : Index := 128#32
  ![v72.toNat, 128]
def k0_off5 (k0_t1 : Fin k0_t1_loop.trips) (c0_i32_33 : BitVec 32) : Fin 3 → Nat :=
  let c16_i32_32 : BitVec 32 := 16#32
  let c0_i32_13 : BitVec 32 := 0#32
  let c1_i32_14 : BitVec 32 := 1#32
  let arg12 : BitVec 32 := Scf.iv c0_i32_13 c1_i32_14 k0_t1
  let v75 : BitVec 32 := Scalar.muli c16_i32_32 arg12
  let v76 : BitVec 32 := Scalar.addi v75 c0_i32_33
  let v77 : Index := Scalar.indexCast v76
  let c1 : Index := 1#32
  ![v77.toNat, 0, 1]
def k0_off6 (k0_t1 : Fin k0_t1_loop.trips) : Fin 2 → Nat :=
  let c32_i32_49 : BitVec 32 := 32#32
  let c0_i32_13 : BitVec 32 := 0#32
  let c1_i32_14 : BitVec 32 := 1#32
  let arg12 : BitVec 32 := Scf.iv c0_i32_13 c1_i32_14 k0_t1
  let v117 : BitVec 32 := Scalar.muli c32_i32_49 arg12
  let v118 : Index := Scalar.indexCast v117
  let c256 : Index := 256#32
  ![v118.toNat, 256]
def k0_off7 (k0_t1 : Fin k0_t1_loop.trips) (c0_i32_51 : BitVec 32) : Fin 3 → Nat :=
  let c16_i32_50 : BitVec 32 := 16#32
  let c0_i32_13 : BitVec 32 := 0#32
  let c1_i32_14 : BitVec 32 := 1#32
  let arg12 : BitVec 32 := Scf.iv c0_i32_13 c1_i32_14 k0_t1
  let v121 : BitVec 32 := Scalar.muli c16_i32_50 arg12
  let v122 : BitVec 32 := Scalar.addi v121 c0_i32_51
  let v123 : Index := Scalar.indexCast v122
  let c2 : Index := 2#32
  ![v123.toNat, 0, 2]
def k0_off8 (k0_t1 : Fin k0_t1_loop.trips) : Fin 2 → Nat :=
  let c32_i32_66 : BitVec 32 := 32#32
  let c0_i32_13 : BitVec 32 := 0#32
  let c1_i32_14 : BitVec 32 := 1#32
  let arg12 : BitVec 32 := Scf.iv c0_i32_13 c1_i32_14 k0_t1
  let v163 : BitVec 32 := Scalar.muli c32_i32_66 arg12
  let v164 : Index := Scalar.indexCast v163
  let c384 : Index := 384#32
  ![v164.toNat, 384]
def k0_off9 (k0_t1 : Fin k0_t1_loop.trips) (c0_i32_68 : BitVec 32) : Fin 3 → Nat :=
  let c16_i32_67 : BitVec 32 := 16#32
  let c0_i32_13 : BitVec 32 := 0#32
  let c1_i32_14 : BitVec 32 := 1#32
  let arg12 : BitVec 32 := Scf.iv c0_i32_13 c1_i32_14 k0_t1
  let v167 : BitVec 32 := Scalar.muli c16_i32_67 arg12
  let v168 : BitVec 32 := Scalar.addi v167 c0_i32_68
  let v169 : Index := Scalar.indexCast v168
  let c3 : Index := 3#32
  ![v169.toNat, 0, 3]
def k0_off10 (k0_t1 : Fin k0_t1_loop.trips) : Fin 2 → Nat :=
  let c32_i32_83 : BitVec 32 := 32#32
  let c0_i32_13 : BitVec 32 := 0#32
  let c1_i32_14 : BitVec 32 := 1#32
  let arg12 : BitVec 32 := Scf.iv c0_i32_13 c1_i32_14 k0_t1
  let v209 : BitVec 32 := Scalar.muli c32_i32_83 arg12
  let v210 : Index := Scalar.indexCast v209
  let c512 : Index := 512#32
  ![v210.toNat, 512]
def k0_off11 (k0_t1 : Fin k0_t1_loop.trips) (c0_i32_85 : BitVec 32) : Fin 3 → Nat :=
  let c16_i32_84 : BitVec 32 := 16#32
  let c0_i32_13 : BitVec 32 := 0#32
  let c1_i32_14 : BitVec 32 := 1#32
  let arg12 : BitVec 32 := Scf.iv c0_i32_13 c1_i32_14 k0_t1
  let v213 : BitVec 32 := Scalar.muli c16_i32_84 arg12
  let v214 : BitVec 32 := Scalar.addi v213 c0_i32_85
  let v215 : Index := Scalar.indexCast v214
  let c4 : Index := 4#32
  ![v215.toNat, 0, 4]
def k0_off12 (k0_t1 : Fin k0_t1_loop.trips) : Fin 2 → Nat :=
  let c32_i32_100 : BitVec 32 := 32#32
  let c0_i32_13 : BitVec 32 := 0#32
  let c1_i32_14 : BitVec 32 := 1#32
  let arg12 : BitVec 32 := Scf.iv c0_i32_13 c1_i32_14 k0_t1
  let v255 : BitVec 32 := Scalar.muli c32_i32_100 arg12
  let v256 : Index := Scalar.indexCast v255
  let c640 : Index := 640#32
  ![v256.toNat, 640]
def k0_off13 (k0_t1 : Fin k0_t1_loop.trips) (c0_i32_102 : BitVec 32) : Fin 3 → Nat :=
  let c16_i32_101 : BitVec 32 := 16#32
  let c0_i32_13 : BitVec 32 := 0#32
  let c1_i32_14 : BitVec 32 := 1#32
  let arg12 : BitVec 32 := Scf.iv c0_i32_13 c1_i32_14 k0_t1
  let v259 : BitVec 32 := Scalar.muli c16_i32_101 arg12
  let v260 : BitVec 32 := Scalar.addi v259 c0_i32_102
  let v261 : Index := Scalar.indexCast v260
  let c5 : Index := 5#32
  ![v261.toNat, 0, 5]
def k0_off14 (k0_t1 : Fin k0_t1_loop.trips) : Fin 2 → Nat :=
  let c32_i32_117 : BitVec 32 := 32#32
  let c0_i32_13 : BitVec 32 := 0#32
  let c1_i32_14 : BitVec 32 := 1#32
  let arg12 : BitVec 32 := Scf.iv c0_i32_13 c1_i32_14 k0_t1
  let v301 : BitVec 32 := Scalar.muli c32_i32_117 arg12
  let v302 : Index := Scalar.indexCast v301
  let c768 : Index := 768#32
  ![v302.toNat, 768]
def k0_off15 (k0_t1 : Fin k0_t1_loop.trips) (c0_i32_119 : BitVec 32) : Fin 3 → Nat :=
  let c16_i32_118 : BitVec 32 := 16#32
  let c0_i32_13 : BitVec 32 := 0#32
  let c1_i32_14 : BitVec 32 := 1#32
  let arg12 : BitVec 32 := Scf.iv c0_i32_13 c1_i32_14 k0_t1
  let v305 : BitVec 32 := Scalar.muli c16_i32_118 arg12
  let v306 : BitVec 32 := Scalar.addi v305 c0_i32_119
  let v307 : Index := Scalar.indexCast v306
  let c6 : Index := 6#32
  ![v307.toNat, 0, 6]
def k0_off16 (k0_t1 : Fin k0_t1_loop.trips) : Fin 2 → Nat :=
  let c32_i32_135 : BitVec 32 := 32#32
  let c0_i32_13 : BitVec 32 := 0#32
  let c1_i32_14 : BitVec 32 := 1#32
  let arg12 : BitVec 32 := Scf.iv c0_i32_13 c1_i32_14 k0_t1
  let v347 : BitVec 32 := Scalar.muli c32_i32_135 arg12
  let v348 : Index := Scalar.indexCast v347
  let c896 : Index := 896#32
  ![v348.toNat, 896]
def k0_off17 (k0_t1 : Fin k0_t1_loop.trips) (c0_i32_137 : BitVec 32) : Fin 3 → Nat :=
  let c16_i32_136 : BitVec 32 := 16#32
  let c0_i32_13 : BitVec 32 := 0#32
  let c1_i32_14 : BitVec 32 := 1#32
  let arg12 : BitVec 32 := Scf.iv c0_i32_13 c1_i32_14 k0_t1
  let v351 : BitVec 32 := Scalar.muli c16_i32_136 arg12
  let v352 : BitVec 32 := Scalar.addi v351 c0_i32_137
  let v353 : Index := Scalar.indexCast v352
  let c7 : Index := 7#32
  ![v353.toNat, 0, 7]
def k0_cond4 (i : grid0.Coords) : BitVec 1 :=
  let arg0 : BitVec 32 := BitVec.ofNat 32 (i 0).val
  let c0_i32_8 : BitVec 32 := 0#32
  let v16 : BitVec 1 := Scalar.cmpi .sgt arg0 c0_i32_8
  let c6_i32_9 : BitVec 32 := 6#32
  let v17 : BitVec 1 := Scalar.cmpi .slt arg0 c6_i32_9
  let v18 : BitVec 1 := Scalar.andi v16 v17
  let v19 : BitVec 32 := Scalar.extui v18
  let c0_i32_10 : BitVec 32 := 0#32
  let v20 : BitVec 1 := Scalar.cmpi .ne v19 c0_i32_10
  v20

@[reducible] def k0_t2_loop : Scf.Loop 32 :=
  let c0_i32_13 : BitVec 32 := 0#32
  let c4_i32 : BitVec 32 := 4#32
  let v24 : BitVec 32 := Scalar.addi c0_i32_13 c4_i32
  let c1_i32_14 : BitVec 32 := 1#32
  ⟨c0_i32_13, v24, c1_i32_14⟩
@[reducible] def k0_t3_loop : Scf.Loop 32 :=
  let c0_i32_17 : BitVec 32 := 0#32
  let c48_i32 : BitVec 32 := 48#32
  let v27 : BitVec 32 := Scalar.addi c0_i32_17 c48_i32
  let c1_i32_18 : BitVec 32 := 1#32
  ⟨c0_i32_17, v27, c1_i32_18⟩
def k0_off18 (i : grid0.Coords) (k0_t2 : Fin k0_t2_loop.trips) (k0_t3 : Fin k0_t3_loop.trips) : Fin 2 → Nat :=
  let arg1 : BitVec 32 := BitVec.ofNat 32 (i 1).val
  let c8_i32_89 : BitVec 32 := 8#32
  let v197 : BitVec 32 := Scalar.muli arg1 c8_i32_89
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let v198 : BitVec 32 := Scalar.addi v197 v26
  let v199 : Index := Scalar.indexCast v198
  let c0_i32_17 : BitVec 32 := 0#32
  let c1_i32_18 : BitVec 32 := 1#32
  let arg13 : BitVec 32 := Scf.iv c0_i32_17 c1_i32_18 k0_t3
  let v200 : Index := Scalar.indexCast arg13
  ![v199.toNat, v200.toNat]
def k0_off19 (i : grid0.Coords) (v201 : BitVec 32) (c0_i32_90 : BitVec 32) : Fin 3 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.andi v0 c1_i32_0
  let c36882_i32 : BitVec 32 := 36882#32
  let v2 : BitVec 32 := Scalar.muli v1 c36882_i32
  let v202 : BitVec 32 := Scalar.addi v2 v201
  let v203 : BitVec 32 := Scalar.addi v202 c0_i32_90
  let v204 : Index := Scalar.indexCast v203
  let c0_91 : Index := 0#32
  ![v204.toNat, 0, 0]

def k0_chk1 (i : grid0.Coords) (v201 : BitVec 32) : Prop :=
  (∀ (k0_h4 : k0_cond4 i = 1#1), ∀ (r : Fin 2), ∀ a, (k0_off19 i v201 (BitVec.ofNat 32 (9 * r.val))) a + S8x2x128.size a ≤ S73764x2x128.size a)
theorem k0_off19_inb : ∀ (i : grid0.Coords) (v201 : BitVec 32) (k0_hw1 : k0_chk1 i v201), ∀ (k0_h4 : k0_cond4 i = 1#1), ∀ (r : Fin 2), ∀ a, (k0_off19 i v201 (BitVec.ofNat 32 (9 * r.val))) a + S8x2x128.size a ≤ S73764x2x128.size a := fun i v201 k0_hw1 k0_h4 r => k0_hw1 k0_h4 r

def k0_off20 (k0_t3 : Fin k0_t3_loop.trips) (c0_i32_93 : BitVec 32) : Fin 3 → Nat :=
  let c2_i32_92 : BitVec 32 := 2#32
  let c0_i32_17 : BitVec 32 := 0#32
  let c1_i32_18 : BitVec 32 := 1#32
  let arg13 : BitVec 32 := Scf.iv c0_i32_17 c1_i32_18 k0_t3
  let v206 : BitVec 32 := Scalar.muli c2_i32_92 arg13
  let v207 : BitVec 32 := Scalar.addi v206 c0_i32_93
  let v208 : Index := Scalar.indexCast v207
  let c0_94 : Index := 0#32
  ![v208.toNat, 0, 0]
def k0_off21 (i : grid0.Coords) (k0_t2 : Fin k0_t2_loop.trips) (c0_i32_16 : BitVec 32) : Fin 2 → Nat :=
  let arg1 : BitVec 32 := BitVec.ofNat 32 (i 1).val
  let c8_i32 : BitVec 32 := 8#32
  let v28 : BitVec 32 := Scalar.muli arg1 c8_i32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let v26 : BitVec 32 := Scalar.addi v25 c0_i32_16
  let v29 : BitVec 32 := Scalar.addi v28 v26
  let c96_i32 : BitVec 32 := 96#32
  let v30 : BitVec 32 := Scalar.muli v29 c96_i32
  let v31 : Index := Scalar.indexCast v30
  let c0 : Index := 0#32
  ![v31.toNat, 0]
def k0_off22 (k0_t2 : Fin k0_t2_loop.trips) (c0_i32_16 : BitVec 32) : Fin 2 → Nat :=
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let v26 : BitVec 32 := Scalar.addi v25 c0_i32_16
  let c32_i32 : BitVec 32 := 32#32
  let v45 : BitVec 32 := Scalar.muli v26 c32_i32
  let v46 : Index := Scalar.indexCast v45
  let c0_23 : Index := 0#32
  ![v46.toNat, 0]
def k0_off23 (k0_t2 : Fin k0_t2_loop.trips) (c0_i32_16 : BitVec 32) : Fin 2 → Nat :=
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let v26 : BitVec 32 := Scalar.addi v25 c0_i32_16
  let c32_i32_28 : BitVec 32 := 32#32
  let v64 : BitVec 32 := Scalar.muli v26 c32_i32_28
  let v65 : Index := Scalar.indexCast v64
  let c256 : Index := 256#32
  ![v65.toNat, 256]
def k0_off24 (k0_t2 : Fin k0_t2_loop.trips) (c0_i32_16 : BitVec 32) : Fin 2 → Nat :=
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let v26 : BitVec 32 := Scalar.addi v25 c0_i32_16
  let c32_i32_33 : BitVec 32 := 32#32
  let v83 : BitVec 32 := Scalar.muli v26 c32_i32_33
  let v84 : Index := Scalar.indexCast v83
  let c512 : Index := 512#32
  ![v84.toNat, 512]
def k0_off25 (k0_t2 : Fin k0_t2_loop.trips) (c0_i32_16 : BitVec 32) : Fin 2 → Nat :=
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let v26 : BitVec 32 := Scalar.addi v25 c0_i32_16
  let c32_i32_38 : BitVec 32 := 32#32
  let v102 : BitVec 32 := Scalar.muli v26 c32_i32_38
  let v103 : Index := Scalar.indexCast v102
  let c768 : Index := 768#32
  ![v103.toNat, 768]
@[reducible] def k0_t4_loop : Scf.Loop 32 :=
  let c0_i32_40 : BitVec 32 := 0#32
  let c4_i32_41 : BitVec 32 := 4#32
  let v110 : BitVec 32 := Scalar.addi c0_i32_40 c4_i32_41
  let c1_i32_42 : BitVec 32 := 1#32
  ⟨c0_i32_40, v110, c1_i32_42⟩
def k0_off26 (k0_t2 : Fin k0_t2_loop.trips) (k0_t4 : Fin k0_t4_loop.trips) : Fin 2 → Nat :=
  let c32_i32_90 : BitVec 32 := 32#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v199 : BitVec 32 := Scalar.muli c32_i32_90 v198
  let v200 : Index := Scalar.indexCast v199
  let c0_91 : Index := 0#32
  ![v200.toNat, 0]
def k0_off27 (k0_t2 : Fin k0_t2_loop.trips) (k0_t4 : Fin k0_t4_loop.trips) (c0_i32_92 : BitVec 32) : Fin 3 → Nat :=
  let c16_i32 : BitVec 32 := 16#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v203 : BitVec 32 := Scalar.muli c16_i32 v198
  let v204 : BitVec 32 := Scalar.addi v203 c0_i32_92
  let v205 : Index := Scalar.indexCast v204
  let c0_93 : Index := 0#32
  ![v205.toNat, 0, 0]
def k0_off28 (i : grid0.Coords) (k0_t2 : Fin k0_t2_loop.trips) (k0_t4 : Fin k0_t4_loop.trips) (c0_i32_95 : BitVec 32) (c0_i32_96 : BitVec 32) : Fin 3 → Nat :=
  let arg0 : BitVec 32 := BitVec.ofNat 32 (i 0).val
  let c1_i32_1 : BitVec 32 := 1#32
  let v3 : BitVec 32 := Scalar.andi arg0 c1_i32_1
  let c36882_i32_2 : BitVec 32 := 36882#32
  let v4 : BitVec 32 := Scalar.muli v3 c36882_i32_2
  let arg1 : BitVec 32 := BitVec.ofNat 32 (i 1).val
  let c512_i32 : BitVec 32 := 512#32
  let v213 : BitVec 32 := Scalar.muli arg1 c512_i32
  let c16_i32_94 : BitVec 32 := 16#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v214 : BitVec 32 := Scalar.muli c16_i32_94 v198
  let v215 : BitVec 32 := Scalar.addi v213 v214
  let v216 : BitVec 32 := Scalar.addi v215 c0_i32_95
  let c9_i32 : BitVec 32 := 9#32
  let v217 : BitVec 32 := Scalar.muli v216 c9_i32
  let v218 : BitVec 32 := Scalar.addi v4 v217
  let v219 : BitVec 32 := Scalar.addi v218 c0_i32_96
  let v220 : Index := Scalar.indexCast v219
  let c0_97 : Index := 0#32
  ![v220.toNat, 0, 0]
def k0_off29 (k0_t2 : Fin k0_t2_loop.trips) (k0_t4 : Fin k0_t4_loop.trips) : Fin 2 → Nat :=
  let c32_i32_107 : BitVec 32 := 32#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v245 : BitVec 32 := Scalar.muli c32_i32_107 v198
  let v246 : Index := Scalar.indexCast v245
  let c128 : Index := 128#32
  ![v246.toNat, 128]
def k0_off30 (k0_t2 : Fin k0_t2_loop.trips) (k0_t4 : Fin k0_t4_loop.trips) (c0_i32_109 : BitVec 32) : Fin 3 → Nat :=
  let c16_i32_108 : BitVec 32 := 16#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v249 : BitVec 32 := Scalar.muli c16_i32_108 v198
  let v250 : BitVec 32 := Scalar.addi v249 c0_i32_109
  let v251 : Index := Scalar.indexCast v250
  let c1 : Index := 1#32
  ![v251.toNat, 0, 1]
def k0_off31 (k0_t2 : Fin k0_t2_loop.trips) (k0_t4 : Fin k0_t4_loop.trips) : Fin 2 → Nat :=
  let c32_i32_125 : BitVec 32 := 32#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v291 : BitVec 32 := Scalar.muli c32_i32_125 v198
  let v292 : Index := Scalar.indexCast v291
  let c256_126 : Index := 256#32
  ![v292.toNat, 256]
def k0_off32 (k0_t2 : Fin k0_t2_loop.trips) (k0_t4 : Fin k0_t4_loop.trips) (c0_i32_128 : BitVec 32) : Fin 3 → Nat :=
  let c16_i32_127 : BitVec 32 := 16#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v295 : BitVec 32 := Scalar.muli c16_i32_127 v198
  let v296 : BitVec 32 := Scalar.addi v295 c0_i32_128
  let v297 : Index := Scalar.indexCast v296
  let c2 : Index := 2#32
  ![v297.toNat, 0, 2]
def k0_off33 (k0_t2 : Fin k0_t2_loop.trips) (k0_t4 : Fin k0_t4_loop.trips) : Fin 2 → Nat :=
  let c32_i32_144 : BitVec 32 := 32#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v337 : BitVec 32 := Scalar.muli c32_i32_144 v198
  let v338 : Index := Scalar.indexCast v337
  let c384 : Index := 384#32
  ![v338.toNat, 384]
def k0_off34 (k0_t2 : Fin k0_t2_loop.trips) (k0_t4 : Fin k0_t4_loop.trips) (c0_i32_146 : BitVec 32) : Fin 3 → Nat :=
  let c16_i32_145 : BitVec 32 := 16#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v341 : BitVec 32 := Scalar.muli c16_i32_145 v198
  let v342 : BitVec 32 := Scalar.addi v341 c0_i32_146
  let v343 : Index := Scalar.indexCast v342
  let c3 : Index := 3#32
  ![v343.toNat, 0, 3]
def k0_off35 (k0_t2 : Fin k0_t2_loop.trips) (k0_t4 : Fin k0_t4_loop.trips) : Fin 2 → Nat :=
  let c32_i32_161 : BitVec 32 := 32#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v383 : BitVec 32 := Scalar.muli c32_i32_161 v198
  let v384 : Index := Scalar.indexCast v383
  let c512_162 : Index := 512#32
  ![v384.toNat, 512]
def k0_off36 (k0_t2 : Fin k0_t2_loop.trips) (k0_t4 : Fin k0_t4_loop.trips) (c0_i32_164 : BitVec 32) : Fin 3 → Nat :=
  let c16_i32_163 : BitVec 32 := 16#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v387 : BitVec 32 := Scalar.muli c16_i32_163 v198
  let v388 : BitVec 32 := Scalar.addi v387 c0_i32_164
  let v389 : Index := Scalar.indexCast v388
  let c4 : Index := 4#32
  ![v389.toNat, 0, 4]
def k0_off37 (k0_t2 : Fin k0_t2_loop.trips) (k0_t4 : Fin k0_t4_loop.trips) : Fin 2 → Nat :=
  let c32_i32_180 : BitVec 32 := 32#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v429 : BitVec 32 := Scalar.muli c32_i32_180 v198
  let v430 : Index := Scalar.indexCast v429
  let c640 : Index := 640#32
  ![v430.toNat, 640]
def k0_off38 (k0_t2 : Fin k0_t2_loop.trips) (k0_t4 : Fin k0_t4_loop.trips) (c0_i32_182 : BitVec 32) : Fin 3 → Nat :=
  let c16_i32_181 : BitVec 32 := 16#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v433 : BitVec 32 := Scalar.muli c16_i32_181 v198
  let v434 : BitVec 32 := Scalar.addi v433 c0_i32_182
  let v435 : Index := Scalar.indexCast v434
  let c5 : Index := 5#32
  ![v435.toNat, 0, 5]
def k0_off39 (k0_t2 : Fin k0_t2_loop.trips) (k0_t4 : Fin k0_t4_loop.trips) : Fin 2 → Nat :=
  let c32_i32_197 : BitVec 32 := 32#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v475 : BitVec 32 := Scalar.muli c32_i32_197 v198
  let v476 : Index := Scalar.indexCast v475
  let c768_198 : Index := 768#32
  ![v476.toNat, 768]
def k0_off40 (k0_t2 : Fin k0_t2_loop.trips) (k0_t4 : Fin k0_t4_loop.trips) (c0_i32_200 : BitVec 32) : Fin 3 → Nat :=
  let c16_i32_199 : BitVec 32 := 16#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v479 : BitVec 32 := Scalar.muli c16_i32_199 v198
  let v480 : BitVec 32 := Scalar.addi v479 c0_i32_200
  let v481 : Index := Scalar.indexCast v480
  let c6 : Index := 6#32
  ![v481.toNat, 0, 6]
def k0_off41 (k0_t2 : Fin k0_t2_loop.trips) (k0_t4 : Fin k0_t4_loop.trips) : Fin 2 → Nat :=
  let c32_i32_216 : BitVec 32 := 32#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v521 : BitVec 32 := Scalar.muli c32_i32_216 v198
  let v522 : Index := Scalar.indexCast v521
  let c896 : Index := 896#32
  ![v522.toNat, 896]
def k0_off42 (k0_t2 : Fin k0_t2_loop.trips) (k0_t4 : Fin k0_t4_loop.trips) (c0_i32_218 : BitVec 32) : Fin 3 → Nat :=
  let c16_i32_217 : BitVec 32 := 16#32
  let c2_i32 : BitVec 32 := 2#32
  let c0_i32_13 : BitVec 32 := 0#32
  let c1_i32_14 : BitVec 32 := 1#32
  let arg12 : BitVec 32 := Scf.iv c0_i32_13 c1_i32_14 k0_t2
  let v25 : BitVec 32 := Scalar.muli c2_i32 arg12
  let c0_i32_16 : BitVec 32 := 0#32
  let v26 : BitVec 32 := Scalar.addi v25 c0_i32_16
  let c4_i32_89 : BitVec 32 := 4#32
  let v197 : BitVec 32 := Scalar.muli v26 c4_i32_89
  let c0_i32_40 : BitVec 32 := 0#32
  let c1_i32_42 : BitVec 32 := 1#32
  let arg13 : BitVec 32 := Scf.iv c0_i32_40 c1_i32_42 k0_t4
  let v198 : BitVec 32 := Scalar.addi v197 arg13
  let v525 : BitVec 32 := Scalar.muli c16_i32_217 v198
  let v526 : BitVec 32 := Scalar.addi v525 c0_i32_218
  let v527 : Index := Scalar.indexCast v526
  let c7 : Index := 7#32
  ![v527.toNat, 0, 7]
@[reducible] def k0_t5_loop : Scf.Loop 32 :=
  let c0_i32_46 : BitVec 32 := 0#32
  let c48_i32_47 : BitVec 32 := 48#32
  let v113 : BitVec 32 := Scalar.addi c0_i32_46 c48_i32_47
  let c1_i32_48 : BitVec 32 := 1#32
  ⟨c0_i32_46, v113, c1_i32_48⟩
def k0_off43 (i : grid0.Coords) (k0_t2 : Fin k0_t2_loop.trips) (k0_t5 : Fin k0_t5_loop.trips) : Fin 2 → Nat :=
  let arg1 : BitVec 32 := BitVec.ofNat 32 (i 1).val
  let c8_i32_89 : BitVec 32 := 8#32
  let v197 : BitVec 32 := Scalar.muli arg1 c8_i32_89
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let v198 : BitVec 32 := Scalar.addi v197 v112
  let v199 : Index := Scalar.indexCast v198
  let c0_i32_46 : BitVec 32 := 0#32
  let c1_i32_48 : BitVec 32 := 1#32
  let arg13 : BitVec 32 := Scf.iv c0_i32_46 c1_i32_48 k0_t5
  let v200 : Index := Scalar.indexCast arg13
  ![v199.toNat, v200.toNat]
def k0_off44 (i : grid0.Coords) (v201 : BitVec 32) (c0_i32_90 : BitVec 32) : Fin 3 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.andi v0 c1_i32_0
  let c36882_i32 : BitVec 32 := 36882#32
  let v2 : BitVec 32 := Scalar.muli v1 c36882_i32
  let v202 : BitVec 32 := Scalar.addi v2 v201
  let v203 : BitVec 32 := Scalar.addi v202 c0_i32_90
  let v204 : Index := Scalar.indexCast v203
  let c0_91 : Index := 0#32
  ![v204.toNat, 0, 0]

def k0_chk2 (i : grid0.Coords) (v201 : BitVec 32) : Prop :=
  (∀ (k0_h4 : k0_cond4 i = 1#1), ∀ (r : Fin 2), ∀ a, (k0_off44 i v201 (BitVec.ofNat 32 (9 * r.val))) a + S8x2x128.size a ≤ S73764x2x128.size a)
theorem k0_off44_inb : ∀ (i : grid0.Coords) (v201 : BitVec 32) (k0_hw2 : k0_chk2 i v201), ∀ (k0_h4 : k0_cond4 i = 1#1), ∀ (r : Fin 2), ∀ a, (k0_off44 i v201 (BitVec.ofNat 32 (9 * r.val))) a + S8x2x128.size a ≤ S73764x2x128.size a := fun i v201 k0_hw2 k0_h4 r => k0_hw2 k0_h4 r

def k0_off45 (k0_t5 : Fin k0_t5_loop.trips) (c0_i32_93 : BitVec 32) : Fin 3 → Nat :=
  let c2_i32_92 : BitVec 32 := 2#32
  let c0_i32_46 : BitVec 32 := 0#32
  let c1_i32_48 : BitVec 32 := 1#32
  let arg13 : BitVec 32 := Scf.iv c0_i32_46 c1_i32_48 k0_t5
  let v206 : BitVec 32 := Scalar.muli c2_i32_92 arg13
  let v207 : BitVec 32 := Scalar.addi v206 c0_i32_93
  let v208 : Index := Scalar.indexCast v207
  let c0_94 : Index := 0#32
  ![v208.toNat, 0, 0]
@[reducible] def k0_t6_loop : Scf.Loop 32 :=
  let c0_i32_85 : BitVec 32 := 0#32
  let c4_i32_86 : BitVec 32 := 4#32
  let v196 : BitVec 32 := Scalar.addi c0_i32_85 c4_i32_86
  let c1_i32_87 : BitVec 32 := 1#32
  ⟨c0_i32_85, v196, c1_i32_87⟩
def k0_off46 (k0_t2 : Fin k0_t2_loop.trips) (k0_t6 : Fin k0_t6_loop.trips) : Fin 2 → Nat :=
  let c32_i32_90 : BitVec 32 := 32#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v199 : BitVec 32 := Scalar.muli c32_i32_90 v198
  let v200 : Index := Scalar.indexCast v199
  let c0_91 : Index := 0#32
  ![v200.toNat, 0]
def k0_off47 (k0_t2 : Fin k0_t2_loop.trips) (k0_t6 : Fin k0_t6_loop.trips) (c0_i32_92 : BitVec 32) : Fin 3 → Nat :=
  let c16_i32 : BitVec 32 := 16#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v203 : BitVec 32 := Scalar.muli c16_i32 v198
  let v204 : BitVec 32 := Scalar.addi v203 c0_i32_92
  let v205 : Index := Scalar.indexCast v204
  let c0_93 : Index := 0#32
  ![v205.toNat, 0, 0]
def k0_off48 (i : grid0.Coords) (k0_t2 : Fin k0_t2_loop.trips) (k0_t6 : Fin k0_t6_loop.trips) (c0_i32_95 : BitVec 32) (c0_i32_96 : BitVec 32) : Fin 3 → Nat :=
  let arg0 : BitVec 32 := BitVec.ofNat 32 (i 0).val
  let c1_i32_1 : BitVec 32 := 1#32
  let v3 : BitVec 32 := Scalar.andi arg0 c1_i32_1
  let c36882_i32_2 : BitVec 32 := 36882#32
  let v4 : BitVec 32 := Scalar.muli v3 c36882_i32_2
  let arg1 : BitVec 32 := BitVec.ofNat 32 (i 1).val
  let c512_i32 : BitVec 32 := 512#32
  let v213 : BitVec 32 := Scalar.muli arg1 c512_i32
  let c16_i32_94 : BitVec 32 := 16#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v214 : BitVec 32 := Scalar.muli c16_i32_94 v198
  let v215 : BitVec 32 := Scalar.addi v213 v214
  let v216 : BitVec 32 := Scalar.addi v215 c0_i32_95
  let c9_i32 : BitVec 32 := 9#32
  let v217 : BitVec 32 := Scalar.muli v216 c9_i32
  let v218 : BitVec 32 := Scalar.addi v4 v217
  let v219 : BitVec 32 := Scalar.addi v218 c0_i32_96
  let v220 : Index := Scalar.indexCast v219
  let c0_97 : Index := 0#32
  ![v220.toNat, 0, 0]
def k0_off49 (k0_t2 : Fin k0_t2_loop.trips) (k0_t6 : Fin k0_t6_loop.trips) : Fin 2 → Nat :=
  let c32_i32_107 : BitVec 32 := 32#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v245 : BitVec 32 := Scalar.muli c32_i32_107 v198
  let v246 : Index := Scalar.indexCast v245
  let c128 : Index := 128#32
  ![v246.toNat, 128]
def k0_off50 (k0_t2 : Fin k0_t2_loop.trips) (k0_t6 : Fin k0_t6_loop.trips) (c0_i32_109 : BitVec 32) : Fin 3 → Nat :=
  let c16_i32_108 : BitVec 32 := 16#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v249 : BitVec 32 := Scalar.muli c16_i32_108 v198
  let v250 : BitVec 32 := Scalar.addi v249 c0_i32_109
  let v251 : Index := Scalar.indexCast v250
  let c1 : Index := 1#32
  ![v251.toNat, 0, 1]
def k0_off51 (k0_t2 : Fin k0_t2_loop.trips) (k0_t6 : Fin k0_t6_loop.trips) : Fin 2 → Nat :=
  let c32_i32_125 : BitVec 32 := 32#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v291 : BitVec 32 := Scalar.muli c32_i32_125 v198
  let v292 : Index := Scalar.indexCast v291
  let c256_126 : Index := 256#32
  ![v292.toNat, 256]
def k0_off52 (k0_t2 : Fin k0_t2_loop.trips) (k0_t6 : Fin k0_t6_loop.trips) (c0_i32_128 : BitVec 32) : Fin 3 → Nat :=
  let c16_i32_127 : BitVec 32 := 16#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v295 : BitVec 32 := Scalar.muli c16_i32_127 v198
  let v296 : BitVec 32 := Scalar.addi v295 c0_i32_128
  let v297 : Index := Scalar.indexCast v296
  let c2 : Index := 2#32
  ![v297.toNat, 0, 2]
def k0_off53 (k0_t2 : Fin k0_t2_loop.trips) (k0_t6 : Fin k0_t6_loop.trips) : Fin 2 → Nat :=
  let c32_i32_144 : BitVec 32 := 32#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v337 : BitVec 32 := Scalar.muli c32_i32_144 v198
  let v338 : Index := Scalar.indexCast v337
  let c384 : Index := 384#32
  ![v338.toNat, 384]
def k0_off54 (k0_t2 : Fin k0_t2_loop.trips) (k0_t6 : Fin k0_t6_loop.trips) (c0_i32_146 : BitVec 32) : Fin 3 → Nat :=
  let c16_i32_145 : BitVec 32 := 16#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v341 : BitVec 32 := Scalar.muli c16_i32_145 v198
  let v342 : BitVec 32 := Scalar.addi v341 c0_i32_146
  let v343 : Index := Scalar.indexCast v342
  let c3 : Index := 3#32
  ![v343.toNat, 0, 3]
def k0_off55 (k0_t2 : Fin k0_t2_loop.trips) (k0_t6 : Fin k0_t6_loop.trips) : Fin 2 → Nat :=
  let c32_i32_161 : BitVec 32 := 32#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v383 : BitVec 32 := Scalar.muli c32_i32_161 v198
  let v384 : Index := Scalar.indexCast v383
  let c512_162 : Index := 512#32
  ![v384.toNat, 512]
def k0_off56 (k0_t2 : Fin k0_t2_loop.trips) (k0_t6 : Fin k0_t6_loop.trips) (c0_i32_164 : BitVec 32) : Fin 3 → Nat :=
  let c16_i32_163 : BitVec 32 := 16#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v387 : BitVec 32 := Scalar.muli c16_i32_163 v198
  let v388 : BitVec 32 := Scalar.addi v387 c0_i32_164
  let v389 : Index := Scalar.indexCast v388
  let c4 : Index := 4#32
  ![v389.toNat, 0, 4]
def k0_off57 (k0_t2 : Fin k0_t2_loop.trips) (k0_t6 : Fin k0_t6_loop.trips) : Fin 2 → Nat :=
  let c32_i32_180 : BitVec 32 := 32#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v429 : BitVec 32 := Scalar.muli c32_i32_180 v198
  let v430 : Index := Scalar.indexCast v429
  let c640 : Index := 640#32
  ![v430.toNat, 640]
def k0_off58 (k0_t2 : Fin k0_t2_loop.trips) (k0_t6 : Fin k0_t6_loop.trips) (c0_i32_182 : BitVec 32) : Fin 3 → Nat :=
  let c16_i32_181 : BitVec 32 := 16#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v433 : BitVec 32 := Scalar.muli c16_i32_181 v198
  let v434 : BitVec 32 := Scalar.addi v433 c0_i32_182
  let v435 : Index := Scalar.indexCast v434
  let c5 : Index := 5#32
  ![v435.toNat, 0, 5]
def k0_off59 (k0_t2 : Fin k0_t2_loop.trips) (k0_t6 : Fin k0_t6_loop.trips) : Fin 2 → Nat :=
  let c32_i32_197 : BitVec 32 := 32#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v475 : BitVec 32 := Scalar.muli c32_i32_197 v198
  let v476 : Index := Scalar.indexCast v475
  let c768_198 : Index := 768#32
  ![v476.toNat, 768]
def k0_off60 (k0_t2 : Fin k0_t2_loop.trips) (k0_t6 : Fin k0_t6_loop.trips) (c0_i32_200 : BitVec 32) : Fin 3 → Nat :=
  let c16_i32_199 : BitVec 32 := 16#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v479 : BitVec 32 := Scalar.muli c16_i32_199 v198
  let v480 : BitVec 32 := Scalar.addi v479 c0_i32_200
  let v481 : Index := Scalar.indexCast v480
  let c6 : Index := 6#32
  ![v481.toNat, 0, 6]
def k0_off61 (k0_t2 : Fin k0_t2_loop.trips) (k0_t6 : Fin k0_t6_loop.trips) : Fin 2 → Nat :=
  let c32_i32_216 : BitVec 32 := 32#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v521 : BitVec 32 := Scalar.muli c32_i32_216 v198
  let v522 : Index := Scalar.indexCast v521
  let c896 : Index := 896#32
  ![v522.toNat, 896]
def k0_off62 (k0_t2 : Fin k0_t2_loop.trips) (k0_t6 : Fin k0_t6_loop.trips) (c0_i32_218 : BitVec 32) : Fin 3 → Nat :=
  let c16_i32_217 : BitVec 32 := 16#32
  let c2_i32_44 : BitVec 32 := 2#32
  let c0_i32_13 : BitVec 32 := 0#32
  let c1_i32_14 : BitVec 32 := 1#32
  let arg12 : BitVec 32 := Scf.iv c0_i32_13 c1_i32_14 k0_t2
  let v111 : BitVec 32 := Scalar.muli c2_i32_44 arg12
  let c1_i32_45 : BitVec 32 := 1#32
  let v112 : BitVec 32 := Scalar.addi v111 c1_i32_45
  let c4_i32_89 : BitVec 32 := 4#32
  let v197 : BitVec 32 := Scalar.muli v112 c4_i32_89
  let c0_i32_85 : BitVec 32 := 0#32
  let c1_i32_87 : BitVec 32 := 1#32
  let arg13 : BitVec 32 := Scf.iv c0_i32_85 c1_i32_87 k0_t6
  let v198 : BitVec 32 := Scalar.addi v197 arg13
  let v525 : BitVec 32 := Scalar.muli c16_i32_217 v198
  let v526 : BitVec 32 := Scalar.addi v525 c0_i32_218
  let v527 : Index := Scalar.indexCast v526
  let c7 : Index := 7#32
  ![v527.toNat, 0, 7]
def k0_cond5 (i : grid0.Coords) : BitVec 1 :=
  let arg0 : BitVec 32 := BitVec.ofNat 32 (i 0).val
  let c6_i32_11 : BitVec 32 := 6#32
  let v21 : BitVec 1 := Scalar.cmpi .eq arg0 c6_i32_11
  let v22 : BitVec 32 := Scalar.extui v21
  let c0_i32_12 : BitVec 32 := 0#32
  let v23 : BitVec 1 := Scalar.cmpi .ne v22 c0_i32_12
  v23

@[reducible] def k0_t7_loop : Scf.Loop 32 :=
  let c0_i32_13 : BitVec 32 := 0#32
  let c4_i32 : BitVec 32 := 4#32
  let v24 : BitVec 32 := Scalar.addi c0_i32_13 c4_i32
  let c1_i32_14 : BitVec 32 := 1#32
  ⟨c0_i32_13, v24, c1_i32_14⟩
@[reducible] def k0_t8_loop : Scf.Loop 32 :=
  let c0_i32_17 : BitVec 32 := 0#32
  let c48_i32 : BitVec 32 := 48#32
  let v27 : BitVec 32 := Scalar.addi c0_i32_17 c48_i32
  let c1_i32_18 : BitVec 32 := 1#32
  ⟨c0_i32_17, v27, c1_i32_18⟩
def k0_off63 (i : grid0.Coords) (k0_t7 : Fin k0_t7_loop.trips) (k0_t8 : Fin k0_t8_loop.trips) : Fin 2 → Nat :=
  let arg1 : BitVec 32 := BitVec.ofNat 32 (i 1).val
  let c8_i32_81 : BitVec 32 := 8#32
  let v195 : BitVec 32 := Scalar.muli arg1 c8_i32_81
  let c2_i32 : BitVec 32 := 2#32
  let c0_i32_13 : BitVec 32 := 0#32
  let c1_i32_14 : BitVec 32 := 1#32
  let arg12 : BitVec 32 := Scf.iv c0_i32_13 c1_i32_14 k0_t7
  let v25 : BitVec 32 := Scalar.muli c2_i32 arg12
  let c0_i32_16 : BitVec 32 := 0#32
  let v26 : BitVec 32 := Scalar.addi v25 c0_i32_16
  let v196 : BitVec 32 := Scalar.addi v195 v26
  let v197 : Index := Scalar.indexCast v196
  let c0_i32_17 : BitVec 32 := 0#32
  let c1_i32_18 : BitVec 32 := 1#32
  let arg13 : BitVec 32 := Scf.iv c0_i32_17 c1_i32_18 k0_t8
  let v198 : Index := Scalar.indexCast arg13
  ![v197.toNat, v198.toNat]
def k0_off64 (i : grid0.Coords) (v199 : BitVec 32) (c0_i32_82 : BitVec 32) : Fin 3 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.andi v0 c1_i32_0
  let c36882_i32 : BitVec 32 := 36882#32
  let v2 : BitVec 32 := Scalar.muli v1 c36882_i32
  let v200 : BitVec 32 := Scalar.addi v2 v199
  let v201 : BitVec 32 := Scalar.addi v200 c0_i32_82
  let v202 : Index := Scalar.indexCast v201
  let c0_83 : Index := 0#32
  ![v202.toNat, 0, 0]

def k0_chk3 (i : grid0.Coords) (v199 : BitVec 32) : Prop :=
  (∀ (k0_h5 : k0_cond5 i = 1#1), ∀ (r : Fin 2), ∀ a, (k0_off64 i v199 (BitVec.ofNat 32 (9 * r.val))) a + S8x2x128.size a ≤ S73764x2x128.size a)
theorem k0_off64_inb : ∀ (i : grid0.Coords) (v199 : BitVec 32) (k0_hw3 : k0_chk3 i v199), ∀ (k0_h5 : k0_cond5 i = 1#1), ∀ (r : Fin 2), ∀ a, (k0_off64 i v199 (BitVec.ofNat 32 (9 * r.val))) a + S8x2x128.size a ≤ S73764x2x128.size a := fun i v199 k0_hw3 k0_h5 r => k0_hw3 k0_h5 r

def k0_off65 (k0_t8 : Fin k0_t8_loop.trips) (c0_i32_85 : BitVec 32) : Fin 3 → Nat :=
  let c2_i32_84 : BitVec 32 := 2#32
  let c0_i32_17 : BitVec 32 := 0#32
  let c1_i32_18 : BitVec 32 := 1#32
  let arg13 : BitVec 32 := Scf.iv c0_i32_17 c1_i32_18 k0_t8
  let v204 : BitVec 32 := Scalar.muli c2_i32_84 arg13
  let v205 : BitVec 32 := Scalar.addi v204 c0_i32_85
  let v206 : Index := Scalar.indexCast v205
  let c0_86 : Index := 0#32
  ![v206.toNat, 0, 0]
def k0_off66 (i : grid0.Coords) (k0_t7 : Fin k0_t7_loop.trips) (c0_i32_16 : BitVec 32) : Fin 2 → Nat :=
  let arg1 : BitVec 32 := BitVec.ofNat 32 (i 1).val
  let c8_i32 : BitVec 32 := 8#32
  let v28 : BitVec 32 := Scalar.muli arg1 c8_i32
  let c2_i32 : BitVec 32 := 2#32
  let c0_i32_13 : BitVec 32 := 0#32
  let c1_i32_14 : BitVec 32 := 1#32
  let arg12 : BitVec 32 := Scf.iv c0_i32_13 c1_i32_14 k0_t7
  let v25 : BitVec 32 := Scalar.muli c2_i32 arg12
  let v26 : BitVec 32 := Scalar.addi v25 c0_i32_16
  let v29 : BitVec 32 := Scalar.addi v28 v26
  let c96_i32 : BitVec 32 := 96#32
  let v30 : BitVec 32 := Scalar.muli v29 c96_i32
  let v31 : Index := Scalar.indexCast v30
  let c0 : Index := 0#32
  ![v31.toNat, 0]
def k0_off67 (k0_t7 : Fin k0_t7_loop.trips) (c0_i32_16 : BitVec 32) : Fin 2 → Nat :=
  let c2_i32 : BitVec 32 := 2#32
  let c0_i32_13 : BitVec 32 := 0#32
  let c1_i32_14 : BitVec 32 := 1#32
  let arg12 : BitVec 32 := Scf.iv c0_i32_13 c1_i32_14 k0_t7
  let v25 : BitVec 32 := Scalar.muli c2_i32 arg12
  let v26 : BitVec 32 := Scalar.addi v25 c0_i32_16
  let c32_i32 : BitVec 32 := 32#32
  let v45 : BitVec 32 := Scalar.muli v26 c32_i32
  let v46 : Index := Scalar.indexCast v45
  let c0_23 : Index := 0#32
  ![v46.toNat, 0]
def k0_off68 (k0_t7 : Fin k0_t7_loop.trips) (c0_i32_16 : BitVec 32) : Fin 2 → Nat :=
  let c2_i32 : BitVec 32 := 2#32
  let c0_i32_13 : BitVec 32 := 0#32
  let c1_i32_14 : BitVec 32 := 1#32
  let arg12 : BitVec 32 := Scf.iv c0_i32_13 c1_i32_14 k0_t7
  let v25 : BitVec 32 := Scalar.muli c2_i32 arg12
  let v26 : BitVec 32 := Scalar.addi v25 c0_i32_16
  let c32_i32_28 : BitVec 32 := 32#32
  let v64 : BitVec 32 := Scalar.muli v26 c32_i32_28
  let v65 : Index := Scalar.indexCast v64
  let c256 : Index := 256#32
  ![v65.toNat, 256]
def k0_off69 (k0_t7 : Fin k0_t7_loop.trips) (c0_i32_16 : BitVec 32) : Fin 2 → Nat :=
  let c2_i32 : BitVec 32 := 2#32
  let c0_i32_13 : BitVec 32 := 0#32
  let c1_i32_14 : BitVec 32 := 1#32
  let arg12 : BitVec 32 := Scf.iv c0_i32_13 c1_i32_14 k0_t7
  let v25 : BitVec 32 := Scalar.muli c2_i32 arg12
  let v26 : BitVec 32 := Scalar.addi v25 c0_i32_16
  let c32_i32_33 : BitVec 32 := 32#32
  let v83 : BitVec 32 := Scalar.muli v26 c32_i32_33
  let v84 : Index := Scalar.indexCast v83
  let c512 : Index := 512#32
  ![v84.toNat, 512]
def k0_off70 (k0_t7 : Fin k0_t7_loop.trips) (c0_i32_16 : BitVec 32) : Fin 2 → Nat :=
  let c2_i32 : BitVec 32 := 2#32
  let c0_i32_13 : BitVec 32 := 0#32
  let c1_i32_14 : BitVec 32 := 1#32
  let arg12 : BitVec 32 := Scf.iv c0_i32_13 c1_i32_14 k0_t7
  let v25 : BitVec 32 := Scalar.muli c2_i32 arg12
  let v26 : BitVec 32 := Scalar.addi v25 c0_i32_16
  let c32_i32_38 : BitVec 32 := 32#32
  let v102 : BitVec 32 := Scalar.muli v26 c32_i32_38
  let v103 : Index := Scalar.indexCast v102
  let c768 : Index := 768#32
  ![v103.toNat, 768]
@[reducible] def k0_t9_loop : Scf.Loop 32 :=
  let c0_i32_42 : BitVec 32 := 0#32
  let c48_i32_43 : BitVec 32 := 48#32
  let v112 : BitVec 32 := Scalar.addi c0_i32_42 c48_i32_43
  let c1_i32_44 : BitVec 32 := 1#32
  ⟨c0_i32_42, v112, c1_i32_44⟩
def k0_off71 (i : grid0.Coords) (k0_t7 : Fin k0_t7_loop.trips) (k0_t9 : Fin k0_t9_loop.trips) : Fin 2 → Nat :=
  let arg1 : BitVec 32 := BitVec.ofNat 32 (i 1).val
  let c8_i32_81 : BitVec 32 := 8#32
  let v195 : BitVec 32 := Scalar.muli arg1 c8_i32_81
  let c2_i32_40 : BitVec 32 := 2#32
  let c0_i32_13 : BitVec 32 := 0#32
  let c1_i32_14 : BitVec 32 := 1#32
  let arg12 : BitVec 32 := Scf.iv c0_i32_13 c1_i32_14 k0_t7
  let v110 : BitVec 32 := Scalar.muli c2_i32_40 arg12
  let c1_i32_41 : BitVec 32 := 1#32
  let v111 : BitVec 32 := Scalar.addi v110 c1_i32_41
  let v196 : BitVec 32 := Scalar.addi v195 v111
  let v197 : Index := Scalar.indexCast v196
  let c0_i32_42 : BitVec 32 := 0#32
  let c1_i32_44 : BitVec 32 := 1#32
  let arg13 : BitVec 32 := Scf.iv c0_i32_42 c1_i32_44 k0_t9
  let v198 : Index := Scalar.indexCast arg13
  ![v197.toNat, v198.toNat]
def k0_off72 (i : grid0.Coords) (v199 : BitVec 32) (c0_i32_82 : BitVec 32) : Fin 3 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.andi v0 c1_i32_0
  let c36882_i32 : BitVec 32 := 36882#32
  let v2 : BitVec 32 := Scalar.muli v1 c36882_i32
  let v200 : BitVec 32 := Scalar.addi v2 v199
  let v201 : BitVec 32 := Scalar.addi v200 c0_i32_82
  let v202 : Index := Scalar.indexCast v201
  let c0_83 : Index := 0#32
  ![v202.toNat, 0, 0]

def k0_chk4 (i : grid0.Coords) (v199 : BitVec 32) : Prop :=
  (∀ (k0_h5 : k0_cond5 i = 1#1), ∀ (r : Fin 2), ∀ a, (k0_off72 i v199 (BitVec.ofNat 32 (9 * r.val))) a + S8x2x128.size a ≤ S73764x2x128.size a)
theorem k0_off72_inb : ∀ (i : grid0.Coords) (v199 : BitVec 32) (k0_hw4 : k0_chk4 i v199), ∀ (k0_h5 : k0_cond5 i = 1#1), ∀ (r : Fin 2), ∀ a, (k0_off72 i v199 (BitVec.ofNat 32 (9 * r.val))) a + S8x2x128.size a ≤ S73764x2x128.size a := fun i v199 k0_hw4 k0_h5 r => k0_hw4 k0_h5 r

def k0_off73 (k0_t9 : Fin k0_t9_loop.trips) (c0_i32_85 : BitVec 32) : Fin 3 → Nat :=
  let c2_i32_84 : BitVec 32 := 2#32
  let c0_i32_42 : BitVec 32 := 0#32
  let c1_i32_44 : BitVec 32 := 1#32
  let arg13 : BitVec 32 := Scf.iv c0_i32_42 c1_i32_44 k0_t9
  let v204 : BitVec 32 := Scalar.muli c2_i32_84 arg13
  let v205 : BitVec 32 := Scalar.addi v204 c0_i32_85
  let v206 : Index := Scalar.indexCast v205
  let c0_86 : Index := 0#32
  ![v206.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg0 c6_i32
  let c7_i32 : BitVec 32 := 7#32
  let v1 : BitVec 32 := Scalar.select v0 arg1 c7_i32
  let c5_i32 : BitVec 32 := 5#32
  let v2 : BitVec 32 := Scalar.minsi arg0 c5_i32
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S6144x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S64x128 : Shape := ⟨2, ![64, 128]⟩
abbrev S2048x6144 : Shape := ⟨2, ![2048, 6144]⟩
abbrev S8192x6144 : Shape := ⟨2, ![8192, 6144]⟩
abbrev S8192x128 : Shape := ⟨2, ![8192, 128]⟩
abbrev S6144x256 : Shape := ⟨2, ![6144, 256]⟩
abbrev S8192x48x128 : Shape := ⟨3, ![8192, 48, 128]⟩
abbrev S8192x48 : Shape := ⟨2, ![8192, 48]⟩
abbrev S8192x48x1 : Shape := ⟨3, ![8192, 48, 1]⟩
abbrev S_ : Shape := ⟨0, ![]⟩
abbrev S4x6144 : Shape := ⟨2, ![4, 6144]⟩
abbrev S8196x6144 : Shape := ⟨2, ![8196, 6144]⟩
abbrev S64x48 : Shape := ⟨2, ![64, 48]⟩
abbrev S64x48x1 : Shape := ⟨3, ![64, 48, 1]⟩
abbrev S4 : Shape := ⟨1, ![4]⟩
abbrev S1x1x4 : Shape := ⟨3, ![1, 1, 4]⟩
abbrev S64x48x4 : Shape := ⟨3, ![64, 48, 4]⟩
abbrev S64x192 : Shape := ⟨2, ![64, 192]⟩
abbrev S64x192x1 : Shape := ⟨3, ![64, 192, 1]⟩
abbrev S64x192x6144 : Shape := ⟨3, ![64, 192, 6144]⟩
abbrev S64x3x32x256 : Shape := ⟨4, ![64, 3, 32, 256]⟩
abbrev S64x3x32x192 : Shape := ⟨4, ![64, 3, 32, 192]⟩
abbrev S64x3x32x6144 : Shape := ⟨4, ![64, 3, 32, 6144]⟩
abbrev S64x32x6144 : Shape := ⟨3, ![64, 32, 6144]⟩

abbrev nBuf : Space → Nat
  | .hbm => 42
  | .vmem => 2
  | .smem => 0
  | _ => 0

abbrev bufTy : (tb : Table) → Fin (tcTables nBuf tb) → BufTy
  | .hbm, ⟨0, _⟩ => ⟨S64x128, .i32⟩
  | .hbm, ⟨1, _⟩ => ⟨S2048x6144, .bf16⟩
  | .hbm, ⟨2, _⟩ => ⟨S8192x6144, .fp8e4m3⟩
  | .hbm, ⟨3, _⟩ => ⟨S8192x128, .bf16⟩
  | .hbm, ⟨4, _⟩ => ⟨S6144x256, .bf16⟩
  | .hbm, ⟨5, _⟩ => ⟨S8192x6144, .f32⟩
  | .hbm, ⟨6, _⟩ => ⟨S8192x48x128, .f32⟩
  | .hbm, ⟨7, _⟩ => ⟨S8192x48, .bf16⟩
  | .hbm, ⟨8, _⟩ => ⟨S8192x48, .f32⟩
  | .hbm, ⟨9, _⟩ => ⟨S8192x48x1, .f32⟩
  | .hbm, ⟨10, _⟩ => ⟨S8192x48x128, .f32⟩
  | .hbm, ⟨11, _⟩ => ⟨S8192x48x128, .f32⟩
  | .hbm, ⟨12, _⟩ => ⟨S8192x6144, .f32⟩
  | .hbm, ⟨13, _⟩ => ⟨S_, .f32⟩
  | .hbm, ⟨14, _⟩ => ⟨S4x6144, .f32⟩
  | .hbm, ⟨15, _⟩ => ⟨S8196x6144, .f32⟩
  | .hbm, ⟨16, _⟩ => ⟨S64x48, .i32⟩
  | .hbm, ⟨17, _⟩ => ⟨S_, .i32⟩
  | .hbm, ⟨18, _⟩ => ⟨S64x48, .i32⟩
  | .hbm, ⟨19, _⟩ => ⟨S64x48, .i32⟩
  | .hbm, ⟨20, _⟩ => ⟨S_, .i32⟩
  | .hbm, ⟨21, _⟩ => ⟨S64x48, .i32⟩
  | .hbm, ⟨22, _⟩ => ⟨S64x48, .i32⟩
  | .hbm, ⟨23, _⟩ => ⟨S64x48x1, .i32⟩
  | .hbm, ⟨24, _⟩ => ⟨S4, .i32⟩
  | .hbm, ⟨25, _⟩ => ⟨S1x1x4, .i32⟩
  | .hbm, ⟨26, _⟩ => ⟨S64x48x4, .i32⟩
  | .hbm, ⟨27, _⟩ => ⟨S64x48x4, .i32⟩
  | .hbm, ⟨28, _⟩ => ⟨S64x48x4, .i32⟩
  | .hbm, ⟨29, _⟩ => ⟨S64x192, .i32⟩
  | .hbm, ⟨30, _⟩ => ⟨S64x192x1, .i32⟩
  | .hbm, ⟨31, _⟩ => ⟨S64x192x6144, .f32⟩
  | .hbm, ⟨32, _⟩ => ⟨S64x3x32x256, .bf16⟩
  | .hbm, ⟨33, _⟩ => ⟨S64x3x32x192, .bf16⟩
  | .hbm, ⟨34, _⟩ => ⟨S64x3x32x192, .f32⟩
  | .hbm, ⟨35, _⟩ => ⟨S64x3x32x6144, .f32⟩
  | .hbm, ⟨36, _⟩ => ⟨S_, .f32⟩
  | .hbm, ⟨37, _⟩ => ⟨S64x32x6144, .f32⟩
  | .hbm, ⟨38, _⟩ => ⟨S2048x6144, .f32⟩
  | .hbm, ⟨39, _⟩ => ⟨S2048x6144, .f32⟩
  | .hbm, ⟨40, _⟩ => ⟨S2048x6144, .f32⟩
  | .hbm, ⟨41, _⟩ => ⟨S2048x6144, .bf16⟩
  | .local _ .vmem, ⟨0, _⟩ => ⟨S8192x6144, .fp8e4m3⟩
  | .local _ .vmem, ⟨1, _⟩ => ⟨S8192x6144, .f32⟩
  | _, _ => ⟨S64x128, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8192x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Frame.KLoops.lean ====
/- The counted loops of `Kernel`'s body, gone through once per trip: every buffer a loop stores into is held at some
   contents, the table at its contents, whose first 48 words a row lie inside the pair buffer. -/
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import Idealize.ShloMosaic.Lib.Affine
public import Mathlib.Tactic.IntervalCases
public import Mathlib.Tactic.FinCases

@[expose] public section

set_option maxRecDepth 8192
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ
abbrev 𝒱₀ : Variants := Variants.none

section Loops

variable (c : Dev nD) (i : grid0.Coords)
  (arg2 : Memref sig .tc .smem S64x128 .i32) (harg2 : arg2.IsWhole)
  (arg3 : Memref sig .tc .vmem S256x1024 .bf16) (harg3 : arg3.IsWhole)
  (arg4 : Memref sig .tc .vmem S1024x1024 .fp8e4m3) (harg4 : arg4.IsWhole)
  (arg5 : Memref sig .tc .vmem S1024x128 .bf16) (harg5 : arg5.IsWhole)
  (arg6 : Memref sig .tc .vmem S6144x256 .bf16) (harg6 : arg6.IsWhole)
  (arg7 : Memref sig .tc .vmem S256x1024 .bf16) (harg7 : arg7.IsWhole)
  (arg8 : Memref sig .tc .vmem S73764x128 .i32) (harg8 : arg8.IsWhole)
  (arg9 : Memref sig .tc .vmem S800x128 .i32) (harg9 : arg9.IsWhole)
  (arg10 : Memref sig .tc .vmem S800x128 .i32) (harg10 : arg10.IsWhole)
  (arg11 : Memref sig .tc .vmem S512x128 .i32) (harg11 : arg11.IsWhole)

/-- A buffer held whole at some contents. -/
abbrev anyP {sp : Space} {S : Shape} {e : EltTy} (M : Memref sig .tc sp S e) : sProp 𝕄 :=
  iprop(∃ f, M.view.loc (c : Thread nD τ) ↦[M.view.set]{fullShare} f)
/-- The table held for reading at the contents `ft`. -/
abbrev tabP (ft : Buf (Elt F) (arg2.view.loc (c : Thread nD τ))) : sProp 𝕄 :=
  arg2.view.loc (c : Thread nD τ) ↦[arg2.view.set]{fullShare.right} ft
/-- Every list entry of the table names a pair of rows of the buffer, as a word address. -/
def TabOK (ft : Buf (Elt F) (arg2.view.loc (c : Thread nD τ))) : Prop :=
  ∀ x : S64x128.Idx, (x 1).val < 48 → BitVec.toNat (w := 32) (arg2.view.read (Elt F) ft x) ≤ 36864

/-- The parity of the pair buffer a round reads starts at word 0 or at word 36882. -/
theorem src_le (x : ℕ) (hx : x < 7) : BitVec.toNat (Scalar.muli (Scalar.andi (Scalar.addi (BitVec.ofNat 32 x) 1#32) 1#32) 36882#32) ≤ 36882 := by
  interval_cases x <;> decide
theorem word_le (a v d : BitVec 32) (ha : a.toNat ≤ 36882) (hv : v.toNat ≤ 36864) (hd : d.toNat ≤ 9) :
    (Scalar.indexCast (Scalar.addi (Scalar.addi a v) d)).toNat ≤ 73755 := by
  show (Scalar.addi (Scalar.addi a v) d).toNat ≤ _
  simp only [Scalar.addi, IntOp.addi, BitVec.toNat_add]; omega
theorem pick_le (r : Fin 2) : (BitVec.ofNat 32 (9 * r.val)).toNat ≤ 9 := by fin_cases r <;> decide
theorem chk1_of (v : BitVec 32) (hv : v.toNat ≤ 36864) : k0_chk1 i v := by
  intro _ r a
  have key : (k0_off19 i v (BitVec.ofNat 32 (9 * r.val))) 0 ≤ 73755 := word_le _ _ _ (src_le _ (i 0).isLt) hv (pick_le r)
  fin_cases a
  · exact Nat.le_trans (Nat.add_le_add_right key 8) (by decide)
  · exact Nat.le_refl 128
theorem chk2_of (v : BitVec 32) (hv : v.toNat ≤ 36864) : k0_chk2 i v := by
  intro _ r a
  have key : (k0_off44 i v (BitVec.ofNat 32 (9 * r.val))) 0 ≤ 73755 := word_le _ _ _ (src_le _ (i 0).isLt) hv (pick_le r)
  fin_cases a
  · exact Nat.le_trans (Nat.add_le_add_right key 8) (by decide)
  · exact Nat.le_refl 128
theorem chk3_of (v : BitVec 32) (hv : v.toNat ≤ 36864) : k0_chk3 i v := by
  intro _ r a
  have key : (k0_off64 i v (BitVec.ofNat 32 (9 * r.val))) 0 ≤ 73755 := word_le _ _ _ (src_le _ (i 0).isLt) hv (pick_le r)
  fin_cases a
  · exact Nat.le_trans (Nat.add_le_add_right key 8) (by decide)
  · exact Nat.le_refl 128
theorem chk4_of (v : BitVec 32) (hv : v.toNat ≤ 36864) : k0_chk4 i v := by
  intro _ r a
  have key : (k0_off72 i v (BitVec.ofNat 32 (9 * r.val))) 0 ≤ 73755 := word_le _ _ _ (src_le _ (i 0).isLt) hv (pick_le r)
  fin_cases a
  · exact Nat.le_trans (Nat.add_le_add_right key 8) (by decide)
  · exact Nat.le_refl 128

/-- A trip number read back from its word. -/
theorem iv_lt (n : ℕ) (k : ℕ) (hk : k < n) (hn : n ≤ 48) : (Scalar.indexCast (Scf.iv 0#32 1#32 k)).toNat < n := by
  have : (Scf.iv 0#32 1#32 k).toNat = k := by
    have hk' : k < 48 := by omega
    interval_cases k <;> rfl
  show (Scf.iv 0#32 1#32 k).toNat < n
  omega

set_option warn.classDefReducibility false in
@[sl_loop] def loopInv_k0_t1 (arg1 v4 : BitVec 32) (k0_h3 : k0_cond3 i = 1#1)
     :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg1 v4 k0_h3 where
  inv k acc := iprop(anyP c arg4 ∗ anyP c arg8 ∗ anyP c arg11)
  step k acc := by
    unfold k0_t1_body
    iintro ⟨⟨%f4, H4⟩, ⟨%f8, H8⟩, ⟨%f11, H11⟩⟩
    sl_exec_parts
    sl_step
    sl_close

set_option warn.classDefReducibility false in
@[sl_loop] def loopInv_k0_t3 (arg1 v2 : BitVec 32) (k0_h4 : k0_cond4 i = 1#1) (c0_i32_13 c1_i32_14 : BitVec 32) (k0_t2 : Fin k0_t2_loop.trips)
    (ft : Buf (Elt F) (arg2.view.loc (c : Thread nD τ))) :
    LoopInvTy_k0_t3 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 k0_h4 c0_i32_13 c1_i32_14 k0_t2 where
  inv k acc := iprop(⌜TabOK c arg2 ft⌝ ∗ tabP c arg2 ft ∗ anyP c arg8 ∗ anyP c arg9)
  step k acc := by
    unfold k0_t3_body
    iintro ⟨%hT, HT, ⟨%f8, H8⟩, ⟨%f9, H9⟩⟩
    sl_exec
    have hw : k0_chk1 i (loopInv_k0_t3.sl.r c i arg2 k0_h4 k0_t2 ft k) := by
      apply chk1_of
      unfold loopInv_k0_t3.sl.r
      refine hT _ ?_
      show _ + 1 * 0 < 48
      exact iv_lt 48 k.val k.isLt (by decide)
    sl_exec
    sl_step
    sl_close

set_option warn.classDefReducibility false in
@[sl_loop] def loopInv_k0_t4 (arg1 v2 v4 : BitVec 32) (k0_h4 : k0_cond4 i = 1#1) (k0_t2 : Fin k0_t2_loop.trips) (arg12 v26 : BitVec 32) (v101 : FVec F S32x256 .f32)
     :
    LoopInvTy_k0_t4 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 v4 k0_h4 k0_t2 arg12 v26 v101 where
  inv k acc := iprop(anyP c arg4 ∗ anyP c arg8 ∗ anyP c arg11)
  step k acc := by
    unfold k0_t4_body
    iintro ⟨⟨%f4, H4⟩, ⟨%f8, H8⟩, ⟨%f11, H11⟩⟩
    sl_exec_parts
    sl_step
    sl_close

set_option warn.classDefReducibility false in
@[sl_loop] def loopInv_k0_t5 (arg1 v2 v4 : BitVec 32) (k0_h4 : k0_cond4 i = 1#1) (k0_t2 : Fin k0_t2_loop.trips) (arg12 v26 : BitVec 32) (v101 : FVec F S32x256 .f32)
    (ft : Buf (Elt F) (arg2.view.loc (c : Thread nD τ))) :
    LoopInvTy_k0_t5 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 v4 k0_h4 k0_t2 arg12 v26 v101 where
  inv k acc := iprop(⌜TabOK c arg2 ft⌝ ∗ tabP c arg2 ft ∗ anyP c arg8 ∗ anyP c arg10)
  step k acc := by
    unfold k0_t5_body
    iintro ⟨%hT, HT, ⟨%f8, H8⟩, ⟨%f10, H10⟩⟩
    sl_exec
    have hw : k0_chk2 i (loopInv_k0_t5.sl.r c i arg2 k0_h4 k0_t2 ft k) := by
      apply chk2_of
      unfold loopInv_k0_t5.sl.r
      refine hT _ ?_
      show _ + 1 * 0 < 48
      exact iv_lt 48 k.val k.isLt (by decide)
    sl_exec
    sl_step
    sl_close

set_option warn.classDefReducibility false in
@[sl_loop] def loopInv_k0_t6 (arg1 v4 : BitVec 32) (k0_h4 : k0_cond4 i = 1#1) (k0_t2 : Fin k0_t2_loop.trips) (v112 : BitVec 32)
     :
    LoopInvTy_k0_t6 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg1 v4 k0_h4 k0_t2 v112 where
  inv k acc := iprop(anyP c arg4 ∗ anyP c arg8 ∗ anyP c arg11)
  step k acc := by
    unfold k0_t6_body
    iintro ⟨⟨%f4, H4⟩, ⟨%f8, H8⟩, ⟨%f11, H11⟩⟩
    sl_exec_parts
    sl_step
    sl_close

set_option warn.classDefReducibility false in
@[sl_loop] def loopInv_k0_t8 (arg1 v2 : BitVec 32) (k0_h5 : k0_cond5 i = 1#1) (c0_i32_13 c1_i32_14 : BitVec 32) (k0_t7 : Fin k0_t7_loop.trips)
    (ft : Buf (Elt F) (arg2.view.loc (c : Thread nD τ))) :
    LoopInvTy_k0_t8 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 k0_h5 c0_i32_13 c1_i32_14 k0_t7 where
  inv k acc := iprop(⌜TabOK c arg2 ft⌝ ∗ tabP c arg2 ft ∗ anyP c arg8 ∗ anyP c arg9)
  step k acc := by
    unfold k0_t8_body
    iintro ⟨%hT, HT, ⟨%f8, H8⟩, ⟨%f9, H9⟩⟩
    sl_exec
    have hw : k0_chk3 i (loopInv_k0_t8.sl.r c i arg2 k0_h5 k0_t7 ft k) := by
      apply chk3_of
      unfold loopInv_k0_t8.sl.r
      refine hT _ ?_
      show _ + 1 * 0 < 48
      exact iv_lt 48 k.val k.isLt (by decide)
    sl_exec
    sl_step
    sl_close

set_option warn.classDefReducibility false in
@[sl_loop] def loopInv_k0_t9 (arg1 v2 : BitVec 32) (k0_h5 : k0_cond5 i = 1#1) (k0_t7 : Fin k0_t7_loop.trips) (arg12 v26 : BitVec 32) (v101 : FVec F S32x256 .f32)
    (ft : Buf (Elt F) (arg2.view.loc (c : Thread nD τ))) :
    LoopInvTy_k0_t9 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 k0_h5 k0_t7 arg12 v26 v101 where
  inv k acc := iprop(⌜TabOK c arg2 ft⌝ ∗ tabP c arg2 ft ∗ anyP c arg8 ∗ anyP c arg10)
  step k acc := by
    unfold k0_t9_body
    iintro ⟨%hT, HT, ⟨%f8, H8⟩, ⟨%f10, H10⟩⟩
    sl_exec
    have hw : k0_chk4 i (loopInv_k0_t9.sl.r c i arg2 k0_h5 k0_t7 ft k) := by
      apply chk4_of
      unfold loopInv_k0_t9.sl.r
      refine hT _ ?_
      show _ + 1 * 0 < 48
      exact iv_lt 48 k.val k.isLt (by decide)
    sl_exec
    sl_step
    sl_close

set_option warn.classDefReducibility false in
@[sl_loop] def loopInv_k0_t2 (arg1 v2 v4 : BitVec 32) (k0_h4 : k0_cond4 i = 1#1)
    (ft : Buf (Elt F) (arg2.view.loc (c : Thread nD τ))) :
    LoopInvTy_k0_t2 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 v4 k0_h4 where
  inv k acc := iprop(⌜TabOK c arg2 ft⌝ ∗ tabP c arg2 ft ∗ anyP c arg3 ∗ anyP c arg4 ∗ anyP c arg6 ∗ anyP c arg7 ∗ anyP c arg8 ∗ anyP c arg9 ∗ anyP c arg10 ∗ anyP c arg11)
  step k acc := by
    unfold k0_t2_body
    iintro ⟨%hT, HT, ⟨%f3, H3⟩, ⟨%f4, H4⟩, ⟨%f6, H6⟩, ⟨%f7, H7⟩, ⟨%f8, H8⟩, ⟨%f9, H9⟩, ⟨%f10, H10⟩, ⟨%f11, H11⟩⟩
    sl_exec_parts
    sl_step
    sl_close

set_option warn.classDefReducibility false in
@[sl_loop] def loopInv_k0_t7 (arg1 v2 : BitVec 32) (k0_h5 : k0_cond5 i = 1#1)
    (ft : Buf (Elt F) (arg2.view.loc (c : Thread nD τ))) :
    LoopInvTy_k0_t7 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 k0_h5 where
  inv k acc := iprop(⌜TabOK c arg2 ft⌝ ∗ tabP c arg2 ft ∗ anyP c arg3 ∗ anyP c arg6 ∗ anyP c arg7 ∗ anyP c arg8 ∗ anyP c arg9 ∗ anyP c arg10)
  step k acc := by
    unfold k0_t7_body
    iintro ⟨%hT, HT, ⟨%f3, H3⟩, ⟨%f6, H6⟩, ⟨%f7, H7⟩, ⟨%f8, H8⟩, ⟨%f9, H9⟩, ⟨%f10, H10⟩⟩
    sl_exec_parts
    sl_step
    sl_close

end Loops

end Cert.Proof.Kernel

end
-- ==== Proof.Frame.KBody.lean ====
/- `Kernel`'s body run once at any grid point, from any contents: the branches of the point decided from its two coordinates, the
   loops gone through by their invariants. -/
module

public import proofs.«01_k».proof.Proof.Frame.KLoops
public import Idealize.ShloMosaic.Lib.Pipeline.Frame
public import Idealize.ShloMosaic.Lib.Tactic

@[expose] public section

set_option maxRecDepth 8192
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

/-! ## The branches of a point -/

abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
abbrev cond2 (i : grid0.Coords) : Prop :=
  Scalar.cmpi .ne (Scalar.extui (Scalar.cmpi .slt (BitVec.ofNat 32 (i 0).val) 6#32)) 0#32 = 1#1

theorem cond1_iff (i : grid0.Coords) : cond1 i ↔ (i 0).val = 0 ∧ (i 1).val = 0 :=
  (by decide : ∀ (a : Fin 7) (b : Fin 8), Scalar.cmpi .ne (Scalar.extui (Scalar.andi (Scalar.cmpi .eq (BitVec.ofNat 32 a.val) 0#32) (Scalar.cmpi .eq (BitVec.ofNat 32 b.val) 0#32))) 0#32 = 1#1 ↔ a.val = 0 ∧ b.val = 0) (i 0) (i 1)
theorem cond2_iff (i : grid0.Coords) : cond2 i ↔ (i 0).val < 6 :=
  (by decide : ∀ (a : Fin 7), Scalar.cmpi .ne (Scalar.extui (Scalar.cmpi .slt (BitVec.ofNat 32 a.val) 6#32)) 0#32 = 1#1 ↔ a.val < 6) (i 0)
theorem cond3_iff (i : grid0.Coords) : k0_cond3 i = 1#1 ↔ (i 0).val = 0 :=
  (by decide : ∀ (a : Fin 7), Scalar.cmpi .ne (Scalar.extui (Scalar.cmpi .eq (BitVec.ofNat 32 a.val) 0#32)) 0#32 = 1#1 ↔ a.val = 0) (i 0)
theorem cond4_iff (i : grid0.Coords) : k0_cond4 i = 1#1 ↔ 0 < (i 0).val ∧ (i 0).val < 6 :=
  (by decide : ∀ (a : Fin 7), Scalar.cmpi .ne (Scalar.extui (Scalar.andi (Scalar.cmpi .sgt (BitVec.ofNat 32 a.val) 0#32) (Scalar.cmpi .slt (BitVec.ofNat 32 a.val) 6#32))) 0#32 = 1#1 ↔ 0 < a.val ∧ a.val < 6) (i 0)
theorem cond5_iff (i : grid0.Coords) : k0_cond5 i = 1#1 ↔ (i 0).val = 6 :=
  (by decide : ∀ (a : Fin 7), Scalar.cmpi .ne (Scalar.extui (Scalar.cmpi .eq (BitVec.ofNat 32 a.val) 6#32)) 0#32 = 1#1 ↔ a.val = 6) (i 0)

/-! ## The body, run once -/

variable (c : Dev nD) (i : grid0.Coords)
  (arg2 : Memref sig .tc .smem S64x128 .i32) (harg2 : arg2.IsWhole)
  (arg3 : Memref sig .tc .vmem S256x1024 .bf16) (harg3 : arg3.IsWhole)
  (arg4 : Memref sig .tc .vmem S1024x1024 .fp8e4m3) (harg4 : arg4.IsWhole)
  (arg5 : Memref sig .tc .vmem S1024x128 .bf16) (harg5 : arg5.IsWhole)
  (arg6 : Memref sig .tc .vmem S6144x256 .bf16) (harg6 : arg6.IsWhole)
  (arg7 : Memref sig .tc .vmem S256x1024 .bf16) (harg7 : arg7.IsWhole)
  (arg8 : Memref sig .tc .vmem S73764x128 .i32) (harg8 : arg8.IsWhole)
  (arg9 : Memref sig .tc .vmem S800x128 .i32) (harg9 : arg9.IsWhole)
  (arg10 : Memref sig .tc .vmem S800x128 .i32) (harg10 : arg10.IsWhole)
  (arg11 : Memref sig .tc .vmem S512x128 .i32) (harg11 : arg11.IsWhole)

/-- What the body is handed and hands back, beside the table: every window's staging buffer and every scratch buffer at some contents. -/
abbrev allP : sProp 𝕄 :=
  iprop(anyP c arg3 ∗ anyP c arg4 ∗ anyP c arg5 ∗ anyP c arg6 ∗ anyP c arg7 ∗ anyP c arg8 ∗ anyP c arg9 ∗ anyP c arg10 ∗ anyP c arg11)

theorem kernelRun (ft : Buf (Elt F) (arg2.view.loc (c : Thread nD τ))) (hT : TabOK c arg2 ft) (W : Waits sig Unit) (K : PUnit → sProp 𝕄) :
    iprop(tabP c arg2 ft ∗ allP c arg3 arg4 arg5 arg6 arg7 arg8 arg9 arg10 arg11 ∗ owes (c : Thread nD τ) 0 W
        ∗ (iprop(tabP c arg2 ft ∗ allP c arg3 arg4 arg5 arg6 arg7 arg8 arg9 arg10 arg11 ∗ ∃ W', owes (c : Thread nD τ) 0 W') -∗ K ⟨⟩))
      ⊢ wp frame (wpE (defs₀ (F := F)) Variants.none c none) Set.univ
          (cc0_combine i arg2 harg2 arg3 harg3 arg4 harg4 arg5 harg5 arg6 harg6 arg7 harg7 arg8 harg8 arg9 harg9 arg10 harg10 arg11 harg11) K := by
  simp only [cc0_combine_eq_skeleton]; unfold cc0_combine_skel
  iintro ⟨HT, ⟨⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩, HW, Hk⟩
  have hlt : (i 0).val < 7 := (i 0).isLt
  rcases (by omega : ((i 0).val = 0 ∧ (i 1).val = 0) ∨ ((i 0).val = 0 ∧ (i 1).val ≠ 0) ∨ (0 < (i 0).val ∧ (i 0).val < 6) ∨ (i 0).val = 6) with hc | hc | hc | hc
  all_goals
    first
    | have h1 : cond1 i := (cond1_iff i).2 (by omega)
    | have h1 : ¬ cond1 i := fun h => absurd ((cond1_iff i).1 h) (by omega)
    first
    | have h2 : cond2 i := (cond2_iff i).2 (by omega)
    | have h2 : ¬ cond2 i := fun h => absurd ((cond2_iff i).1 h) (by omega)
    first
    | have h3 : k0_cond3 i = 1#1 := (cond3_iff i).2 (by omega)
    | have h3 : ¬ k0_cond3 i = 1#1 := fun h => absurd ((cond3_iff i).1 h) (by omega)
    first
    | have h4 : k0_cond4 i = 1#1 := (cond4_iff i).2 (by omega)
    | have h4 : ¬ k0_cond4 i = 1#1 := fun h => absurd ((cond4_iff i).1 h) (by omega)
    first
    | have h5 : k0_cond5 i = 1#1 := (cond5_iff i).2 (by omega)
    | have h5 : ¬ k0_cond5 i = 1#1 := fun h => absurd ((cond5_iff i).1 h) (by omega)
    clear hc hlt
    sl_exec
    sl_step
    iapply Hk
    sl_close

end Cert.Proof.Kernel

end
-- ==== Proof.Frame.KRun.lean ====
/- `Kernel`'s launch: the body at every grid point from the pipeline's windows, whatever they hold, and @main. -/
module

public import proofs.«01_k».proof.Proof.Frame.KBody
public import Idealize.ShloMosaic.Lib.Pipeline.FrameBody

@[expose] public section

set_option maxRecDepth 8192
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The contents of a core's buffers at the call: the launch memory. -/
abbrev V (c : Dev nD) (b : Ref sig .tc) : Buf (Elt F) ((c : Thread nD τ).loc b) := m ((c : Thread nD τ).loc b)
/-- The table at the call, of the one device. -/
abbrev tbl : pre0.Contents (Elt F) := fun k => m (((0 : Dev nD) : Thread nD τ).loc (pre0.ref k))
abbrev adm (p : Fin 1) : (pcfgs (F := F) p).Adm := ⟨tbl m, trivial⟩

theorem PhiT0_eq (c : Dev nD) : (Pipeline.ΦT pre0 (tbl m) c : sProp 𝕄) = owns (c : Thread nD τ) (Memref.whole main_arg0) fullShare.right (m (((0 : Dev nD) : Thread nD τ).loc main_arg0)) := by
  unfold Pipeline.ΦT Pipeline.prefHeld
  rw [bigSep_univ_eq_bigSepL [(0 : Fin 1)] (by decide) (by decide), owns_whole]
  rfl

def forgets0 : Fin 5 → Bool := fun _ => true

def dats (_ : Fin 1) (c : Dev nD) : Dat τ (Elt F) Unit ℕ (UR sig nD τ) ℕ (cfg0 (adm m 0)) c where
  A w := V m c (Pipeline.arrRef spec0 w)
  after w t := Pipeline.Dat.unnamed (cfg := cfg0 (adm m 0)) w t
  Φ _ := iprop(Pipeline.ΦA spec0 c ∗ Pipeline.ΦT pre0 (tbl m) c)
  q _ := fullShare
  owed _ := 0

theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA
  rw [scopedRest0_eq]; simp only [owns_whole]; try rfl

/-- The staging memref of a window at a point. -/
abbrev stg0 (t : Fin (cfg0 (F := F) (adm m 0)).N) : Fin 5 → Bool := fun _ => true

abbrev bodyAt (t : Fin (cfg0 (F := F) (adm m 0)).N) (s : (w : Fin 5) → Fin (spec0 w).nbuf) : Prog (TpuEff nD τ sig (Elt F) Λ₀ .tc) PUnit :=
  cc0_combine (grid0.coords t) (Memref.whole main_arg0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _)

theorem defs₀_row (t : Fin (cfg0 (F := F) (adm m 0)).N) :
    defs₀ (F := F) .tc (cfg0 (adm m 0)).body ((cfg0 (adm m 0)).bodyArgs t ((cfg0 (adm m 0)).slots t)) = bodyAt m t ((cfg0 (adm m 0)).slots t) := by
  unfold defs₀; rw [Defs.onTc_tc]

/-- Every list entry of the launch memory's table names a pair of rows of the buffer. -/
def Lists : Prop := ∀ x : S64x128.Idx, (x 1).val < 48 → BitVec.toNat (w := 32) (m (((0 : Dev nD) : Thread nD τ).loc main_arg0) x) ≤ 36864

def bodyPre (c : Dev nD) (t : Fin (cfg0 (F := F) (adm m 0)).N) : sProp 𝕄 :=
  iprop((dats m 0 c).Φ t.castSucc ∗ (dats m 0 c).owesAt () t.castSucc
    ∗ (∃ d, owns (c : Thread nD τ) (spec0_0.stage ((cfg0 (adm m 0)).slots t 0)) fullShare d)
    ∗ (∃ d, owns (c : Thread nD τ) (spec0_1.stage ((cfg0 (adm m 0)).slots t 1)) fullShare d)
    ∗ (∃ d, owns (c : Thread nD τ) (spec0_2.stage ((cfg0 (adm m 0)).slots t 2)) fullShare d)
    ∗ (∃ d, owns (c : Thread nD τ) (spec0_3.stage ((cfg0 (adm m 0)).slots t 3)) fullShare d)
    ∗ (∃ d, owns (c : Thread nD τ) (spec0_4.stage ((cfg0 (adm m 0)).slots t 4)) fullShare d))

/-- The body at a point, from any contents to some contents. -/
theorem sound_body (hL : Lists m) (c : Dev nD) (t : Fin (cfg0 (F := F) (adm m 0)).N) :
    bodyPre m c t ⊢ wp frame (wpE (defs₀ (F := F)) Variants.none c none) Set.univ (bodyAt m t ((cfg0 (adm m 0)).slots t)) (fun _ => bodyPre m c t) := by
  unfold bodyPre
  rw [show (dats m 0 c).Φ t.castSucc = iprop(Pipeline.ΦA spec0 c ∗ Pipeline.ΦT pre0 (tbl m) c) from rfl, PhiT0_eq, PhiA0_eq]
  unfold Dat.owesAt Pipeline.owesWithin
  rw [show (dats m 0 c).owed t.castSucc = 0 from rfl]
  unfold owns
  iintro ⟨⟨⟨⟨⟨%d8, %f8, -, H8⟩, ⟨%d9, %f9, -, H9⟩, ⟨%d10, %f10, -, H10⟩, ⟨%d11, %f11, -, H11⟩⟩, Hg⟩, ⟨%ft, %ht, HT⟩⟩, ⟨%W, %hW, HO⟩, ⟨%d3, %f3, -, H3⟩, ⟨%d4, %f4, -, H4⟩, ⟨%d5, %f5, -, H5⟩, ⟨%d6, %f6, -, H6⟩, ⟨%d7, %f7, -, H7⟩⟩
  iapply (kernelRun c (grid0.coords t) _ _ _ _ _ _ _ _ _ _ _ _ _ _ _ _ _ _ _ _ ft ?_ W _)
  · intro x hx; rw [ht]; exact hL x hx
  isplitl [HT]; · iexact HT
  isplitl [H3 H4 H5 H6 H7 H8 H9 H10 H11]
  · isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11
  isplitl [HO]; · iexact HO
  iintro ⟨HT, ⟨⟨%g3, H3⟩, ⟨%g4, H4⟩, ⟨%g5, H5⟩, ⟨%g6, H6⟩, ⟨%g7, H7⟩, ⟨%g8, H8⟩, ⟨%g9, H9⟩, ⟨%g10, H10⟩, ⟨%g11, H11⟩⟩, ⟨%W', HO⟩⟩
  isplitl [HT H8 H9 H10 H11 Hg]
  · isplitl [H8 H9 H10 H11 Hg]
    · isplitl [H8 H9 H10 H11]
      · isplitl [H8]; · iexists _, g8; isplitr; swap; · iexact H8
                        ipureintro; rfl
        isplitl [H9]; · iexists _, g9; isplitr; swap; · iexact H9
                        ipureintro; rfl
        isplitl [H10]; · iexists _, g10; isplitr; swap; · iexact H10
                         ipureintro; rfl
        iexists _, g11; isplitr; swap; · iexact H11
        ipureintro; rfl
      iexact Hg
    iexists ft; isplitr; · ipureintro; exact ht
    iexact HT
  isplitl [HO]
  · iexists W'; isplitr; · ipureintro; exact fun _ _ => Or.inl trivial
    iexact HO
  isplitl [H3]; · iexists _, g3; isplitr; swap; · iexact H3
                  ipureintro; rfl
  isplitl [H4]; · iexists _, g4; isplitr; swap; · iexact H4
                  ipureintro; rfl
  isplitl [H5]; · iexists _, g5; isplitr; swap; · iexact H5
                  ipureintro; rfl
  isplitl [H6]; · iexists _, g6; isplitr; swap; · iexact H6
                  ipureintro; rfl
  iexists _, g7; isplitr; swap; · iexact H7
  ipureintro; rfl

theorem body_obligation (hL : Lists m) (c : Dev nD) :
    BodyObligation (dats (F := F) m 0 c) (defs₀ (F := F)) Variants.none () Set.univ forgets0 := fun t => by
  rw [bigSep_W0, bigSep_W0, defs₀_row]
  exact triple_restated (sound_body m hL c t) rfl .rfl fun _ => .rfl

theorem hmain : Pipeline.HMainP (Ix := Unit) (Name := ℕ) (U := UR sig nD τ) (Lvl := ℕ) pcfgs 0 defs₀ Variants.none m (main (F := F)) (V m) :=
  Pipeline.hmainP_region pcfgs 0 defs₀ Variants.none m main fun c => (main_chain c).trans rfl

set_option backward.isDefEq.respectTransparency.types false in
/-- Every run of @main ends, with every argument as it was and every semaphore counter at zero. -/
theorem run_main (hL : Lists m) :
    θ_run defs (onTc (τ := τ) (main (F := F))) (s₀ m ρ)
      (fun r => Pipeline.RDat.FramePost (cfg0 (adm m 0)) (fun c => (dats m 0 c).toRForget forgets0) (V m) r ∧ r.2.sem = fun _ => 0) :=
  Pipeline.θ_run_frameP_forget (Q' := _) pcfgs (adm m) (dats m) (0 : Fin 1) launch0 defs₀ Variants.none forgets0 m ρ main
    (hbody := fun c => (body_obligation m hL c).loose) (hshare := fun c => (dats m 0 c).share_full fun _ => rfl)
    (howed := fun _ _ => rfl) (V := V m) (hmain := hmain m) (hA := fun _ _ => rfl)
    (hpf := fun c k => by rw [Subsingleton.elim c 0])
    (hΦ := fun _ _ => rfl)

variable {m ρ}

/-- An input window's array is as it was at the call. -/
theorem in_kept {r : PUnit × MemSt nD τ sig (Elt F)}
    (h : Pipeline.RDat.FramePost (cfg0 (adm m 0)) (fun c => (dats m 0 c).toRForget forgets0) (V m) r) (c : Dev nD) (w : Fin 5) (hw : (spec0 w).isOut = false) :
    r.2.mem ((spec0 w).arr.view.loc (c : Thread nD τ)) = m ((spec0 w).arr.view.loc (c : Thread nD τ)) := by
  have h1 := (h c).1 w
  have h2 := Pipeline.RDat.ArrAt_in ((dats m 0 c).toRForget forgets0) w hw (cfg0 (adm m 0)).N
  rw [h2] at h1
  exact h1

theorem frame_main (hL : Lists m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => ⟨
      (h.1 c).2 main_arg0 (Pipeline.mem_restRefs_of main_arg0 (by decide) (by decide : ∀ w : Fin 5, (spec0 w).arr.view.ref ≠ main_arg0)),
      in_kept h.1 c 0 rfl, in_kept h.1 c 1 rfl, in_kept h.1 c 2 rfl, in_kept h.1 c 3 rfl⟩, h.2⟩)
    (run_main m ρ hL)

end Cert.Proof.Kernel

end
-- ==== Proof.Frame.ICommon.lean ====
/- What the passes through `KernelIdeal`'s body share: a buffer held at some contents, the table's range, the side conditions it meets and the
   branches of a grid point. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Affine
public import Mathlib.Tactic.IntervalCases
public import Mathlib.Tactic.FinCases

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
abbrev 𝒱₀ : Variants := Variants.none

section Loops

variable (c : Dev nD) (i : grid0.Coords)
  (arg2 : Memref sig .tc .smem S64x128 .i32) (harg2 : arg2.IsWhole)
  (arg3 : Memref sig .tc .vmem S256x1024 .bf16) (harg3 : arg3.IsWhole)
  (arg4 : Memref sig .tc .vmem S1024x1024 .fp8e4m3) (harg4 : arg4.IsWhole)
  (arg5 : Memref sig .tc .vmem S1024x128 .bf16) (harg5 : arg5.IsWhole)
  (arg6 : Memref sig .tc .vmem S6144x256 .bf16) (harg6 : arg6.IsWhole)
  (arg7 : Memref sig .tc .vmem S256x1024 .bf16) (harg7 : arg7.IsWhole)
  (arg8 : Memref sig .tc .vmem S73764x2x128 .bf16) (harg8 : arg8.IsWhole)
  (arg9 : Memref sig .tc .vmem S800x2x128 .bf16) (harg9 : arg9.IsWhole)
  (arg10 : Memref sig .tc .vmem S800x2x128 .bf16) (harg10 : arg10.IsWhole)
  (arg11 : Memref sig .tc .vmem S512x2x128 .bf16) (harg11 : arg11.IsWhole)

/-- A buffer held whole at some contents. -/
abbrev anyP {sp : Space} {S : Shape} {e : EltTy} (M : Memref sig .tc sp S e) : sProp 𝕄 :=
  iprop(∃ f, M.view.loc (c : Thread nD τ) ↦[M.view.set]{fullShare} f)
/-- The table held for reading at the contents `ft`. -/
abbrev tabP (ft : Buf (Elt F) (arg2.view.loc (c : Thread nD τ))) : sProp 𝕄 :=
  arg2.view.loc (c : Thread nD τ) ↦[arg2.view.set]{fullShare.right} ft
/-- Every list entry of the table names a pair of rows of the buffer, as a word address. -/
def TabOK (ft : Buf (Elt F) (arg2.view.loc (c : Thread nD τ))) : Prop :=
  ∀ x : S64x128.Idx, (x 1).val < 48 → BitVec.toNat (w := 32) (arg2.view.read (Elt F) ft x) ≤ 36864

/-- The parity of the pair buffer a round reads starts at word 0 or at word 36882. -/
theorem src_le (x : ℕ) (hx : x < 7) : BitVec.toNat (Scalar.muli (Scalar.andi (Scalar.addi (BitVec.ofNat 32 x) 1#32) 1#32) 36882#32) ≤ 36882 := by
  interval_cases x <;> decide
theorem word_le (a v d : BitVec 32) (ha : a.toNat ≤ 36882) (hv : v.toNat ≤ 36864) (hd : d.toNat ≤ 9) :
    (Scalar.indexCast (Scalar.addi (Scalar.addi a v) d)).toNat ≤ 73755 := by
  show (Scalar.addi (Scalar.addi a v) d).toNat ≤ _
  simp only [Scalar.addi, IntOp.addi, BitVec.toNat_add]; omega
theorem pick_le (r : Fin 2) : (BitVec.ofNat 32 (9 * r.val)).toNat ≤ 9 := by fin_cases r <;> decide
theorem chk1_of (v : BitVec 32) (hv : v.toNat ≤ 36864) : k0_chk1 i v := by
  intro _ r a
  have key : (k0_off19 i v (BitVec.ofNat 32 (9 * r.val))) 0 ≤ 73755 := word_le _ _ _ (src_le _ (i 0).isLt) hv (pick_le r)
  fin_cases a
  · exact Nat.le_trans (Nat.add_le_add_right key 8) (by decide)
  · exact Nat.le_refl 2
  · exact Nat.le_refl 128
theorem chk2_of (v : BitVec 32) (hv : v.toNat ≤ 36864) : k0_chk2 i v := by
  intro _ r a
  have key : (k0_off44 i v (BitVec.ofNat 32 (9 * r.val))) 0 ≤ 73755 := word_le _ _ _ (src_le _ (i 0).isLt) hv (pick_le r)
  fin_cases a
  · exact Nat.le_trans (Nat.add_le_add_right key 8) (by decide)
  · exact Nat.le_refl 2
  · exact Nat.le_refl 128
theorem chk3_of (v : BitVec 32) (hv : v.toNat ≤ 36864) : k0_chk3 i v := by
  intro _ r a
  have key : (k0_off64 i v (BitVec.ofNat 32 (9 * r.val))) 0 ≤ 73755 := word_le _ _ _ (src_le _ (i 0).isLt) hv (pick_le r)
  fin_cases a
  · exact Nat.le_trans (Nat.add_le_add_right key 8) (by decide)
  · exact Nat.le_refl 2
  · exact Nat.le_refl 128
theorem chk4_of (v : BitVec 32) (hv : v.toNat ≤ 36864) : k0_chk4 i v := by
  intro _ r a
  have key : (k0_off72 i v (BitVec.ofNat 32 (9 * r.val))) 0 ≤ 73755 := word_le _ _ _ (src_le _ (i 0).isLt) hv (pick_le r)
  fin_cases a
  · exact Nat.le_trans (Nat.add_le_add_right key 8) (by decide)
  · exact Nat.le_refl 2
  · exact Nat.le_refl 128

/-- A trip number read back from its word. -/
theorem iv_lt (n : ℕ) (k : ℕ) (hk : k < n) (hn : n ≤ 48) : (Scalar.indexCast (Scf.iv 0#32 1#32 k)).toNat < n := by
  have : (Scf.iv 0#32 1#32 k).toNat = k := by
    have hk' : k < 48 := by omega
    interval_cases k <;> rfl
  show (Scf.iv 0#32 1#32 k).toNat < n
  omega

end Loops

/-! ## The branches of a point -/

abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
abbrev cond2 (i : grid0.Coords) : Prop :=
  Scalar.cmpi .ne (Scalar.extui (Scalar.cmpi .slt (BitVec.ofNat 32 (i 0).val) 6#32)) 0#32 = 1#1

theorem cond1_iff (i : grid0.Coords) : cond1 i ↔ (i 0).val = 0 ∧ (i 1).val = 0 :=
  (by decide : ∀ (a : Fin 7) (b : Fin 8), Scalar.cmpi .ne (Scalar.extui (Scalar.andi (Scalar.cmpi .eq (BitVec.ofNat 32 a.val) 0#32) (Scalar.cmpi .eq (BitVec.ofNat 32 b.val) 0#32))) 0#32 = 1#1 ↔ a.val = 0 ∧ b.val = 0) (i 0) (i 1)
theorem cond2_iff (i : grid0.Coords) : cond2 i ↔ (i 0).val < 6 :=
  (by decide : ∀ (a : Fin 7), Scalar.cmpi .ne (Scalar.extui (Scalar.cmpi .slt (BitVec.ofNat 32 a.val) 6#32)) 0#32 = 1#1 ↔ a.val < 6) (i 0)
theorem cond3_iff (i : grid0.Coords) : k0_cond3 i = 1#1 ↔ (i 0).val = 0 :=
  (by decide : ∀ (a : Fin 7), Scalar.cmpi .ne (Scalar.extui (Scalar.cmpi .eq (BitVec.ofNat 32 a.val) 0#32)) 0#32 = 1#1 ↔ a.val = 0) (i 0)
theorem cond4_iff (i : grid0.Coords) : k0_cond4 i = 1#1 ↔ 0 < (i 0).val ∧ (i 0).val < 6 :=
  (by decide : ∀ (a : Fin 7), Scalar.cmpi .ne (Scalar.extui (Scalar.andi (Scalar.cmpi .sgt (BitVec.ofNat 32 a.val) 0#32) (Scalar.cmpi .slt (BitVec.ofNat 32 a.val) 6#32))) 0#32 = 1#1 ↔ 0 < a.val ∧ a.val < 6) (i 0)
theorem cond5_iff (i : grid0.Coords) : k0_cond5 i = 1#1 ↔ (i 0).val = 6 :=
  (by decide : ∀ (a : Fin 7), Scalar.cmpi .ne (Scalar.extui (Scalar.cmpi .eq (BitVec.ofNat 32 a.val) 6#32)) 0#32 = 1#1 ↔ a.val = 6) (i 0)

end Cert.Proof.KernelIdeal

end
-- ==== Proof.Frame.ILoops.lean ====
/- The counted loops of `KernelIdeal`'s body, gone through once per trip: every buffer a loop stores into is held at some
   contents, the table at its contents, whose first 48 words a row lie inside the pair buffer. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Affine
public import Mathlib.Tactic.IntervalCases
public import Mathlib.Tactic.FinCases
public import proofs.«01_k».proof.Proof.Frame.ICommon

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Loops

variable (c : Dev nD) (i : grid0.Coords)
  (arg2 : Memref sig .tc .smem S64x128 .i32) (harg2 : arg2.IsWhole)
  (arg3 : Memref sig .tc .vmem S256x1024 .bf16) (harg3 : arg3.IsWhole)
  (arg4 : Memref sig .tc .vmem S1024x1024 .fp8e4m3) (harg4 : arg4.IsWhole)
  (arg5 : Memref sig .tc .vmem S1024x128 .bf16) (harg5 : arg5.IsWhole)
  (arg6 : Memref sig .tc .vmem S6144x256 .bf16) (harg6 : arg6.IsWhole)
  (arg7 : Memref sig .tc .vmem S256x1024 .bf16) (harg7 : arg7.IsWhole)
  (arg8 : Memref sig .tc .vmem S73764x2x128 .bf16) (harg8 : arg8.IsWhole)
  (arg9 : Memref sig .tc .vmem S800x2x128 .bf16) (harg9 : arg9.IsWhole)
  (arg10 : Memref sig .tc .vmem S800x2x128 .bf16) (harg10 : arg10.IsWhole)
  (arg11 : Memref sig .tc .vmem S512x2x128 .bf16) (harg11 : arg11.IsWhole)

set_option warn.classDefReducibility false in
@[sl_loop] def loopInv_k0_t1 (arg1 v4 : BitVec 32) (k0_h3 : k0_cond3 i = 1#1)
     :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg1 v4 k0_h3 where
  inv k acc := iprop(anyP c arg4 ∗ anyP c arg8 ∗ anyP c arg11)
  step k acc := by
    unfold k0_t1_body
    iintro ⟨⟨%f4, H4⟩, ⟨%f8, H8⟩, ⟨%f11, H11⟩⟩
    sl_exec_parts
    sl_step
    sl_close

set_option warn.classDefReducibility false in
@[sl_loop] def loopInv_k0_t3 (arg1 v2 : BitVec 32) (k0_h4 : k0_cond4 i = 1#1) (c0_i32_13 c1_i32_14 : BitVec 32) (k0_t2 : Fin k0_t2_loop.trips)
    (ft : Buf (Elt F) (arg2.view.loc (c : Thread nD τ))) :
    LoopInvTy_k0_t3 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 k0_h4 c0_i32_13 c1_i32_14 k0_t2 where
  inv k acc := iprop(⌜TabOK c arg2 ft⌝ ∗ tabP c arg2 ft ∗ anyP c arg8 ∗ anyP c arg9)
  step k acc := by
    unfold k0_t3_body
    iintro ⟨%hT, HT, ⟨%f8, H8⟩, ⟨%f9, H9⟩⟩
    sl_exec
    have hw : k0_chk1 i (loopInv_k0_t3.sl.r c i arg2 k0_h4 k0_t2 ft k) := by
      apply chk1_of
      unfold loopInv_k0_t3.sl.r
      refine hT _ ?_
      show _ + 1 * 0 < 48
      exact iv_lt 48 k.val k.isLt (by decide)
    sl_exec
    sl_step
    sl_close

set_option warn.classDefReducibility false in
@[sl_loop] def loopInv_k0_t4 (arg1 v2 v4 : BitVec 32) (k0_h4 : k0_cond4 i = 1#1) (k0_t2 : Fin k0_t2_loop.trips) (arg12 v26 : BitVec 32) (v33 : FVec F S96x192 .bf16) (v91_raw : Vec F S96x2x128 .bf16) (v91_lo : FVec F S96x128 .bf16)
     :
    LoopInvTy_k0_t4 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 v4 k0_h4 k0_t2 arg12 v26 v33 v91_raw v91_lo where
  inv k acc := iprop(anyP c arg4 ∗ anyP c arg8 ∗ anyP c arg11)
  step k acc := by
    unfold k0_t4_body
    iintro ⟨⟨%f4, H4⟩, ⟨%f8, H8⟩, ⟨%f11, H11⟩⟩
    sl_exec_parts
    sl_step
    sl_close

set_option warn.classDefReducibility false in
@[sl_loop] def loopInv_k0_t5 (arg1 v2 v4 : BitVec 32) (k0_h4 : k0_cond4 i = 1#1) (k0_t2 : Fin k0_t2_loop.trips) (arg12 v26 : BitVec 32) (v33 : FVec F S96x192 .bf16) (v91_raw : Vec F S96x2x128 .bf16) (v91_lo : FVec F S96x128 .bf16)
    (ft : Buf (Elt F) (arg2.view.loc (c : Thread nD τ))) :
    LoopInvTy_k0_t5 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 v4 k0_h4 k0_t2 arg12 v26 v33 v91_raw v91_lo where
  inv k acc := iprop(⌜TabOK c arg2 ft⌝ ∗ tabP c arg2 ft ∗ anyP c arg8 ∗ anyP c arg10)
  step k acc := by
    unfold k0_t5_body
    iintro ⟨%hT, HT, ⟨%f8, H8⟩, ⟨%f10, H10⟩⟩
    sl_exec
    have hw : k0_chk2 i (loopInv_k0_t5.sl.r c i arg2 k0_h4 k0_t2 ft k) := by
      apply chk2_of
      unfold loopInv_k0_t5.sl.r
      refine hT _ ?_
      show _ + 1 * 0 < 48
      exact iv_lt 48 k.val k.isLt (by decide)
    sl_exec
    sl_step
    sl_close

set_option warn.classDefReducibility false in
@[sl_loop] def loopInv_k0_t6 (arg1 v4 : BitVec 32) (k0_h4 : k0_cond4 i = 1#1) (k0_t2 : Fin k0_t2_loop.trips) (v112 : BitVec 32)
     :
    LoopInvTy_k0_t6 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg1 v4 k0_h4 k0_t2 v112 where
  inv k acc := iprop(anyP c arg4 ∗ anyP c arg8 ∗ anyP c arg11)
  step k acc := by
    unfold k0_t6_body
    iintro ⟨⟨%f4, H4⟩, ⟨%f8, H8⟩, ⟨%f11, H11⟩⟩
    sl_exec_parts
    sl_step
    sl_close

set_option warn.classDefReducibility false in
@[sl_loop] def loopInv_k0_t8 (arg1 v2 : BitVec 32) (k0_h5 : k0_cond5 i = 1#1) (c0_i32_13 c1_i32_14 : BitVec 32) (k0_t7 : Fin k0_t7_loop.trips)
    (ft : Buf (Elt F) (arg2.view.loc (c : Thread nD τ))) :
    LoopInvTy_k0_t8 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 k0_h5 c0_i32_13 c1_i32_14 k0_t7 where
  inv k acc := iprop(⌜TabOK c arg2 ft⌝ ∗ tabP c arg2 ft ∗ anyP c arg8 ∗ anyP c arg9)
  step k acc := by
    unfold k0_t8_body
    iintro ⟨%hT, HT, ⟨%f8, H8⟩, ⟨%f9, H9⟩⟩
    sl_exec
    have hw : k0_chk3 i (loopInv_k0_t8.sl.r c i arg2 k0_h5 k0_t7 ft k) := by
      apply chk3_of
      unfold loopInv_k0_t8.sl.r
      refine hT _ ?_
      show _ + 1 * 0 < 48
      exact iv_lt 48 k.val k.isLt (by decide)
    sl_exec
    sl_step
    sl_close

set_option warn.classDefReducibility false in
@[sl_loop] def loopInv_k0_t9 (arg1 v2 : BitVec 32) (k0_h5 : k0_cond5 i = 1#1) (k0_t7 : Fin k0_t7_loop.trips) (arg12 v26 : BitVec 32) (v33 : FVec F S96x192 .bf16) (v91_raw : Vec F S96x2x128 .bf16) (v91_lo : FVec F S96x128 .bf16)
    (ft : Buf (Elt F) (arg2.view.loc (c : Thread nD τ))) :
    LoopInvTy_k0_t9 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 k0_h5 k0_t7 arg12 v26 v33 v91_raw v91_lo where
  inv k acc := iprop(⌜TabOK c arg2 ft⌝ ∗ tabP c arg2 ft ∗ anyP c arg8 ∗ anyP c arg10)
  step k acc := by
    unfold k0_t9_body
    iintro ⟨%hT, HT, ⟨%f8, H8⟩, ⟨%f10, H10⟩⟩
    sl_exec
    have hw : k0_chk4 i (loopInv_k0_t9.sl.r c i arg2 k0_h5 k0_t7 ft k) := by
      apply chk4_of
      unfold loopInv_k0_t9.sl.r
      refine hT _ ?_
      show _ + 1 * 0 < 48
      exact iv_lt 48 k.val k.isLt (by decide)
    sl_exec
    sl_step
    sl_close

set_option warn.classDefReducibility false in
@[sl_loop] def loopInv_k0_t2 (arg1 v2 v4 : BitVec 32) (k0_h4 : k0_cond4 i = 1#1)
    (ft : Buf (Elt F) (arg2.view.loc (c : Thread nD τ))) :
    LoopInvTy_k0_t2 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 v4 k0_h4 where
  inv k acc := iprop(⌜TabOK c arg2 ft⌝ ∗ tabP c arg2 ft ∗ anyP c arg3 ∗ anyP c arg4 ∗ anyP c arg6 ∗ anyP c arg7 ∗ anyP c arg8 ∗ anyP c arg9 ∗ anyP c arg10 ∗ anyP c arg11)
  step k acc := by
    unfold k0_t2_body
    iintro ⟨%hT, HT, ⟨%f3, H3⟩, ⟨%f4, H4⟩, ⟨%f6, H6⟩, ⟨%f7, H7⟩, ⟨%f8, H8⟩, ⟨%f9, H9⟩, ⟨%f10, H10⟩, ⟨%f11, H11⟩⟩
    sl_exec_parts
    sl_step
    sl_close

set_option warn.classDefReducibility false in
@[sl_loop] def loopInv_k0_t7 (arg1 v2 : BitVec 32) (k0_h5 : k0_cond5 i = 1#1)
    (ft : Buf (Elt F) (arg2.view.loc (c : Thread nD τ))) :
    LoopInvTy_k0_t7 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 k0_h5 where
  inv k acc := iprop(⌜TabOK c arg2 ft⌝ ∗ tabP c arg2 ft ∗ anyP c arg3 ∗ anyP c arg6 ∗ anyP c arg7 ∗ anyP c arg8 ∗ anyP c arg9 ∗ anyP c arg10)
  step k acc := by
    unfold k0_t7_body
    iintro ⟨%hT, HT, ⟨%f3, H3⟩, ⟨%f6, H6⟩, ⟨%f7, H7⟩, ⟨%f8, H8⟩, ⟨%f9, H9⟩, ⟨%f10, H10⟩⟩
    sl_exec_parts
    sl_step
    sl_close

end Loops

end Cert.Proof.KernelIdeal

end
-- ==== Proof.Frame.IBody.lean ====
/- `KernelIdeal`'s body run once at any grid point, from any contents: the branches of the point decided from its two coordinates, the
   loops gone through by their invariants. -/
module

public import proofs.«01_k».proof.Proof.Frame.ILoops
public import Idealize.ShloMosaic.Lib.Pipeline.Frame
public import Idealize.ShloMosaic.Lib.Tactic

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The body, run once -/

variable (c : Dev nD) (i : grid0.Coords)
  (arg2 : Memref sig .tc .smem S64x128 .i32) (harg2 : arg2.IsWhole)
  (arg3 : Memref sig .tc .vmem S256x1024 .bf16) (harg3 : arg3.IsWhole)
  (arg4 : Memref sig .tc .vmem S1024x1024 .fp8e4m3) (harg4 : arg4.IsWhole)
  (arg5 : Memref sig .tc .vmem S1024x128 .bf16) (harg5 : arg5.IsWhole)
  (arg6 : Memref sig .tc .vmem S6144x256 .bf16) (harg6 : arg6.IsWhole)
  (arg7 : Memref sig .tc .vmem S256x1024 .bf16) (harg7 : arg7.IsWhole)
  (arg8 : Memref sig .tc .vmem S73764x2x128 .bf16) (harg8 : arg8.IsWhole)
  (arg9 : Memref sig .tc .vmem S800x2x128 .bf16) (harg9 : arg9.IsWhole)
  (arg10 : Memref sig .tc .vmem S800x2x128 .bf16) (harg10 : arg10.IsWhole)
  (arg11 : Memref sig .tc .vmem S512x2x128 .bf16) (harg11 : arg11.IsWhole)

/-- What the body is handed and hands back, beside the table: every window's staging buffer and every scratch buffer at some contents. -/
abbrev allP : sProp 𝕄 :=
  iprop(anyP c arg3 ∗ anyP c arg4 ∗ anyP c arg5 ∗ anyP c arg6 ∗ anyP c arg7 ∗ anyP c arg8 ∗ anyP c arg9 ∗ anyP c arg10 ∗ anyP c arg11)

theorem kernelRun (ft : Buf (Elt F) (arg2.view.loc (c : Thread nD τ))) (hT : TabOK c arg2 ft) (W : Waits sig Unit) (K : PUnit → sProp 𝕄) :
    iprop(tabP c arg2 ft ∗ allP c arg3 arg4 arg5 arg6 arg7 arg8 arg9 arg10 arg11 ∗ owes (c : Thread nD τ) 0 W
        ∗ (iprop(tabP c arg2 ft ∗ allP c arg3 arg4 arg5 arg6 arg7 arg8 arg9 arg10 arg11 ∗ ∃ W', owes (c : Thread nD τ) 0 W') -∗ K ⟨⟩))
      ⊢ wp frame (wpE (defs₀ (F := F)) Variants.none c none) Set.univ
          (cc0_combine i arg2 harg2 arg3 harg3 arg4 harg4 arg5 harg5 arg6 harg6 arg7 harg7 arg8 harg8 arg9 harg9 arg10 harg10 arg11 harg11) K := by
  simp only [cc0_combine_eq_skeleton]; unfold cc0_combine_skel
  iintro ⟨HT, ⟨⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩, HW, Hk⟩
  have hlt : (i 0).val < 7 := (i 0).isLt
  rcases (by omega : ((i 0).val = 0 ∧ (i 1).val = 0) ∨ ((i 0).val = 0 ∧ (i 1).val ≠ 0) ∨ (0 < (i 0).val ∧ (i 0).val < 6) ∨ (i 0).val = 6) with hc | hc | hc | hc
  all_goals
    first
    | have h1 : cond1 i := (cond1_iff i).2 (by omega)
    | have h1 : ¬ cond1 i := fun h => absurd ((cond1_iff i).1 h) (by omega)
    first
    | have h2 : cond2 i := (cond2_iff i).2 (by omega)
    | have h2 : ¬ cond2 i := fun h => absurd ((cond2_iff i).1 h) (by omega)
    first
    | have h3 : k0_cond3 i = 1#1 := (cond3_iff i).2 (by omega)
    | have h3 : ¬ k0_cond3 i = 1#1 := fun h => absurd ((cond3_iff i).1 h) (by omega)
    first
    | have h4 : k0_cond4 i = 1#1 := (cond4_iff i).2 (by omega)
    | have h4 : ¬ k0_cond4 i = 1#1 := fun h => absurd ((cond4_iff i).1 h) (by omega)
    first
    | have h5 : k0_cond5 i = 1#1 := (cond5_iff i).2 (by omega)
    | have h5 : ¬ k0_cond5 i = 1#1 := fun h => absurd ((cond5_iff i).1 h) (by omega)
    clear hc hlt
    sl_exec
    sl_step
    iapply Hk
    sl_close

end Cert.Proof.KernelIdeal

end
-- ==== Proof.Frame.IRun.lean ====
/- `KernelIdeal`'s launch: the body at every grid point from the pipeline's windows, whatever they hold, and @main. -/
module

public import proofs.«01_k».proof.Proof.Frame.IBody
public import Idealize.ShloMosaic.Lib.Pipeline.FrameBody

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The contents of a core's buffers at the call: the launch memory. -/
abbrev V (c : Dev nD) (b : Ref sig .tc) : Buf (Elt F) ((c : Thread nD τ).loc b) := m ((c : Thread nD τ).loc b)
/-- The table at the call, of the one device. -/
abbrev tbl : pre0.Contents (Elt F) := fun k => m (((0 : Dev nD) : Thread nD τ).loc (pre0.ref k))
abbrev adm (p : Fin 1) : (pcfgs (F := F) p).Adm := ⟨tbl m, trivial⟩

theorem PhiT0_eq (c : Dev nD) : (Pipeline.ΦT pre0 (tbl m) c : sProp 𝕄) = owns (c : Thread nD τ) (Memref.whole main_arg0) fullShare.right (m (((0 : Dev nD) : Thread nD τ).loc main_arg0)) := by
  unfold Pipeline.ΦT Pipeline.prefHeld
  rw [bigSep_univ_eq_bigSepL [(0 : Fin 1)] (by decide) (by decide), owns_whole]
  rfl

def forgets0 : Fin 5 → Bool := fun _ => true

def dats (_ : Fin 1) (c : Dev nD) : Dat τ (Elt F) Unit ℕ (UR sig nD τ) ℕ (cfg0 (adm m 0)) c where
  A w := V m c (Pipeline.arrRef spec0 w)
  after w t := Pipeline.Dat.unnamed (cfg := cfg0 (adm m 0)) w t
  Φ _ := iprop(Pipeline.ΦA spec0 c ∗ Pipeline.ΦT pre0 (tbl m) c)
  q _ := fullShare
  owed _ := 0

theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA
  rw [scopedRest0_eq]; simp only [owns_whole]; try rfl

/-- The staging memref of a window at a point. -/
abbrev stg0 (t : Fin (cfg0 (F := F) (adm m 0)).N) : Fin 5 → Bool := fun _ => true

abbrev bodyAt (t : Fin (cfg0 (F := F) (adm m 0)).N) (s : (w : Fin 5) → Fin (spec0 w).nbuf) : Prog (TpuEff nD τ sig (Elt F) Λ₀ .tc) PUnit :=
  cc0_combine (grid0.coords t) (Memref.whole main_arg0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _)

theorem defs₀_row (t : Fin (cfg0 (F := F) (adm m 0)).N) :
    defs₀ (F := F) .tc (cfg0 (adm m 0)).body ((cfg0 (adm m 0)).bodyArgs t ((cfg0 (adm m 0)).slots t)) = bodyAt m t ((cfg0 (adm m 0)).slots t) := by
  unfold defs₀; rw [Defs.onTc_tc]

/-- Every list entry of the launch memory's table names a pair of rows of the buffer. -/
def Lists : Prop := ∀ x : S64x128.Idx, (x 1).val < 48 → BitVec.toNat (w := 32) (m (((0 : Dev nD) : Thread nD τ).loc main_arg0) x) ≤ 36864

def bodyPre (c : Dev nD) (t : Fin (cfg0 (F := F) (adm m 0)).N) : sProp 𝕄 :=
  iprop((dats m 0 c).Φ t.castSucc ∗ (dats m 0 c).owesAt () t.castSucc
    ∗ (∃ d, owns (c : Thread nD τ) (spec0_0.stage ((cfg0 (adm m 0)).slots t 0)) fullShare d)
    ∗ (∃ d, owns (c : Thread nD τ) (spec0_1.stage ((cfg0 (adm m 0)).slots t 1)) fullShare d)
    ∗ (∃ d, owns (c : Thread nD τ) (spec0_2.stage ((cfg0 (adm m 0)).slots t 2)) fullShare d)
    ∗ (∃ d, owns (c : Thread nD τ) (spec0_3.stage ((cfg0 (adm m 0)).slots t 3)) fullShare d)
    ∗ (∃ d, owns (c : Thread nD τ) (spec0_4.stage ((cfg0 (adm m 0)).slots t 4)) fullShare d))

/-- The body at a point, from any contents to some contents. -/
theorem sound_body (hL : Lists m) (c : Dev nD) (t : Fin (cfg0 (F := F) (adm m 0)).N) :
    bodyPre m c t ⊢ wp frame (wpE (defs₀ (F := F)) Variants.none c none) Set.univ (bodyAt m t ((cfg0 (adm m 0)).slots t)) (fun _ => bodyPre m c t) := by
  unfold bodyPre
  rw [show (dats m 0 c).Φ t.castSucc = iprop(Pipeline.ΦA spec0 c ∗ Pipeline.ΦT pre0 (tbl m) c) from rfl, PhiT0_eq, PhiA0_eq]
  unfold Dat.owesAt Pipeline.owesWithin
  rw [show (dats m 0 c).owed t.castSucc = 0 from rfl]
  unfold owns
  iintro ⟨⟨⟨⟨⟨%d8, %f8, -, H8⟩, ⟨%d9, %f9, -, H9⟩, ⟨%d10, %f10, -, H10⟩, ⟨%d11, %f11, -, H11⟩⟩, Hg⟩, ⟨%ft, %ht, HT⟩⟩, ⟨%W, %hW, HO⟩, ⟨%d3, %f3, -, H3⟩, ⟨%d4, %f4, -, H4⟩, ⟨%d5, %f5, -, H5⟩, ⟨%d6, %f6, -, H6⟩, ⟨%d7, %f7, -, H7⟩⟩
  iapply (kernelRun c (grid0.coords t) _ _ _ _ _ _ _ _ _ _ _ _ _ _ _ _ _ _ _ _ ft ?_ W _)
  · intro x hx; rw [ht]; exact hL x hx
  isplitl [HT]; · iexact HT
  isplitl [H3 H4 H5 H6 H7 H8 H9 H10 H11]
  · isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11
  isplitl [HO]; · iexact HO
  iintro ⟨HT, ⟨⟨%g3, H3⟩, ⟨%g4, H4⟩, ⟨%g5, H5⟩, ⟨%g6, H6⟩, ⟨%g7, H7⟩, ⟨%g8, H8⟩, ⟨%g9, H9⟩, ⟨%g10, H10⟩, ⟨%g11, H11⟩⟩, ⟨%W', HO⟩⟩
  isplitl [HT H8 H9 H10 H11 Hg]
  · isplitl [H8 H9 H10 H11 Hg]
    · isplitl [H8 H9 H10 H11]
      · isplitl [H8]; · iexists _, g8; isplitr; swap; · iexact H8
                        ipureintro; rfl
        isplitl [H9]; · iexists _, g9; isplitr; swap; · iexact H9
                        ipureintro; rfl
        isplitl [H10]; · iexists _, g10; isplitr; swap; · iexact H10
                         ipureintro; rfl
        iexists _, g11; isplitr; swap; · iexact H11
        ipureintro; rfl
      iexact Hg
    iexists ft; isplitr; · ipureintro; exact ht
    iexact HT
  isplitl [HO]
  · iexists W'; isplitr; · ipureintro; exact fun _ _ => Or.inl trivial
    iexact HO
  isplitl [H3]; · iexists _, g3; isplitr; swap; · iexact H3
                  ipureintro; rfl
  isplitl [H4]; · iexists _, g4; isplitr; swap; · iexact H4
                  ipureintro; rfl
  isplitl [H5]; · iexists _, g5; isplitr; swap; · iexact H5
                  ipureintro; rfl
  isplitl [H6]; · iexists _, g6; isplitr; swap; · iexact H6
                  ipureintro; rfl
  iexists _, g7; isplitr; swap; · iexact H7
  ipureintro; rfl

theorem body_obligation (hL : Lists m) (c : Dev nD) :
    BodyObligation (dats (F := F) m 0 c) (defs₀ (F := F)) Variants.none () Set.univ forgets0 := fun t => by
  rw [bigSep_W0, bigSep_W0, defs₀_row]
  exact triple_restated (sound_body m hL c t) rfl .rfl fun _ => .rfl

theorem hmain : Pipeline.HMainP (Ix := Unit) (Name := ℕ) (U := UR sig nD τ) (Lvl := ℕ) pcfgs 0 defs₀ Variants.none m (main (F := F)) (V m) :=
  Pipeline.hmainP_region pcfgs 0 defs₀ Variants.none m main fun c => (main_chain c).trans rfl

set_option backward.isDefEq.respectTransparency.types false in
/-- Every run of @main ends, with every argument as it was and every semaphore counter at zero. -/
theorem run_main (hL : Lists m) :
    θ_run defs (onTc (τ := τ) (main (F := F))) (s₀ m ρ)
      (fun r => Pipeline.RDat.FramePost (cfg0 (adm m 0)) (fun c => (dats m 0 c).toRForget forgets0) (V m) r ∧ r.2.sem = fun _ => 0) :=
  Pipeline.θ_run_frameP_forget (Q' := _) pcfgs (adm m) (dats m) (0 : Fin 1) launch0 defs₀ Variants.none forgets0 m ρ main
    (hbody := fun c => (body_obligation m hL c).loose) (hshare := fun c => (dats m 0 c).share_full fun _ => rfl)
    (howed := fun _ _ => rfl) (V := V m) (hmain := hmain m) (hA := fun _ _ => rfl)
    (hpf := fun c k => by rw [Subsingleton.elim c 0])
    (hΦ := fun _ _ => rfl)

variable {m ρ}

/-- An input window's array is as it was at the call. -/
theorem in_kept {r : PUnit × MemSt nD τ sig (Elt F)}
    (h : Pipeline.RDat.FramePost (cfg0 (adm m 0)) (fun c => (dats m 0 c).toRForget forgets0) (V m) r) (c : Dev nD) (w : Fin 5) (hw : (spec0 w).isOut = false) :
    r.2.mem ((spec0 w).arr.view.loc (c : Thread nD τ)) = m ((spec0 w).arr.view.loc (c : Thread nD τ)) := by
  have h1 := (h c).1 w
  have h2 := Pipeline.RDat.ArrAt_in ((dats m 0 c).toRForget forgets0) w hw (cfg0 (adm m 0)).N
  rw [h2] at h1
  exact h1

theorem frame_main (hL : Lists m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => ⟨
      (h.1 c).2 main_arg0 (Pipeline.mem_restRefs_of main_arg0 (by decide) (by decide : ∀ w : Fin 5, (spec0 w).arr.view.ref ≠ main_arg0)),
      in_kept h.1 c 0 rfl, in_kept h.1 c 1 rfl, in_kept h.1 c 2 rfl, in_kept h.1 c 3 rfl⟩, h.2⟩)
    (run_main m ρ hL)

end Cert.Proof.KernelIdeal

end
-- ==== Proof.Frame.Lists.lean ====
/- The precondition read back: of every list, each of the 48 entries the kernel reads is nine times a pair's number, at most 4096. -/
module

public import proofs.«01_k».proof.Proof.Gen.Pre_pairs_in_buffer
public import Idealize.ShloMosaic.Lib.ReduceAll
public import Idealize.ShloMosaic.Lib.StableHlo.Predicate

@[expose] public section

noncomputable section

namespace Cert.Proof

open Idealize.ShloMosaic Cert.Pre_pairs_in_buffer Cert.Pre_pairs_in_buffer.Facts

/-- A word between 0 and 36864, divisible by nine, both signed. -/
theorem word_nine (v : BitVec 32) (h0 : IntOp.cmpi .sge v 0#32 = 1#1) (h1 : IntOp.cmpi .sle v 36864#32 = 1#1)
    (h2 : IntOp.cmpi .eq (IntOp.remsi .host v 9#32) 0#32 = 1#1) : ∃ w, w ≤ 4096 ∧ v.toNat = 9 * w := by
  simp only [IntOp.cmpi, StableHlo.Predicate.ofBool_eq_one_iff, BitVec.sle_iff_toInt_le, beq_iff_eq] at h0 h1 h2
  have e0 : (0#32 : BitVec 32).toInt = 0 := by decide
  have e1 : (36864#32 : BitVec 32).toInt = 36864 := by decide
  have e9 : (9#32 : BitVec 32).toInt = 9 := by decide
  rw [e0] at h0; rw [e1] at h1
  have hv : v.toInt = v.toNat := by
    rw [BitVec.toInt_eq_toNat_cond] at h0 ⊢
    split at h0 <;> [skip; (have := v.isLt; omega)]
    rename_i h; rw [if_pos h]
  have hd : ¬ IntOp.SDivCorner v 9#32 := by
    intro h
    rcases h with h | ⟨_, h⟩ <;> exact absurd h (by decide)
  unfold IntOp.remsi at h2
  rw [if_neg hd] at h2
  have h3 := congrArg BitVec.toInt h2
  rw [BitVec.toInt_srem, e9, e0, hv] at h3
  rw [hv] at h1
  refine ⟨v.toNat / 9, ?_, ?_⟩
  · omega
  · have : ((v.toNat : ℤ).tmod 9) = ((v.toNat % 9 : ℕ) : ℤ) := rfl
    rw [this] at h3
    omega

variable {F : FTy → Type} [FloatOps F] [hf : Cert.Pre_pairs_in_buffer.Facts]

instance : Subsingleton S_.Idx := ⟨fun a b => funext fun i => i.elim0⟩

theorem lists_of_pre (a0 : IVec S64x128 32) (a1 : FVec F S2048x6144 .bf16) (a2 : FVec F S8192x6144 .fp8e4m3) (a3 : FVec F S8192x128 .bf16) (a4 : FVec F S6144x256 .bf16)
    (h : Cert.Pre_pairs_in_buffer.fn a0 a1 a2 a3 a4 = fun _ => 1#1) (x : S64x128.Idx) (hx : (x 1).val < 48) :
    ∃ w, w ≤ 4096 ∧ (a0 x).toNat = 9 * w := by
  have e := congrFun h (Shape.Idx.first h_S_)
  have e' := Host.reduce_andi_all _ _ _ _ _ e (fun | 0 => (x 0 : Fin 64) | 1 => (⟨(x 1).val, hx⟩ : Fin 48) : S64x48.Idx)
  obtain ⟨e1, e2⟩ := IntOp.andi_eq_one.1 e'
  obtain ⟨e3, e4⟩ := IntOp.andi_eq_one.1 e1
  have hs : (extractStridedSlice S64x48 ![0, 0] · slices_S64x128_S64x48_0_0) a0 (fun | 0 => (x 0 : Fin 64) | 1 => (⟨(x 1).val, hx⟩ : Fin 48) : S64x48.Idx) = a0 x := by
    show a0 _ = a0 x
    congr 1
    funext k
    match k with
    | 0 => exact Fin.ext (by show 0 + (x 0).val = _; omega)
    | 1 => exact Fin.ext (by show 0 + (x 1).val = _; omega)
  rw [← hs]
  exact word_nine _ e3 e4 e2

end Cert.Proof

end
-- ==== Proof.Value.Pay.lean ====
/- What the values the body stores are, element by element, at the ideal values. -/
module

public import proofs.«01_k».proof.Proof.Frame.ICommon
public import Idealize.ShloMosaic.Lib.Pipeline.Value
public import Idealize.ShloMosaic.Lib.ValueIdx
public import Idealize.ShloMosaic.Lib.MatmulPlain
public import Idealize.ShloMosaic.Lib.KernelVsHost

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx

section Rows
variable {s t : Shape} {α : Type}

/-- The rows of one parity, read at an index. -/
theorem parity_apply (p : Fin 2) (x : s.Idx → α) (h : s.Bitcasts 16 t 32) (j : t.Idx) (k : s.Idx)
    (hk : ∀ a : Fin s.rank, (k a).val = if a.val + 2 = s.rank then 2 * (j (a.cast h.1.symm)).val + p.val else (j (a.cast h.1.symm)).val) :
    rowsOfParity p t x h j = x k := by
  unfold rowsOfParity
  refine congrArg x (funext fun a => Fin.ext ?_)
  rw [hk a]
  by_cases ha : a.val + 2 = s.rank
  · rw [dif_pos ha, if_pos ha]
  · rw [dif_neg ha, if_neg ha]; rfl

/-- Two vectors interleaved, read at an index: the row pair names the row, the row's parity the vector. -/
theorem interleave_apply (lo hi : t.Idx → α) (h : s.Bitcasts 16 t 32) (i : s.Idx) (k : t.Idx)
    (hk : ∀ b : Fin t.rank, (k b).val = if (b.cast h.1).val + 2 = s.rank then (i (b.cast h.1)).val / 2 else (i (b.cast h.1)).val) :
    interleaveRows s lo hi h i = if s.row i % 2 = 0 then lo k else hi k := by
  unfold interleaveRows
  have e : (fun b : Fin t.rank =>
      if hb : (b.cast h.1).val + 2 = s.rank then
        (⟨(i (b.cast h.1)).val / 2, by
          have hs : s.size (b.cast h.1) * 16 = t.size b * 32 := by
            have hs := h.2.2 (b.cast h.1); rw [if_pos hb] at hs; exact hs
          have hi := (i (b.cast h.1)).isLt
          omega⟩ : Fin (t.size b))
      else (i (b.cast h.1)).cast (by have hs := h.2.2 (b.cast h.1); rw [if_neg hb] at hs; exact hs)) = k := by
    funext b
    apply Fin.ext
    by_cases hb : (b.cast h.1).val + 2 = s.rank
    · rw [dif_pos hb]; exact ((hk b).trans (if_pos hb)).symm
    · rw [dif_neg hb]; exact ((hk b).trans (if_neg hb)).symm
  simp only [e]
end Rows

/-- The eight word rows of two parities, put back as pairs. -/
theorem pairs8_apply (lo hi : FVec Ideal S8x128 .bf16) (p : Fin 8) (h : Fin 2) (l : Fin 128) :
    (interleaveRows S8x2x128 (shapeCast S8x1x128 lo shapeCasts_S8x128_S8x1x128) (shapeCast S8x1x128 hi shapeCasts_S8x128_S8x1x128)
      bitcasts_S8x2x128_w16_S8x1x128_w32 : Vec Ideal S8x2x128 .bf16) (ix3 p h l) = if h.val = 0 then lo (ix2 p l) else hi (ix2 p l) := by
  have h1 : h.val < 2 := h.isLt
  refine (interleave_apply _ _ bitcasts_S8x2x128_w16_S8x1x128_w32 (ix3 p h l) (ix3 p (0 : Fin 1) l) ?_).trans ?_
  · intro b; fin_cases b
    · rfl
    · show 0 = h.val / 2; omega
    · rfl
  · have hr : S8x2x128.row (ix3 p h l) % 2 = h.val := by show h.val % 2 = _; omega
    rw [hr]
    refine if_congr Iff.rfl ?_ ?_
    · exact shapeCast_apply lo _ _ _ (by rw [Shape.rowMajor_val_two, Shape.rowMajor_val_three]; show p.val * 128 + l.val = (p.val * 1 + 0) * 128 + l.val; omega)
    · exact shapeCast_apply hi _ _ _ (by rw [Shape.rowMajor_val_two, Shape.rowMajor_val_three]; show p.val * 128 + l.val = (p.val * 1 + 0) * 128 + l.val; omega)

/-- The scale column of eight word rows, one scale a row. -/
abbrev scol (s : Vec Ideal S8x2x1 .bf16) : FVec Ideal S16x1 .bf16 :=
  interleaveRows S16x1 (shapeCast S8x1 (rowsOfParity 0 S8x1x1 s bitcasts_S8x2x1_w16_S8x1x1_w32) shapeCasts_S8x1x1_S8x1 : FVec Ideal S8x1 .bf16)
      (shapeCast S8x1 (rowsOfParity 1 S8x1x1 s bitcasts_S8x2x1_w16_S8x1x1_w32) shapeCasts_S8x1x1_S8x1) bitcasts_S16x1_w16_S8x1_w32

theorem scol_apply (s : Vec Ideal S8x2x1 .bf16) (p : Fin 8) (h : Fin 2) :
    scol s (ix2 (⟨2 * p.val + h.val, by omega⟩ : Fin 16) (0 : Fin 1)) = s (ix3 p h (0 : Fin 1)) := by
  refine (interleave_apply _ _ bitcasts_S16x1_w16_S8x1_w32 _ (ix2 p (0 : Fin 1)) ?_).trans ?_
  · intro b; fin_cases b
    · show p.val = (2 * p.val + h.val) / 2; omega
    · rfl
  · have hr : S16x1.row (ix2 (⟨2 * p.val + h.val, by omega⟩ : Fin 16) (0 : Fin 1)) % 2 = h.val := by show (2 * p.val + h.val) % 2 = h.val; omega
    rw [hr]
    split
    · rename_i e
      refine (shapeCast_apply _ _ (ix2 p (0 : Fin 1)) (ix3 p (0 : Fin 1) (0 : Fin 1)) ?_).trans ?_
      · rw [Shape.rowMajor_val_two, Shape.rowMajor_val_three]; show (p.val * 1 + 0) * 1 + 0 = p.val * 1 + 0; omega
      · refine parity_apply 0 s _ _ _ ?_
        intro b; fin_cases b
        · rfl
        · exact e
        · rfl
    · rename_i e
      refine (shapeCast_apply _ _ (ix2 p (0 : Fin 1)) (ix3 p (0 : Fin 1) (0 : Fin 1)) ?_).trans ?_
      · rw [Shape.rowMajor_val_two, Shape.rowMajor_val_three]; show (p.val * 1 + 0) * 1 + 0 = p.val * 1 + 0; omega
      · refine parity_apply 1 s _ _ _ ?_
        intro b; fin_cases b
        · rfl
        · show h.val = 1; omega
        · rfl

/-- Sixteen rows of a block of 32 times their scales. -/
abbrev expMul (o : Fin 2 → ℕ) (ho : S32x128.Slices o S16x128) (v : Vec Ideal S32x128 .fp8e4m3) (s : Vec Ideal S8x2x1 .bf16) : FVec Ideal S16x128 .bf16 :=
  mulf (extractStridedSlice S16x128 o (k0_pay6 v) ho)
    (broadcastTo S16x128 (shapeCast S16x1 (scol s) shapeCasts_S16x1_S16x1) broadcasts_S16x1_S16x128)

/-- Sixteen rows of a block of 32 times their scales, as eight pair rows. -/
def expPay (o : Fin 2 → ℕ) (ho : S32x128.Slices o S16x128) (v : Vec Ideal S32x128 .fp8e4m3) (s : Vec Ideal S8x2x1 .bf16) : Vec Ideal S8x2x128 .bf16 :=
  k0_pay9 (expMul o ho v s)

theorem expMul_apply (o : Fin 2 → ℕ) (a : Fin 2) (ho : S32x128.Slices o S16x128) (hoa : o = ![16 * a.val, 0]) (v : Vec Ideal S32x128 .fp8e4m3) (s : Vec Ideal S8x2x1 .bf16)
    (p : Fin 8) (h : Fin 2) (l : Fin 128) :
    expMul o ho v s (ix2 (⟨2 * p.val + h.val, by omega⟩ : Fin 16) l)
      = (v (ix2 (⟨16 * a.val + (2 * p.val + h.val), by omega⟩ : Fin 32) l) : EReal) * s (ix3 p h (0 : Fin 1)) := by
  subst hoa
  have e1 : extractStridedSlice S16x128 ![16 * a.val, 0] (k0_pay6 v) ho (ix2 (⟨2 * p.val + h.val, by omega⟩ : Fin 16) l)
      = k0_pay6 v (ix2 (⟨16 * a.val + (2 * p.val + h.val), by omega⟩ : Fin 32) l) :=
    extractStridedSlice_apply _ _ ho _ _ (by
      intro b; fin_cases b
      · rfl
      · show l.val = 0 + l.val; omega)
  have e2 : broadcastTo S16x128 (shapeCast S16x1 (scol s) shapeCasts_S16x1_S16x1) broadcasts_S16x1_S16x128 (ix2 (⟨2 * p.val + h.val, by omega⟩ : Fin 16) l)
      = s (ix3 p h (0 : Fin 1)) := by
    refine (broadcastTo_apply _ _ _ (ix2 (⟨2 * p.val + h.val, by omega⟩ : Fin 16) (0 : Fin 1)) ?_).trans ?_
    · intro b; fin_cases b <;> rfl
    · exact (shapeCast_apply _ _ _ (ix2 (⟨2 * p.val + h.val, by omega⟩ : Fin 16) (0 : Fin 1)) rfl).trans (scol_apply s p h)
  exact congrArg₂ (fun a b : EReal => a * b) e1 e2

theorem expPay_apply (o : Fin 2 → ℕ) (a : Fin 2) (ho : S32x128.Slices o S16x128) (hoa : o = ![16 * a.val, 0]) (v : Vec Ideal S32x128 .fp8e4m3) (s : Vec Ideal S8x2x1 .bf16)
    (p : Fin 8) (h : Fin 2) (l : Fin 128) :
    expPay o ho v s (ix3 p h l) = (v (ix2 (⟨16 * a.val + (2 * p.val + h.val), by omega⟩ : Fin 32) l) : EReal) * s (ix3 p h (0 : Fin 1)) := by
  refine Eq.trans ?_ (expMul_apply o a ho hoa v s p h l)
  refine (pairs8_apply _ _ p h l).trans ?_
  split
  · rename_i e
    refine parity_apply 0 _ _ _ _ ?_
    intro b; fin_cases b
    · show 2 * p.val + h.val = 2 * p.val + 0; omega
    · rfl
  · rename_i e
    refine parity_apply 1 _ _ _ _ ?_
    intro b; fin_cases b
    · show 2 * p.val + h.val = 2 * p.val + 1; omega
    · rfl

example (v s) : k0_pay7 (F := Ideal) v s = expPay ![0, 0] slices_S32x128_o0_0_S16x128 v s := rfl
example (v s) : k0_pay9 (k0_pay8 (F := Ideal) v s) = expPay ![16, 0] slices_S32x128_o16_0_S16x128 v s := rfl
example (v s) : k0_pay14 (k0_pay12 (F := Ideal) v s) (k0_pay13 v s) = expPay ![0, 0] slices_S32x128_o0_0_S16x128 v s := rfl

/-- A pair row read as two halves and stored again is itself. -/
theorem pay128_eq (v : Vec Ideal S8x2x128 .bf16) : k0_pay128 v = v := by
  funext x
  obtain ⟨p, h, l, rfl⟩ : ∃ (p : Fin 8) (h : Fin 2) (l : Fin 128), x = ix3 p h l := ⟨x 0, x 1, x 2, eq_ix3 x⟩
  refine (pairs8_apply _ _ p h l).trans ?_
  split
  · rename_i e
    refine (shapeCast_apply _ _ (ix2 p l) (ix3 p (0 : Fin 1) l) ?_).trans ?_
    · rw [Shape.rowMajor_val_two, Shape.rowMajor_val_three]; show (p.val * 1 + 0) * 128 + l.val = p.val * 128 + l.val; omega
    · refine parity_apply 0 v _ _ _ ?_
      intro b; fin_cases b
      · rfl
      · exact e
      · rfl
  · rename_i e
    refine (shapeCast_apply _ _ (ix2 p l) (ix3 p (0 : Fin 1) l) ?_).trans ?_
    · rw [Shape.rowMajor_val_two, Shape.rowMajor_val_three]; show (p.val * 1 + 0) * 128 + l.val = p.val * 128 + l.val; omega
    · refine parity_apply 1 v _ _ _ ?_
      intro b; fin_cases b
      · rfl
      · show h.val = 1; omega
      · rfl

/-- The scale words rotated to a round's lanes. -/
theorem pay1_apply (i : grid0.Coords) (v : Vec Ideal S1024x128 .bf16) (p : Fin 512) (h : Fin 2) (l : Fin 128) (hi : (i 0).val < 6) (hx : l.val < 8) :
    k0_pay1 i v (ix3 p h l) = v (ix2 (⟨2 * p.val + h.val, by omega⟩ : Fin 1024) (⟨8 * (i 0).val + l.val, by omega⟩ : Fin 128)) := by
  have hs : (Scalar.subi 128#32 (Scalar.muli (BitVec.ofNat 32 (i 0).val) 8#32)).toNat % 128 = (128 - 8 * (i 0).val) % 128 := by
    generalize (i 0).val = n at hi
    interval_cases n <;> decide
  have hrot : ∀ y : FVec Ideal S512x128 .bf16, dynamicRotate 1 (Scalar.subi 128#32 (Scalar.muli (BitVec.ofNat 32 (i 0).val) 8#32)) none y rotates_S512x128_d1
      (ix2 p l) = y (ix2 p (⟨8 * (i 0).val + l.val, by omega⟩ : Fin 128)) := by
    intro y
    refine dynamicRotate_apply _ _ _ _ _ _ ?_
    intro b; fin_cases b
    · rfl
    · show 8 * (i 0).val + l.val = (l.val + 128 - (Scalar.subi 128#32 (Scalar.muli (BitVec.ofNat 32 (i 0).val) 8#32)).toNat % 128) % 128
      rw [hs]; omega
  refine (interleave_apply _ _ bitcasts_S512x2x128_w16_S512x1x128_w32 (ix3 p h l) (ix3 p (0 : Fin 1) l) ?_).trans ?_
  · intro b; fin_cases b
    · rfl
    · show 0 = h.val / 2; omega
    · rfl
  · have hr : S512x2x128.row (ix3 p h l) % 2 = h.val := by show h.val % 2 = _; omega
    rw [hr]
    split
    · rename_i e
      refine (shapeCast_apply _ _ _ (ix2 p l) ?_).trans ((hrot _).trans ?_)
      · rw [Shape.rowMajor_val_two, Shape.rowMajor_val_three]; show p.val * 128 + l.val = (p.val * 1 + 0) * 128 + l.val; omega
      · refine parity_apply 0 v _ _ _ ?_
        intro b; fin_cases b
        · show 2 * p.val + h.val = 2 * p.val + 0; omega
        · rfl
    · rename_i e
      refine (shapeCast_apply _ _ _ (ix2 p l) ?_).trans ((hrot _).trans ?_)
      · rw [Shape.rowMajor_val_two, Shape.rowMajor_val_three]; show p.val * 128 + l.val = (p.val * 1 + 0) * 128 + l.val; omega
      · refine parity_apply 1 v _ _ _ ?_
        intro b; fin_cases b
        · show 2 * p.val + h.val = 2 * p.val + 1; omega
        · rfl

/-! ## One tile's combine -/

/-- A staged slab's 192 rows. -/
abbrev slab (w : Vec Ideal S96x2x128 .bf16) : FVec Ideal S192x128 .bf16 := k0_pay132 w

theorem slab_apply (w : Vec Ideal S96x2x128 .bf16) (p : Fin 96) (h : Fin 2) (l : Fin 128) :
    slab w (ix2 (⟨2 * p.val + h.val, by omega⟩ : Fin 192) l) = w (ix3 p h l) := by
  refine (interleave_apply _ _ bitcasts_S192x128_w16_S96x128_w32 _ (ix2 p l) ?_).trans ?_
  · intro b; fin_cases b
    · show p.val = (2 * p.val + h.val) / 2; omega
    · rfl
  · have hr : S192x128.row (ix2 (⟨2 * p.val + h.val, by omega⟩ : Fin 192) l) % 2 = h.val := by show (2 * p.val + h.val) % 2 = h.val; omega
    rw [hr]
    split
    · rename_i e
      refine (shapeCast_apply _ _ (ix2 p l) (ix3 p (0 : Fin 1) l) ?_).trans ?_
      · rw [Shape.rowMajor_val_two, Shape.rowMajor_val_three]; show (p.val * 1 + 0) * 128 + l.val = p.val * 128 + l.val; omega
      · refine parity_apply 0 w _ _ _ ?_
        intro b; fin_cases b
        · rfl
        · exact e
        · rfl
    · rename_i e
      refine (shapeCast_apply _ _ (ix2 p l) (ix3 p (0 : Fin 1) l) ?_).trans ?_
      · rw [Shape.rowMajor_val_two, Shape.rowMajor_val_three]; show (p.val * 1 + 0) * 128 + l.val = p.val * 128 + l.val; omega
      · refine parity_apply 1 w _ _ _ ?_
        intro b; fin_cases b
        · rfl
        · show h.val = 1; omega
        · rfl

/-- The product of a tile's weights with two slabs. -/
abbrev tileDot (w : Vec Ideal S96x256 .bf16) (a b : Vec Ideal S96x2x128 .bf16) : FVec Ideal S96x256 .f32 :=
  matmul dot_S96x192_S192x256_S96x256_1_0_0_1_n_n none (k0_pay130 w)
    (concatenate S192x256 1 [⟨S192x128, slab a⟩, ⟨S192x128, slab b⟩] concatenates_S192x128_S192x128_S192x256_d1) (constant S96x256 .f32 0x00000000#32)

theorem dot_plain : dot_S96x192_S192x256_S96x256_1_0_0_1_n_n = DotDims.plain 96 192 256 := rfl

theorem tileDot_apply (w : Vec Ideal S96x256 .bf16) (a b : Vec Ideal S96x2x128 .bf16) (r : Fin 96) (d : Fin 2) (l : Fin 128) :
    tileDot w a b (ix2 r (⟨128 * d.val + l.val, by omega⟩ : Fin 256))
      = ∑ k : Fin 192, (w (ix2 r (⟨k.val, by omega⟩ : Fin 256)) : EReal)
          * (if d.val = 0 then a else b) (ix3 (⟨k.val / 2, by omega⟩ : Fin 96) (⟨k.val % 2, by omega⟩ : Fin 2) l) := by
  unfold tileDot
  rw [dot_plain]
  refine (Ideal.matmul_plain_apply _ _ _ _ _ _).trans ?_
  have hz : (constant S96x256 .f32 0x00000000#32 : FVec Ideal S96x256 .f32) (ix2 r (⟨128 * d.val + l.val, by omega⟩ : Fin 256)) = (0 : EReal) := by
    exact Ideal.ofBits_zero_f32
  refine (congrArg₂ (fun a b : EReal => a + b) hz rfl).trans ?_
  refine (zero_add _).trans (Finset.sum_congr rfl fun k _ => ?_)
  refine congrArg₂ (fun a b : EReal => a * b) ?_ ?_
  · refine extractStridedSlice_apply _ _ slices_S96x256_o0_0_S96x192 _ _ ?_
    intro b; fin_cases b
    · show r.val = 0 + r.val; omega
    · show k.val = 0 + k.val; omega
  · have hk : ∀ z : Vec Ideal S96x2x128 .bf16, slab z (ix2 k l) = z (ix3 (⟨k.val / 2, by omega⟩ : Fin 96) (⟨k.val % 2, by omega⟩ : Fin 2) l) := by
      intro z
      refine Eq.trans ?_ (slab_apply z ⟨k.val / 2, by omega⟩ ⟨k.val % 2, by omega⟩ l)
      congr 2
      apply Fin.ext
      show k.val = 2 * (k.val / 2) + k.val % 2
      omega
    split
    · rename_i e
      refine (concatenate_pair_apply_left (t := S192x256) 1 (slab a) (slab b) concatenates_S192x128_S192x128_S192x256_d1 _ rfl (ix2 k l) ?_).trans (hk a)
      intro b; fin_cases b
      · rfl
      · show l.val = 128 * d.val + l.val; omega
    · rename_i e
      refine (concatenate_pair_apply_right (t := S192x256) 1 (slab a) (slab b) concatenates_S192x128_S192x128_S192x256_d1 _ rfl rfl (ix2 k l) ?_ ?_).trans (hk b)
      · intro b hb; fin_cases b
        · rfl
        · exact absurd rfl hb
      · show l.val + 128 = 128 * d.val + l.val; omega

/-- A column chunk of a tile's output rows. -/
def tilePay (w : Vec Ideal S96x256 .bf16) (a b : Vec Ideal S96x2x128 .bf16) (x : Vec Ideal S32x256 .bf16) : FVec Ideal S32x256 .bf16 :=
  truncf .bf16 (addf (extf .f32 x bitsLt_bf16_f32)
    (addf (addf (extractStridedSlice S32x256 ![0, 0] (tileDot w a b) slices_S96x256_o0_0_S32x256) (extractStridedSlice S32x256 ![32, 0] (tileDot w a b) slices_S96x256_o32_0_S32x256))
      (extractStridedSlice S32x256 ![64, 0] (tileDot w a b) slices_S96x256_o64_0_S32x256))) bitsLt_bf16_f32

theorem tilePay_apply (w : Vec Ideal S96x256 .bf16) (a b : Vec Ideal S96x2x128 .bf16) (x : Vec Ideal S32x256 .bf16) (r : Fin 32) (q : Fin 256) :
    tilePay w a b x (ix2 r q) = (x (ix2 r q) : EReal)
      + ((tileDot w a b (ix2 (⟨r.val, by omega⟩ : Fin 96) q) + tileDot w a b (ix2 (⟨32 + r.val, by omega⟩ : Fin 96) q)) + tileDot w a b (ix2 (⟨64 + r.val, by omega⟩ : Fin 96) q)) := by
  have e : ∀ (o : ℕ) (ho : S96x256.Slices ![o, 0] S32x256) (hl : o + r.val < 96), extractStridedSlice S32x256 ![o, 0] (tileDot w a b) ho (ix2 r q)
      = tileDot w a b (ix2 (⟨o + r.val, hl⟩ : Fin 96) q) := by
    intro o ho hl
    refine extractStridedSlice_apply _ _ _ _ _ ?_
    intro b; fin_cases b
    · rfl
    · show q.val = 0 + q.val; omega
  have e0 := e 0 slices_S96x256_o0_0_S32x256 (by omega)
  have e1 := e 32 slices_S96x256_o32_0_S32x256 (by omega)
  have e2 := e 64 slices_S96x256_o64_0_S32x256 (by omega)
  have e0' : (ix2 (⟨0 + r.val, by omega⟩ : Fin 96) q : S96x256.Idx) = ix2 (⟨r.val, by omega⟩ : Fin 96) q := by congr 1; apply Fin.ext; show 0 + r.val = r.val; omega
  rw [e0'] at e0
  exact congrArg₂ (fun a b : EReal => a + b) rfl (congrArg₂ (fun a b : EReal => a + b) (congrArg₂ (fun a b : EReal => a + b) e0 e1) e2)

example (w a b x) : k0_pay131 (F := Ideal) w a b x = tilePay w a b x := rfl
example (w a b x) : k0_pay133 (F := Ideal) (k0_pay130 w) (k0_pay132 a) b x = tilePay w a b x := rfl
example (w a b x) : k0_pay5 (F := Ideal) (k0_pay130 w) a b x = tilePay w a b x := rfl

end Cert.Proof.KernelIdeal

end
-- ==== Proof.Value.Base.lean ====
/- What the buffers hold, as functions of the arguments' elements, and that a run of stores keeps it. -/
module

public import proofs.«01_k».proof.Proof.Value.Pay
public import Idealize.ShloMosaic.Lib.Writes

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx

/-- The arguments' elements by row and column: the codes, the scales, the tokens, the weights and the pair row each list entry names. -/
class Src where
  Y : ℕ → ℕ → EReal
  SC : ℕ → ℕ → EReal
  X : ℕ → ℕ → EReal
  P : ℕ → ℕ → EReal
  W : ℕ → ℕ → ℕ

variable (S : Src)

/-- Row `2w + h` dequantised, at lane `l` of group `g` of column chunk `r`; zero past the end. -/
def E (r w g h l : ℕ) : EReal := if w < 4096 then S.Y (2 * w + h) (r * 1024 + g * 128 + l) * S.SC (2 * w + h) (r * 8 + g) else 0

/-- The column chunk that a round's buffer holds at pair row `n`. -/
def rOf (rnd n : ℕ) : ℕ := if n / 36882 = rnd % 2 then rnd else rnd - 1

/-- What a round's pair buffer is to hold. -/
def G (rnd : ℕ) (y : S73764x2x128.Idx) : EReal :=
  E S (rOf rnd (y 0).val) ((y 0).val % 36882 / 9) ((y 0).val % 36882 % 9) (y 1).val (y 2).val

/-- The pair rows that are filled once `n` words of round `rnd` are. -/
def Valid (rnd n : ℕ) (y : S73764x2x128.Idx) : Prop :=
  (y 0).val % 36882 % 9 < 8 ∧ ((y 0).val / 36882 = rnd % 2 → (y 0).val % 36882 / 9 < n ∨ 4096 ≤ (y 0).val % 36882 / 9)
    ∧ (rnd = 0 → (y 0).val / 36882 ≠ rnd % 2 → 4096 ≤ (y 0).val % 36882 / 9)

def BufOK (rnd n : ℕ) (rd : S73764x2x128.Idx → EReal) : Prop := ∀ y, Valid rnd n y → rd y = G S rnd y

/-- Between rounds: what one round filled is what the next reads. -/
theorem BufOK.next {rnd : ℕ} {rd : S73764x2x128.Idx → EReal} (h : BufOK S rnd 4096 rd) : BufOK S (rnd + 1) 0 rd := by
  intro y ⟨h1, h2, h3⟩
  have h0 : (y 0).val < 73764 := (y 0).isLt
  have hv : Valid rnd 4096 y := ⟨h1, fun _ => by omega, fun hr hn => by
    rcases h2 (by omega) with h | h
    · omega
    · exact h⟩
  rw [h y hv]
  unfold G
  by_cases hw : 4096 ≤ (y 0).val % 36882 / 9
  · unfold E; rw [if_neg (by omega), if_neg (by omega)]
  · congr 1
    unfold rOf
    by_cases hh : (y 0).val / 36882 = (rnd + 1) % 2
    · exact absurd (h2 hh) (by omega)
    · rw [if_neg hh, if_pos (by omega)]; omega

/-- One store of an expansion: eight words of group `g`, from word `wb + 8·hh`. -/
def ExpPiece (rnd wb hh g : ℕ) (p : View.Piece (Elt Ideal) S73764x2x128 .bf16) : Prop :=
  p.1.off = ![rnd % 2 * 36882 + (wb + 8 * hh) * 9 + g, 0, 0] ∧ p.1.size = ![8, 2, 128] ∧ p.1.stride = ![9, 1, 1]
    ∧ ∀ x : p.1.shape.Idx, (p.2 x : EReal) = E S rnd (wb + 8 * hh + (x (0 : Fin 3)).val) g (x (1 : Fin 3)).val (x (2 : Fin 3)).val

variable {sig' : RefSig} {κ : Kind} {sp : Space}

theorem BufOK.expand (v : View sig' κ sp S73764x2x128 .bf16) (f : v.ty.Contents (Elt Ideal)) (rnd wb : ℕ) (L : List (View.Piece (Elt Ideal) S73764x2x128 .bf16))
    (hall : ∀ p ∈ L, ∃ hh g, hh < 2 ∧ g < 8 ∧ ExpPiece S rnd wb hh g p) (hcov : ∀ hh g, hh < 2 → g < 8 → ∃ p ∈ L, ExpPiece S rnd wb hh g p)
    (hwb : wb + 16 ≤ 4096) (h : BufOK S rnd wb (v.read (Elt Ideal) f)) : BufOK S rnd (wb + 16) (v.read (Elt Ideal) (v.writes (Elt Ideal) f L)) := by
  intro y hy
  have h0 : (y 0).val < 73764 := (y 0).isLt
  have hd : rnd % 2 < 2 := Nat.mod_lt _ (by decide)
  by_cases hc : ∃ p ∈ L, y ∈ p.1.set
  · refine View.read_writes_apply_of_pieces v f (G S rnd) L ?_ y hc
    intro p hp x
    obtain ⟨hh, g, hhh, hg, ho, hs, ht, hE⟩ := hall p hp
    have hx0 : (x (0 : Fin 3)).val < 8 := by have := (x (0 : Fin 3)).isLt; change _ < p.1.size (0 : Fin 3) at this; rw [hs] at this; exact this
    have e0 : (p.1.emb x (0 : Fin 3)).val = rnd % 2 * 36882 + (wb + 8 * hh) * 9 + g + 9 * (x (0 : Fin 3)).val := by
      show p.1.off (0 : Fin 3) + p.1.stride (0 : Fin 3) * (x (0 : Fin 3)).val = _
      rw [ho, ht]; rfl
    have e1 : (p.1.emb x (1 : Fin 3)).val = (x (1 : Fin 3)).val := by
      show p.1.off (1 : Fin 3) + p.1.stride (1 : Fin 3) * (x (1 : Fin 3)).val = _
      rw [ho, ht]; show 0 + 1 * _ = _; omega
    have e2 : (p.1.emb x (2 : Fin 3)).val = (x (2 : Fin 3)).val := by
      show p.1.off (2 : Fin 3) + p.1.stride (2 : Fin 3) * (x (2 : Fin 3)).val = _
      rw [ho, ht]; show 0 + 1 * _ = _; omega
    rw [hE]
    unfold G rOf
    rw [e0, e1, e2, if_pos (by omega)]
    congr 1 <;> omega
  · rw [View.read_writes_apply_of_forall_not_mem v f y L fun p hp hm => hc ⟨p, hp, hm⟩]
    refine h y ⟨hy.1, fun hh => ?_, hy.2.2⟩
    rcases hy.2.1 hh with h' | h'
    · by_cases hw : (y 0).val % 36882 / 9 < wb
      · exact Or.inl hw
      · exfalso
        obtain ⟨p, hp, ho, hs, ht, -⟩ := hcov (((y 0).val % 36882 / 9 - wb) / 8) ((y 0).val % 36882 % 9) (by omega) hy.1
        refine hc ⟨p, hp, p.1.mem_set.mpr ?_⟩
        rw [ho, hs, ht]
        intro a
        fin_cases a
        · refine ⟨((y 0).val % 36882 / 9 - wb) % 8, Nat.mod_lt _ (by decide), ?_⟩
          show (y 0).val = (rnd % 2 * 36882 + (wb + 8 * (((y 0).val % 36882 / 9 - wb) / 8)) * 9 + (y 0).val % 36882 % 9) + 9 * (((y 0).val % 36882 / 9 - wb) % 8)
          omega
        · refine ⟨(y 1).val, (y 1).isLt, ?_⟩
          show (y 1).val = 0 + 1 * (y 1).val
          omega
        · refine ⟨(y 2).val, (y 2).isLt, ?_⟩
          show (y 2).val = 0 + 1 * (y 2).val
          omega
    · exact Or.inr h'

/-! ## The staged slabs -/

/-- The staged slabs of tile `T` hold the pair rows that its first `k` entries name. -/
def StgOK (rnd T k : ℕ) (rd : S800x2x128.Idx → EReal) : Prop :=
  ∀ y : S800x2x128.Idx, (y 0).val % 100 < 2 * k →
    rd y = E S (rnd - 1) (S.W T ((y 0).val % 100 / 2) + (y 0).val % 100 % 2) ((y 0).val / 100) (y 1).val (y 2).val

/-- One store of a stage: row `2k + q` of each slab. -/
def StgPiece (rnd T k q : ℕ) (p : View.Piece (Elt Ideal) S800x2x128 .bf16) : Prop :=
  p.1.off = ![2 * k + q, 0, 0] ∧ p.1.size = ![8, 2, 128] ∧ p.1.stride = ![100, 1, 1]
    ∧ ∀ x : p.1.shape.Idx, (p.2 x : EReal) = E S (rnd - 1) (S.W T k + q) (x (0 : Fin 3)).val (x (1 : Fin 3)).val (x (2 : Fin 3)).val

theorem StgOK.step (v : View sig' κ sp S800x2x128 .bf16) (f : v.ty.Contents (Elt Ideal)) (rnd T k : ℕ) (p0 p1 : View.Piece (Elt Ideal) S800x2x128 .bf16)
    (h0 : StgPiece S rnd T k 0 p0) (h1 : StgPiece S rnd T k 1 p1) (hk : k < 48) (h : StgOK S rnd T k (v.read (Elt Ideal) f)) :
    StgOK S rnd T (k + 1) (v.read (Elt Ideal) (v.writes (Elt Ideal) f [p1, p0])) := by
  have hall : ∀ p ∈ [p1, p0], ∃ q, q < 2 ∧ StgPiece S rnd T k q p := by
    intro p hp
    simp only [List.mem_cons, List.not_mem_nil, or_false] at hp
    rcases hp with rfl | rfl
    · exact ⟨1, by decide, h1⟩
    · exact ⟨0, by decide, h0⟩
  intro y hy
  have hy0 : (y 0).val < 800 := (y 0).isLt
  by_cases hc : ∃ p ∈ [p1, p0], y ∈ p.1.set
  · refine View.read_writes_apply_of_pieces v f (fun y => E S (rnd - 1) (S.W T ((y 0).val % 100 / 2) + (y 0).val % 100 % 2) ((y 0).val / 100) (y 1).val (y 2).val) _ ?_ y hc
    intro p hp x
    obtain ⟨q, hq, ho, hs, ht, hE⟩ := hall p hp
    have hx0 : (x (0 : Fin 3)).val < 8 := by have := (x (0 : Fin 3)).isLt; change _ < p.1.size (0 : Fin 3) at this; rw [hs] at this; exact this
    have e0 : (p.1.emb x (0 : Fin 3)).val = 2 * k + q + 100 * (x (0 : Fin 3)).val := by
      show p.1.off (0 : Fin 3) + p.1.stride (0 : Fin 3) * (x (0 : Fin 3)).val = _
      rw [ho, ht]; rfl
    have e1 : (p.1.emb x (1 : Fin 3)).val = (x (1 : Fin 3)).val := by
      show p.1.off (1 : Fin 3) + p.1.stride (1 : Fin 3) * (x (1 : Fin 3)).val = _
      rw [ho, ht]; show 0 + 1 * _ = _; omega
    have e2 : (p.1.emb x (2 : Fin 3)).val = (x (2 : Fin 3)).val := by
      show p.1.off (2 : Fin 3) + p.1.stride (2 : Fin 3) * (x (2 : Fin 3)).val = _
      rw [ho, ht]; show 0 + 1 * _ = _; omega
    rw [hE]
    show _ = E S (rnd - 1) (S.W T ((p.1.emb x (0 : Fin 3)).val % 100 / 2) + (p.1.emb x (0 : Fin 3)).val % 100 % 2) ((p.1.emb x (0 : Fin 3)).val / 100) (p.1.emb x (1 : Fin 3)).val (p.1.emb x (2 : Fin 3)).val
    rw [e0, e1, e2, show (2 * k + q + 100 * (x (0 : Fin 3)).val) % 100 / 2 = k by omega,
      show (2 * k + q + 100 * (x (0 : Fin 3)).val) % 100 % 2 = q by omega, show (2 * k + q + 100 * (x (0 : Fin 3)).val) / 100 = (x (0 : Fin 3)).val by omega]
  · rw [View.read_writes_apply_of_forall_not_mem v f y _ fun p hp hm => hc ⟨p, hp, hm⟩]
    refine h y ?_
    by_contra hn
    have hmem : ∀ (q : ℕ) (p : View.Piece (Elt Ideal) S800x2x128 .bf16), StgPiece S rnd T k q p → (y 0).val % 100 = 2 * k + q → y ∈ p.1.set := by
      rintro q p ⟨ho, hs, ht, -⟩ e
      refine p.1.mem_set.mpr ?_
      rw [ho, hs, ht]
      intro a
      fin_cases a
      · refine ⟨(y 0).val / 100, ?_, ?_⟩
        · show (y 0).val / 100 < 8; omega
        · show (y 0).val = (2 * k + q) + 100 * ((y 0).val / 100); omega
      · refine ⟨(y 1).val, (y 1).isLt, ?_⟩
        show (y 1).val = 0 + 1 * (y 1).val
        omega
      · refine ⟨(y 2).val, (y 2).isLt, ?_⟩
        show (y 2).val = 0 + 1 * (y 2).val
        omega
    by_cases hq : (y 0).val % 100 = 2 * k + 0
    · exact hc ⟨p0, by simp, hmem 0 p0 h0 hq⟩
    · exact hc ⟨p1, by simp, hmem 1 p1 h1 (by omega)⟩

/-! ## The output block -/

/-- Token `tok`'s output at column `col`: the token plus its three parts' weighted sums of rows. -/
def outPart (T t part chunk g l : ℕ) : EReal :=
  ∑ k : Fin 192, S.P (T * 96 + part * 32 + t) k.val * E S chunk (S.W T (k.val / 4) + k.val / 2 % 2) g (k.val % 2) l
def outVal (tok col : ℕ) : EReal :=
  S.X tok col + ((outPart S (tok / 32) (tok % 32) 0 (col / 1024) (col % 1024 / 128) (col % 128)
    + outPart S (tok / 32) (tok % 32) 1 (col / 1024) (col % 1024 / 128) (col % 128))
    + outPart S (tok / 32) (tok % 32) 2 (col / 1024) (col % 1024 / 128) (col % 128))

/-- The output block of point `(rnd, step)` holds its first `n` rows. -/
def OutOK (rnd step n : ℕ) (rd : S256x1024.Idx → EReal) : Prop :=
  ∀ y : S256x1024.Idx, (y 0).val < n → rd y = outVal S (step * 256 + (y 0).val) ((rnd - 1) * 1024 + (y 1).val)

/-- One store of a combine: rows `32·u` on, columns `256·c` on. -/
def OutPiece (rnd step u c : ℕ) (p : View.Piece (Elt Ideal) S256x1024 .bf16) : Prop :=
  p.1.off = ![32 * u, 256 * c] ∧ p.1.size = ![32, 256] ∧ p.1.stride = ![1, 1]
    ∧ ∀ x : p.1.shape.Idx, (p.2 x : EReal) = outVal S (step * 256 + (32 * u + (x (0 : Fin 2)).val)) ((rnd - 1) * 1024 + (256 * c + (x (1 : Fin 2)).val))

theorem OutOK.step (v : View sig' κ sp S256x1024 .bf16) (f : v.ty.Contents (Elt Ideal)) (rnd step k : ℕ) (L : List (View.Piece (Elt Ideal) S256x1024 .bf16))
    (hall : ∀ p ∈ L, ∃ u c, OutPiece S rnd step u c p) (hcov : ∀ u c, u < 2 → c < 4 → ∃ p ∈ L, OutPiece S rnd step (2 * k + u) c p)
    (h : OutOK S rnd step (64 * k) (v.read (Elt Ideal) f)) : OutOK S rnd step (64 * (k + 1)) (v.read (Elt Ideal) (v.writes (Elt Ideal) f L)) := by
  intro y hy
  have h0 : (y 0).val < 256 := (y 0).isLt
  have h1 : (y 1).val < 1024 := (y 1).isLt
  by_cases hc : ∃ p ∈ L, y ∈ p.1.set
  · refine View.read_writes_apply_of_pieces v f (fun y => outVal S (step * 256 + (y 0).val) ((rnd - 1) * 1024 + (y 1).val)) L ?_ y hc
    intro p hp x
    obtain ⟨u, c, ho, hs, ht, hE⟩ := hall p hp
    have e0 : (p.1.emb x (0 : Fin 2)).val = 32 * u + (x (0 : Fin 2)).val := by
      show p.1.off (0 : Fin 2) + p.1.stride (0 : Fin 2) * (x (0 : Fin 2)).val = _
      rw [ho, ht]; show 32 * u + 1 * _ = _; omega
    have e1 : (p.1.emb x (1 : Fin 2)).val = 256 * c + (x (1 : Fin 2)).val := by
      show p.1.off (1 : Fin 2) + p.1.stride (1 : Fin 2) * (x (1 : Fin 2)).val = _
      rw [ho, ht]; show 256 * c + 1 * _ = _; omega
    rw [hE]
    show _ = outVal S (step * 256 + (p.1.emb x (0 : Fin 2)).val) ((rnd - 1) * 1024 + (p.1.emb x (1 : Fin 2)).val)
    rw [e0, e1]
  · rw [View.read_writes_apply_of_forall_not_mem v f y L fun p hp hm => hc ⟨p, hp, hm⟩]
    refine h y ?_
    by_contra hn
    obtain ⟨p, hp, ho, hs, ht, -⟩ := hcov (((y 0).val - 64 * k) / 32) ((y 1).val / 256) (by omega) (by omega)
    refine hc ⟨p, hp, p.1.mem_set.mpr ?_⟩
    rw [ho, hs, ht]
    intro a
    fin_cases a
    · refine ⟨((y 0).val - 64 * k) % 32, Nat.mod_lt _ (by decide), ?_⟩
      show (y 0).val = 32 * (2 * k + ((y 0).val - 64 * k) / 32) + 1 * (((y 0).val - 64 * k) % 32)
      omega
    · refine ⟨(y 1).val % 256, Nat.mod_lt _ (by decide), ?_⟩
      show (y 1).val = 256 * ((y 1).val / 256) + 1 * ((y 1).val % 256)
      omega

/-- A tile's column chunk, computed from its staged slabs, its weights and its tokens, is the output there. -/
theorem tile_out (rnd step u c : ℕ) (hc : c < 4) (hu : u < 8) (hrnd : 1 ≤ rnd) (w : Vec Ideal S96x256 .bf16) (a b : Vec Ideal S96x2x128 .bf16) (x : Vec Ideal S32x256 .bf16)
    (hw : ∀ (r : Fin 96) (k : Fin 256), w (ix2 r k) = S.P ((step * 8 + u) * 96 + r.val) k.val)
    (ha : ∀ (p : Fin 96) (h : Fin 2) (l : Fin 128), a (ix3 p h l) = E S (rnd - 1) (S.W (step * 8 + u) (p.val / 2) + p.val % 2) (2 * c) h.val l.val)
    (hb : ∀ (p : Fin 96) (h : Fin 2) (l : Fin 128), b (ix3 p h l) = E S (rnd - 1) (S.W (step * 8 + u) (p.val / 2) + p.val % 2) (2 * c + 1) h.val l.val)
    (hx : ∀ (r : Fin 32) (q : Fin 256), x (ix2 r q) = S.X (step * 256 + (32 * u + r.val)) ((rnd - 1) * 1024 + (256 * c + q.val)))
    (r : Fin 32) (q : Fin 256) :
    (tilePay w a b x (ix2 r q) : EReal) = outVal S (step * 256 + (32 * u + r.val)) ((rnd - 1) * 1024 + (256 * c + q.val)) := by
  have hr := r.isLt
  have hq := q.isLt
  have hd : ∀ (part : ℕ) (hl : part * 32 + r.val < 96), (tileDot w a b (ix2 (⟨part * 32 + r.val, hl⟩ : Fin 96) q) : EReal)
      = outPart S (step * 8 + u) r.val part (rnd - 1) (2 * c + q.val / 128) (q.val % 128) := by
    intro part hl
    have e := tileDot_apply w a b ⟨part * 32 + r.val, hl⟩ ⟨q.val / 128, by omega⟩ ⟨q.val % 128, by omega⟩
    have eq : (⟨128 * (q.val / 128) + q.val % 128, by omega⟩ : Fin 256) = q := Fin.ext (by show 128 * (q.val / 128) + q.val % 128 = q.val; omega)
    rw [show (⟨128 * (⟨q.val / 128, by omega⟩ : Fin 2).val + (⟨q.val % 128, by omega⟩ : Fin 128).val, by show 128 * (q.val / 128) + q.val % 128 < 256; omega⟩ : Fin 256) = q from eq] at e
    rw [e]
    unfold outPart
    refine Finset.sum_congr rfl fun k _ => ?_
    refine congrArg₂ (fun a b : EReal => a * b) ?_ ?_
    · rw [hw]; congr 1; show (step * 8 + u) * 96 + (part * 32 + r.val) = _; omega
    · have k1 : k.val / 2 / 2 = k.val / 4 := by omega
      split
      · rename_i h; rw [ha]
        show E S (rnd - 1) (S.W (step * 8 + u) (k.val / 2 / 2) + k.val / 2 % 2) (2 * c) (k.val % 2) (q.val % 128) = _
        rw [k1, show 2 * c + q.val / 128 = 2 * c from by have : q.val / 128 = 0 := h; omega]
      · rename_i h; rw [hb]
        show E S (rnd - 1) (S.W (step * 8 + u) (k.val / 2 / 2) + k.val / 2 % 2) (2 * c + 1) (k.val % 2) (q.val % 128) = _
        rw [k1, show 2 * c + q.val / 128 = 2 * c + 1 from by have : ¬ q.val / 128 = 0 := h; omega]
  rw [tilePay_apply, hx]
  unfold outVal
  have t1 : (step * 256 + (32 * u + r.val)) / 32 = step * 8 + u := by omega
  have t2 : (step * 256 + (32 * u + r.val)) % 32 = r.val := by omega
  have c1 : ((rnd - 1) * 1024 + (256 * c + q.val)) / 1024 = rnd - 1 := by omega
  have c2 : ((rnd - 1) * 1024 + (256 * c + q.val)) % 1024 / 128 = 2 * c + q.val / 128 := by omega
  have c3 : ((rnd - 1) * 1024 + (256 * c + q.val)) % 128 = q.val % 128 := by omega
  rw [t1, t2, c1, c2, c3]
  have d0 := hd 0 (by omega)
  have d1 := hd 1 (by omega)
  have d2 := hd 2 (by omega)
  refine congrArg₂ (fun a b : EReal => a + b) rfl (congrArg₂ (fun a b : EReal => a + b) (congrArg₂ (fun a b : EReal => a + b) ?_ ?_) ?_)
  · rw [← d0]; congr 2; apply Fin.ext; show r.val = 0 * 32 + r.val; omega
  · rw [← d1]
  · rw [← d2]

end Cert.Proof.KernelIdeal

end
-- ==== Proof.Value.VSteps.lean ====
/- The stores of the body's loops, read as pieces of what the buffers are to hold. -/
module

public import proofs.«01_k».proof.Proof.Value.Base

@[expose] public section

set_option maxRecDepth 8192
set_option maxHeartbeats 4000000

noncomputable section

namespace Cert.Proof.KernelIdeal.Val

open Cert.KernelIdeal Cert.KernelIdeal.Gen Cert.Proof.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A buffer held whole at some contents of which `Q` holds. -/
abbrev okP (c : Dev nD) {sp : Space} {S : Shape} {e : EltTy} (M : Memref sig .tc sp S e) (Q : (S.Idx → Elt Ideal e) → Prop) : sProp 𝕄 :=
  iprop(∃ f, ⌜Q (M.view.read (Elt Ideal) f)⌝ ∗ M.view.loc (c : Thread nD τ) ↦[M.view.set]{fullShare} f)

variable [S : Src] (c : Dev nD) (i : grid0.Coords)

/-- The table names, of every list, the pair row of each of its 48 entries. -/
def TabW (arg2 : Memref sig .tc .smem S64x128 .i32) (ft : Buf (Elt Ideal) (arg2.view.loc (c : Thread nD τ))) : Prop :=
  ∀ x : S64x128.Idx, (x 1).val < 48 → Src.W (x 0).val (x 1).val ≤ 4096
    ∧ BitVec.toNat (w := 32) (arg2.view.read (Elt Ideal) ft x) = 9 * Src.W (x 0).val (x 1).val

variable (arg2 : Memref sig .tc .smem S64x128 .i32)

theorem TabW.ok {ft : Buf (Elt Ideal) (arg2.view.loc (c : Thread nD τ))} (h : TabW c arg2 ft) : TabOK c arg2 ft := by
  intro x hx
  obtain ⟨h1, h2⟩ := h x hx
  exact le_of_eq_of_le h2 (by omega)

theorem TabW.at' {ft : Buf (Elt Ideal) (arg2.view.loc (c : Thread nD τ))} (h : TabW c arg2 ft) {x : S64x128.Idx} {T k : ℕ} (h0 : (x 0).val = T) (h1 : (x 1).val = k)
    (hk : k < 48) : Src.W T k ≤ 4096 ∧ BitVec.toNat (w := 32) (arg2.view.read (Elt Ideal) ft x) = 9 * Src.W T k := by
  subst h0; subst h1; exact h x hk

/-- The staged block of codes, of tokens, the scale words of the point and the weights. -/
def YOK (rd : S1024x1024.Idx → EReal) : Prop := ∀ (r q : Fin 1024), rd (ix2 r q) = Src.Y ((i 1).val * 1024 + r.val) ((i 0).val * 1024 + q.val)
def XOK (rd : S256x1024.Idx → EReal) : Prop := ∀ (r : Fin 256) (q : Fin 1024), rd (ix2 r q) = Src.X ((i 1).val * 256 + r.val) (((i 0).val - 1) * 1024 + q.val)
def ScOK (rd : S512x2x128.Idx → EReal) : Prop :=
  ∀ (p : Fin 512) (h : Fin 2) (l : Fin 128), l.val < 8 → rd (ix3 p h l) = Src.SC ((i 1).val * 1024 + (2 * p.val + h.val)) ((i 0).val * 8 + l.val)
def POK (rd : S6144x256.Idx → EReal) : Prop := ∀ (r : Fin 6144) (k : Fin 256), rd (ix2 r k) = Src.P r.val k.val

/-! ## Offsets -/

theorem iv_nat (k : ℕ) (hk : k < 48) : (Scf.iv 0#32 1#32 k).toNat = k := by interval_cases k <;> rfl
theorem par_nat (x : ℕ) (hx : x < 7) : (Scalar.muli (Scalar.andi (BitVec.ofNat 32 x) 1#32) 36882#32).toNat = x % 2 * 36882 := by interval_cases x <;> decide
theorem src_nat (x : ℕ) (hx : x < 7) : (Scalar.muli (Scalar.andi (Scalar.addi (BitVec.ofNat 32 x) 1#32) 1#32) 36882#32).toNat = (x + 1) % 2 * 36882 := by interval_cases x <;> decide

theorem dst_nat (a s t h g : BitVec 32) (ha : a.toNat ≤ 36882) (hs : s.toNat < 8) (ht : t.toNat < 32) (hh : h.toNat ≤ 8) (hg : g.toNat < 8) :
    (Scalar.addi (Scalar.addi a (Scalar.muli (Scalar.addi (Scalar.addi (Scalar.muli s 512#32) (Scalar.muli 16#32 t)) h) 9#32)) g).toNat
      = a.toNat + ((s.toNat * 512 + 16 * t.toNat) + h.toNat) * 9 + g.toNat := by
  simp only [Scalar.addi, Scalar.muli, IntOp.addi, IntOp.muli, BitVec.toNat_add, BitVec.toNat_mul, BitVec.toNat_ofNat]
  omega

theorem ofNat_nat (n : ℕ) (h : n < 100) : (BitVec.ofNat 32 n).toNat = n := by rw [BitVec.toNat_ofNat]; omega

theorem off3_eq (k : Fin k0_t1_loop.trips) (hh g : ℕ) (hhh : hh < 2) (hg : g < 8) :
    k0_off3 i k (BitVec.ofNat 32 (8 * hh)) (BitVec.ofNat 32 g) = ![(i 0).val % 2 * 36882 + ((i 1).val * 512 + 16 * k.val + 8 * hh) * 9 + g, 0, 0] := by
  have hk : k.val < 32 := k.isLt
  have h0 : (i 0).val < 7 := (i 0).isLt
  have h1 : (i 1).val < 8 := (i 1).isLt
  have hp := par_nat _ h0
  have hi := iv_nat k.val (by omega)
  have e1 := ofNat_nat (i 1).val (by omega)
  have e2 := ofNat_nat (8 * hh) (by omega)
  have e3 := ofNat_nat g (by omega)
  funext a; fin_cases a
  · refine (dst_nat _ _ _ _ _ ?_ ?_ ?_ ?_ ?_).trans ?_ <;> simp only [hp, hi, e1, e2, e3]
    · omega
    · omega
    · omega
    · omega
    · omega
    · rfl
  · rfl
  · rfl

theorem blk_nat (u k d : BitVec 32) (hu : u.toNat < 4) (hk : k.toNat < 4) (hd : d.toNat < 2) :
    (Scalar.addi (Scalar.muli (Scalar.addi (Scalar.muli 2#32 u) d) 4#32) k).toNat = 8 * u.toNat + 4 * d.toNat + k.toNat := by
  simp only [Scalar.addi, Scalar.muli, IntOp.addi, IntOp.muli, BitVec.toNat_add, BitVec.toNat_mul, BitVec.toNat_ofNat]
  omega

theorem off28_eq (u : Fin k0_t2_loop.trips) (k : Fin k0_t4_loop.trips) (hh g : ℕ) (hhh : hh < 2) (hg : g < 8) :
    k0_off28 i u k (BitVec.ofNat 32 (8 * hh)) (BitVec.ofNat 32 g) = ![(i 0).val % 2 * 36882 + ((i 1).val * 512 + 16 * (8 * u.val + k.val) + 8 * hh) * 9 + g, 0, 0] := by
  have hu : u.val < 4 := u.isLt
  have hk : k.val < 4 := k.isLt
  have h0 : (i 0).val < 7 := (i 0).isLt
  have h1 : (i 1).val < 8 := (i 1).isLt
  have hp := par_nat _ h0
  have hiu := iv_nat u.val (by omega)
  have hik := iv_nat k.val (by omega)
  have e1 := ofNat_nat (i 1).val (by omega)
  have e2 := ofNat_nat (8 * hh) (by omega)
  have e3 := ofNat_nat g (by omega)
  have hb := blk_nat (Scf.iv 0#32 1#32 u.val) (Scf.iv 0#32 1#32 k.val) 0#32 (by omega) (by omega) (by decide)
  rw [hiu, hik, show (0#32).toNat = 0 from rfl] at hb
  funext a; fin_cases a
  · refine (dst_nat _ _ _ _ _ ?_ ?_ ?_ ?_ ?_).trans ?_ <;> simp only [hp, hb, e1, e2, e3]
    · omega
    · omega
    · omega
    · omega
    · omega
    · rfl
  · rfl
  · rfl

theorem off48_eq (u : Fin k0_t2_loop.trips) (k : Fin k0_t6_loop.trips) (hh g : ℕ) (hhh : hh < 2) (hg : g < 8) :
    k0_off48 i u k (BitVec.ofNat 32 (8 * hh)) (BitVec.ofNat 32 g) = ![(i 0).val % 2 * 36882 + ((i 1).val * 512 + 16 * (8 * u.val + 4 + k.val) + 8 * hh) * 9 + g, 0, 0] := by
  have hu : u.val < 4 := u.isLt
  have hk : k.val < 4 := k.isLt
  have h0 : (i 0).val < 7 := (i 0).isLt
  have h1 : (i 1).val < 8 := (i 1).isLt
  have hp := par_nat _ h0
  have hiu := iv_nat u.val (by omega)
  have hik := iv_nat k.val (by omega)
  have e1 := ofNat_nat (i 1).val (by omega)
  have e2 := ofNat_nat (8 * hh) (by omega)
  have e3 := ofNat_nat g (by omega)
  have hb := blk_nat (Scf.iv 0#32 1#32 u.val) (Scf.iv 0#32 1#32 k.val) 1#32 (by omega) (by omega) (by decide)
  rw [hiu, hik, show (1#32).toNat = 1 from rfl] at hb
  funext a; fin_cases a
  · refine (dst_nat _ _ _ _ _ ?_ ?_ ?_ ?_ ?_).trans ?_ <;> simp only [hp, hb, e1, e2, e3]
    · omega
    · omega
    · omega
    · omega
    · omega
    · rfl
  · rfl
  · rfl

theorem off19_eq (v : BitVec 32) (q w : ℕ) (hq : q < 2) (hw : w ≤ 4096) (hv : v.toNat = 9 * w) :
    k0_off19 i v (BitVec.ofNat 32 (9 * q)) = ![((i 0).val + 1) % 2 * 36882 + 9 * w + 9 * q, 0, 0] := by
  have h0 : (i 0).val < 7 := (i 0).isLt
  have hp := src_nat _ h0
  have e2 := ofNat_nat (9 * q) (by omega)
  funext a; fin_cases a
  · show (Scalar.addi (Scalar.addi (Scalar.muli (Scalar.andi (Scalar.addi (BitVec.ofNat 32 (i 0).val) 1#32) 1#32) 36882#32) v) (BitVec.ofNat 32 (9 * q))).toNat = _
    generalize Scalar.muli (Scalar.andi (Scalar.addi (BitVec.ofNat 32 (i 0).val) 1#32) 1#32) 36882#32 = a at hp
    simp only [Scalar.addi, IntOp.addi, BitVec.toNat_add, hp, hv, e2]
    show _ = ((i 0).val + 1) % 2 * 36882 + 9 * w + 9 * q
    omega
  · rfl
  · rfl

/-! ## Pieces -/

variable {sig' : RefSig} {κ κ' : Kind} {sp sp' : Space}

theorem expPiece_of (v4 : View sig' κ sp S1024x1024 .fp8e4m3) (f4 : v4.ty.Contents (Elt Ideal)) (v11 : View sig' κ sp S512x2x128 .bf16) (f11 : v11.ty.Contents (Elt Ideal))
    (hY : YOK i (v4.read (Elt Ideal) f4)) (hSc : ScOK i (v11.read (Elt Ideal) f11)) (b hh g : ℕ) (hb : b < 32) (hhh : hh < 2) (hg : g < 8)
    (off : Fin 3 → ℕ) (hoff : off = ![(i 0).val % 2 * 36882 + ((i 1).val * 512 + 16 * b + 8 * hh) * 9 + g, 0, 0]) (inb) (spos)
    (o4 : Fin 2 → ℕ) (a4 c4 : ℕ) (h4 : o4 = ![a4, c4]) (ha4 : a4 = 32 * b) (hc4 : c4 = 128 * g) (inb4)
    (o11 : Fin 3 → ℕ) (a11 c11 : ℕ) (h11 : o11 = ![a11, 0, c11]) (ha11 : a11 = 16 * b + 8 * hh) (hc11 : c11 = g) (inb11)
    (o : Fin 2 → ℕ) (ho : S32x128.Slices o S16x128) (hoo : o = ![16 * hh, 0]) (pay : Vec Ideal S8x2x128 .bf16)
    (hp : pay = expPay o ho (v4.readAt (Elt Ideal) (Rect.unit (s := S1024x1024) o4 S32x128.size inb4).toLoadRect f4)
      (v11.readAt (Elt Ideal) (Rect.unit (s := S512x2x128) o11 S8x2x1.size inb11).toLoadRect f11)) :
    ExpPiece S (i 0).val ((i 1).val * 512 + 16 * b) hh g (⟨⟨⟨off, S8x2x128.size, ![9, 1, 1], inb⟩, spos⟩, pay⟩ : View.Piece (Elt Ideal) S73764x2x128 .bf16) := by
  refine ⟨hoff, rfl, rfl, ?_⟩
  intro x
  obtain ⟨p, h, l, rfl⟩ : ∃ (p : Fin 8) (h : Fin 2) (l : Fin 128), x = ix3 p h l := ⟨x 0, x 1, x 2, eq_ix3 x⟩
  have h1 : (i 1).val < 8 := (i 1).isLt
  have hp8 := p.isLt
  have hh2 := h.isLt
  subst hp h4 h11 ha4 hc4 ha11 hc11
  refine (expPay_apply o ⟨hh, hhh⟩ ho hoo _ _ p h l).trans ?_
  show v4.read (Elt Ideal) f4 _ * v11.read (Elt Ideal) f11 _ = E S (i 0).val ((i 1).val * 512 + 16 * b + 8 * hh + p.val) c11 h.val l.val
  unfold E
  rw [if_pos (by omega)]
  refine congrArg₂ (fun a b : EReal => a * b) ?_ ?_
  · refine ((congrArg (v4.read (Elt Ideal) f4) ?_).trans (hY ⟨32 * b + (16 * hh + (2 * p.val + h.val)), by omega⟩ ⟨128 * c11 + l.val, by omega⟩)).trans ?_
    · funext a; fin_cases a
      · apply Fin.ext; show 32 * b + 1 * (16 * hh + (2 * p.val + h.val)) = _; rw [one_mul]
      · apply Fin.ext; show 128 * c11 + 1 * l.val = _; rw [one_mul]
    · show S.Y _ _ = S.Y _ _
      congr 1
      · show (i 1).val * 1024 + (32 * b + (16 * hh + (2 * p.val + h.val))) = _; omega
      · show (i 0).val * 1024 + (128 * c11 + l.val) = _; omega
  · refine ((congrArg (v11.read (Elt Ideal) f11) ?_).trans (hSc ⟨16 * b + 8 * hh + p.val, by omega⟩ h ⟨c11, by omega⟩ hg)).trans ?_
    · funext a; fin_cases a
      · apply Fin.ext; show 16 * b + 8 * hh + 1 * p.val = _; rw [one_mul]
      · apply Fin.ext; show 0 + 1 * h.val = _; rw [one_mul, zero_add]
      · apply Fin.ext; show c11 + 1 * 0 = _; rfl
    · show S.SC _ _ = S.SC _ _
      congr 1
      show (i 1).val * 1024 + (2 * (16 * b + 8 * hh + p.val) + h.val) = _; omega

/-- Sixteen stores, eight groups of two, fill sixteen words. -/
theorem expand16 (v : View sig' κ sp S73764x2x128 .bf16) (f : v.ty.Contents (Elt Ideal)) (rnd wb : ℕ)
    (p00 p10 p01 p11 p02 p12 p03 p13 p04 p14 p05 p15 p06 p16 p07 p17 : View.Piece (Elt Ideal) S73764x2x128 .bf16)
    (hwb : wb + 16 ≤ 4096) (h : BufOK S rnd wb (v.read (Elt Ideal) f))
    (h00 : ExpPiece S rnd wb 0 0 p00) (h10 : ExpPiece S rnd wb 1 0 p10) (h01 : ExpPiece S rnd wb 0 1 p01) (h11 : ExpPiece S rnd wb 1 1 p11)
    (h02 : ExpPiece S rnd wb 0 2 p02) (h12 : ExpPiece S rnd wb 1 2 p12) (h03 : ExpPiece S rnd wb 0 3 p03) (h13 : ExpPiece S rnd wb 1 3 p13)
    (h04 : ExpPiece S rnd wb 0 4 p04) (h14 : ExpPiece S rnd wb 1 4 p14) (h05 : ExpPiece S rnd wb 0 5 p05) (h15 : ExpPiece S rnd wb 1 5 p15)
    (h06 : ExpPiece S rnd wb 0 6 p06) (h16 : ExpPiece S rnd wb 1 6 p16) (h07 : ExpPiece S rnd wb 0 7 p07) (h17 : ExpPiece S rnd wb 1 7 p17) :
    BufOK S rnd (wb + 16) (v.read (Elt Ideal) (v.writes (Elt Ideal) f [p17, p07, p16, p06, p15, p05, p14, p04, p13, p03, p12, p02, p11, p01, p10, p00])) := by
  refine BufOK.expand S v f rnd wb _ ?_ ?_ hwb h
  · intro p hp
    simp only [List.mem_cons, List.not_mem_nil, or_false] at hp
    rcases hp with rfl | rfl | rfl | rfl | rfl | rfl | rfl | rfl | rfl | rfl | rfl | rfl | rfl | rfl | rfl | rfl
    · exact ⟨1, 7, by decide, by decide, h17⟩
    · exact ⟨0, 7, by decide, by decide, h07⟩
    · exact ⟨1, 6, by decide, by decide, h16⟩
    · exact ⟨0, 6, by decide, by decide, h06⟩
    · exact ⟨1, 5, by decide, by decide, h15⟩
    · exact ⟨0, 5, by decide, by decide, h05⟩
    · exact ⟨1, 4, by decide, by decide, h14⟩
    · exact ⟨0, 4, by decide, by decide, h04⟩
    · exact ⟨1, 3, by decide, by decide, h13⟩
    · exact ⟨0, 3, by decide, by decide, h03⟩
    · exact ⟨1, 2, by decide, by decide, h12⟩
    · exact ⟨0, 2, by decide, by decide, h02⟩
    · exact ⟨1, 1, by decide, by decide, h11⟩
    · exact ⟨0, 1, by decide, by decide, h01⟩
    · exact ⟨1, 0, by decide, by decide, h10⟩
    · exact ⟨0, 0, by decide, by decide, h00⟩
  · intro hh g hhh hg
    interval_cases hh <;> interval_cases g
    · exact ⟨p00, by simp, h00⟩
    · exact ⟨p01, by simp, h01⟩
    · exact ⟨p02, by simp, h02⟩
    · exact ⟨p03, by simp, h03⟩
    · exact ⟨p04, by simp, h04⟩
    · exact ⟨p05, by simp, h05⟩
    · exact ⟨p06, by simp, h06⟩
    · exact ⟨p07, by simp, h07⟩
    · exact ⟨p10, by simp, h10⟩
    · exact ⟨p11, by simp, h11⟩
    · exact ⟨p12, by simp, h12⟩
    · exact ⟨p13, by simp, h13⟩
    · exact ⟨p14, by simp, h14⟩
    · exact ⟨p15, by simp, h15⟩
    · exact ⟨p16, by simp, h16⟩
    · exact ⟨p17, by simp, h17⟩

theorem stgPiece_of (hi : 1 ≤ (i 0).val) (v8 : View sig' κ sp S73764x2x128 .bf16) (f8 : v8.ty.Contents (Elt Ideal)) (n : ℕ)
    (h8 : BufOK S (i 0).val n (v8.read (Elt Ideal) f8)) (T k q : ℕ) (hq : q < 2) (v : BitVec 32) (hv : S.W T k ≤ 4096 ∧ v.toNat = 9 * S.W T k)
    (o9 : Fin 3 → ℕ) (a9 : ℕ) (ho9 : o9 = ![a9, 0, 0]) (ha9 : a9 = 2 * k + q) (inb9) (spos)
    (o8 : Fin 3 → ℕ) (ho8 : o8 = k0_off19 i v (BitVec.ofNat 32 (9 * q))) (inb8) (pay : Vec Ideal S8x2x128 .bf16)
    (hp : pay = k0_pay128 (v8.readAt (Elt Ideal) (Rect.unit (s := S73764x2x128) o8 S8x2x128.size inb8).toLoadRect f8)) :
    StgPiece S (i 0).val T k q (⟨⟨⟨o9, S8x2x128.size, ![100, 1, 1], inb9⟩, spos⟩, pay⟩ : View.Piece (Elt Ideal) S800x2x128 .bf16) := by
  subst ha9
  refine ⟨ho9, rfl, rfl, ?_⟩
  intro x
  obtain ⟨p, h, l, rfl⟩ : ∃ (p : Fin 8) (h : Fin 2) (l : Fin 128), x = ix3 p h l := ⟨x 0, x 1, x 2, eq_ix3 x⟩
  obtain ⟨hw, hv⟩ := hv
  have hp8 := p.isLt
  have h0 : (i 0).val < 7 := (i 0).isLt
  rw [off19_eq i v q (S.W T k) hq hw hv] at ho8
  subst hp
  rw [pay128_eq]
  subst ho8
  show v8.read (Elt Ideal) f8 _ = E S ((i 0).val - 1) (S.W T k + q) p.val h.val l.val
  have hlt : ((i 0).val + 1) % 2 * 36882 + 9 * S.W T k + 9 * q + p.val < 73764 := by omega
  have e : (Rect.unit (s := S73764x2x128) ![((i 0).val + 1) % 2 * 36882 + 9 * S.W T k + 9 * q, 0, 0] S8x2x128.size inb8).toLoadRect.idx (ix3 p h l)
      = ix3 (⟨((i 0).val + 1) % 2 * 36882 + 9 * S.W T k + 9 * q + p.val, hlt⟩ : Fin 73764) h l := by
    funext a; fin_cases a
    · apply Fin.ext; show ((i 0).val + 1) % 2 * 36882 + 9 * S.W T k + 9 * q + 1 * p.val = _; rw [one_mul]
    · apply Fin.ext; show 0 + 1 * h.val = _; rw [one_mul, zero_add]
    · apply Fin.ext; show 0 + 1 * l.val = _; rw [one_mul, zero_add]
  rw [e, h8 _ ?_]
  · unfold G
    show E S (rOf (i 0).val (((i 0).val + 1) % 2 * 36882 + 9 * S.W T k + 9 * q + p.val)) ((((i 0).val + 1) % 2 * 36882 + 9 * S.W T k + 9 * q + p.val) % 36882 / 9)
      ((((i 0).val + 1) % 2 * 36882 + 9 * S.W T k + 9 * q + p.val) % 36882 % 9) h.val l.val = _
    unfold rOf
    rw [if_neg (by omega)]
    congr 1 <;> omega
  · refine ⟨?_, ?_, ?_⟩
    · show (((i 0).val + 1) % 2 * 36882 + 9 * S.W T k + 9 * q + p.val) % 36882 % 9 < 8; omega
    · show (((i 0).val + 1) % 2 * 36882 + 9 * S.W T k + 9 * q + p.val) / 36882 = (i 0).val % 2 → _; omega
    · intro hz; omega

theorem StgOK.zero (rnd T : ℕ) (rd : S800x2x128.Idx → EReal) : StgOK S rnd T 0 rd := fun y hy => absurd hy (by omega)

end Cert.Proof.KernelIdeal.Val

end
-- ==== Proof.Value.VFacts.lean ====
/- What the body stores before its loops. -/
module

public import proofs.«01_k».proof.Proof.Value.VSteps
public import Idealize.ShloMosaic.Lib.VecWindow
public import Idealize.ShloMosaic.Lib.IdealHost

@[expose] public section

set_option maxRecDepth 8192
set_option maxHeartbeats 4000000

noncomputable section

namespace Cert.Proof.KernelIdeal.Val

open Cert.KernelIdeal Cert.KernelIdeal.Gen Cert.Proof.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section Loops

variable [S : Src] (c : Dev nD) (i : grid0.Coords)
  (arg2 : Memref sig .tc .smem S64x128 .i32) (harg2 : arg2.IsWhole)
  (arg3 : Memref sig .tc .vmem S256x1024 .bf16) (harg3 : arg3.IsWhole)
  (arg4 : Memref sig .tc .vmem S1024x1024 .fp8e4m3) (harg4 : arg4.IsWhole)
  (arg5 : Memref sig .tc .vmem S1024x128 .bf16) (harg5 : arg5.IsWhole)
  (arg6 : Memref sig .tc .vmem S6144x256 .bf16) (harg6 : arg6.IsWhole)
  (arg7 : Memref sig .tc .vmem S256x1024 .bf16) (harg7 : arg7.IsWhole)
  (arg8 : Memref sig .tc .vmem S73764x2x128 .bf16) (harg8 : arg8.IsWhole)
  (arg9 : Memref sig .tc .vmem S800x2x128 .bf16) (harg9 : arg9.IsWhole)
  (arg10 : Memref sig .tc .vmem S800x2x128 .bf16) (harg10 : arg10.IsWhole)
  (arg11 : Memref sig .tc .vmem S512x2x128 .bf16) (harg11 : arg11.IsWhole)

/-- The words that are filled when the body is run at a point. -/
def filled (i : grid0.Coords) : ℕ := if (i 0).val < 6 then (i 1).val * 512 else 0
/-- And when it has been. -/
def filled' (i : grid0.Coords) : ℕ := if (i 0).val < 6 then ((i 1).val + 1) * 512 else 0

/-- A buffer held whole at the contents `f`. -/
abbrev ptP {sp : Space} {S : Shape} {e : EltTy} (M : Memref sig .tc sp S e) (f : M.view.ty.Contents (Elt Ideal)) : sProp 𝕄 :=
  M.view.loc (c : Thread nD τ) ↦[M.view.set]{fullShare} f

/-- The staged scale words. -/
def ScSrc (rd : S1024x128.Idx → EReal) : Prop := ∀ (r : Fin 1024) (l : Fin 128), rd (ix2 r l) = Src.SC ((i 1).val * 1024 + r.val) l.val

theorem out_zero {r s : ℕ} (rd : S256x1024.Idx → EReal) : OutOK S r s (64 * 0) rd := fun y hy => absurd hy (by omega)

theorem zeros_ok (v : View sig .tc .vmem S73764x2x128 .bf16) (f : v.ty.Contents (Elt Ideal)) (n : ℕ) (hn : n = 0) (hi0 : (i 0).val = 0) (inb1) (inb2) :
    BufOK S (i 0).val n (v.read (Elt Ideal) (v.writes (Elt Ideal) f
      [⟨Rect.unit (s := S73764x2x128) ![73746, 0, 0] S18x2x128.size inb1, (constant (F := Ideal) S18x2x128 .bf16 0x0000#16 : FVec Ideal S18x2x128 .bf16)⟩,
        ⟨Rect.unit (s := S73764x2x128) ![36864, 0, 0] S18x2x128.size inb2, (constant (F := Ideal) S18x2x128 .bf16 0x0000#16 : FVec Ideal S18x2x128 .bf16)⟩])) := by
  subst hn
  intro y ⟨h1, h2, h3⟩
  have h0 : (y 0).val < 73764 := (y 0).isLt
  rw [hi0] at h2 h3
  have hw : 4096 ≤ (y 0).val % 36882 / 9 := by
    by_cases h : (y 0).val / 36882 = 0 % 2
    · rcases h2 h with h | h
      · omega
      · exact h
    · exact h3 rfl h
  have hG : G S (i 0).val y = (0 : EReal) := by unfold G E; rw [if_neg (by omega)]
  rw [hG]
  refine View.read_writes_apply_of_pieces v f (fun _ => (0 : EReal)) _ ?_ y ?_
  · intro p hp x
    simp only [List.mem_cons, List.not_mem_nil, or_false] at hp
    rcases hp with rfl | rfl <;> exact Idealize.ShloMosaic.Ideal.ofBits_zero_bf16
  · have hm : ∀ (o : ℕ) (inb), o ≤ (y 0).val → (y 0).val < o + 18 → y ∈ (Rect.unit (s := S73764x2x128) ![o, 0, 0] S18x2x128.size inb).set := by
      intro o inb ha hb
      refine (Rect.unit (s := S73764x2x128) ![o, 0, 0] S18x2x128.size inb).mem_set.mpr ?_
      intro a
      fin_cases a
      · refine ⟨(y 0).val - o, ?_, ?_⟩
        · show _ < 18; omega
        · show (y 0).val = o + 1 * ((y 0).val - o); omega
      · refine ⟨(y 1).val, (y 1).isLt, ?_⟩
        show (y 1).val = 0 + 1 * (y 1).val; omega
      · refine ⟨(y 2).val, (y 2).isLt, ?_⟩
        show (y 2).val = 0 + 1 * (y 2).val; omega
    by_cases hp : (y 0).val < 36882
    · exact ⟨_, List.mem_cons_of_mem _ List.mem_cons_self, hm 36864 inb2 (by omega) (by omega)⟩
    · exact ⟨_, List.mem_cons_self, hm 73746 inb1 (by omega) (by omega)⟩

theorem scales_ok (hi : (i 0).val < 6) (v : View sig .tc .vmem S512x2x128 .bf16) (f : v.ty.Contents (Elt Ideal)) (v5 : View sig .tc .vmem S1024x128 .bf16) (f5 : v5.ty.Contents (Elt Ideal))
    (h5 : ScSrc i (v5.read (Elt Ideal) f5)) (inb) (inb5) :
    ScOK i (v.read (Elt Ideal) (v.writes (Elt Ideal) f [⟨Rect.unit (s := S512x2x128) ![0, 0, 0] S512x2x128.size inb,
      k0_pay1 i (v5.readAt (Elt Ideal) (Rect.unit (s := S1024x128) ![0, 0] S1024x128.size inb5).toLoadRect f5)⟩])) := by
  intro p h l hl
  rw [View.read_writes_full, pay1_apply i _ p h l hi hl, View.readAt_full]
  refine (h5 _ _).trans ?_
  show S.SC _ _ = S.SC _ _
  congr 1
  show 8 * (i 0).val + l.val = _; omega

end Loops

end Cert.Proof.KernelIdeal.Val

end
-- ==== Proof.Value.VBlocks.lean ====
/- The arguments' elements at the call, and that the windows' blocks hold them. -/
module

public import proofs.«01_k».proof.Proof.Value.VFacts
public import proofs.«01_k».proof.Proof.Frame.IRun

@[expose] public section

set_option maxRecDepth 8192
set_option maxHeartbeats 4000000

noncomputable section

namespace Cert.Proof.KernelIdeal.Val

open Cert.KernelIdeal Cert.KernelIdeal.Gen Cert.Proof.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- A matrix's element by row and column; zero outside it. -/
def el {a b : ℕ} (f : (⟨2, ![a, b]⟩ : Shape).Idx → EReal) (r q : ℕ) : EReal := if h : r < a ∧ q < b then f (ix2 ⟨r, h.1⟩ ⟨q, h.2⟩) else 0

theorem el_eq {a b : ℕ} (f : (⟨2, ![a, b]⟩ : Shape).Idx → EReal) (r q : ℕ) (hr : r < a) (hq : q < b) : el f r q = f (ix2 ⟨r, hr⟩ ⟨q, hq⟩) := dif_pos ⟨hr, hq⟩

/-- The pair number of a list's entry: the buffer row divided by nine. -/
def pairOf (f : S64x128.Idx → BitVec 32) (T k : ℕ) : ℕ := if h : T < 64 ∧ k < 128 then (f (ix2 ⟨T, h.1⟩ ⟨k, h.2⟩)).toNat / 9 else 0

/-- The elements, as functions of the five arguments. -/
abbrev srcOf (a0 : S64x128.Idx → BitVec 32) (a1 : S2048x6144.Idx → EReal) (a2 : S8192x6144.Idx → EReal) (a3 : S8192x128.Idx → EReal) (a4 : S6144x256.Idx → EReal) : Src where
  Y := el a2
  SC := el a3
  X := el a1
  P := el a4
  W := pairOf a0

variable (m : (ℓ : Loc nD τ sig) → Buf (Elt Ideal) ℓ)

abbrev src : Src := srcOf (m (((0 : Dev nD) : Thread nD τ).loc main_arg0)) (m (((0 : Dev nD) : Thread nD τ).loc main_arg1))
  (m (((0 : Dev nD) : Thread nD τ).loc main_arg2)) (m (((0 : Dev nD) : Thread nD τ).loc main_arg3)) (m (((0 : Dev nD) : Thread nD τ).loc main_arg4))

/-- Every list entry of the launch memory's table is nine times a pair's number. -/
def Lists9 : Prop := ∀ x : S64x128.Idx, (x 1).val < 48 → ∃ w, w ≤ 4096 ∧ BitVec.toNat (w := 32) (m (((0 : Dev nD) : Thread nD τ).loc main_arg0) x) = 9 * w

variable {m}

theorem tabW_of (hL : Lists9 m) (c : Dev nD) (ft : Buf (Elt Ideal) ((Memref.whole (sig := sig) main_arg0).view.loc (c : Thread nD τ)))
    (hft : (Memref.whole main_arg0).view.read (Elt Ideal) ft = m (((0 : Dev nD) : Thread nD τ).loc main_arg0)) : TabW (S := src m) c (Memref.whole main_arg0) ft := by
  intro x hx
  obtain ⟨w, hw, e⟩ := hL x hx
  have h0 : (x 0).val < 64 := (x 0).isLt
  have h1 : (x 1).val < 128 := (x 1).isLt
  have ex : (ix2 ⟨(x 0).val, h0⟩ ⟨(x 1).val, h1⟩ : S64x128.Idx) = x := by funext k; fin_cases k <;> rfl
  have hp : pairOf (m (((0 : Dev nD) : Thread nD τ).loc main_arg0)) (x 0).val (x 1).val = w := by
    unfold pairOf
    rw [dif_pos ⟨h0, h1⟩, ex]
    omega
  show pairOf (m (((0 : Dev nD) : Thread nD τ).loc main_arg0)) (x 0).val (x 1).val ≤ 4096 ∧ _ = 9 * pairOf (m (((0 : Dev nD) : Thread nD τ).loc main_arg0)) (x 0).val (x 1).val
  rw [hp, hft]
  exact ⟨hw, e⟩

theorem coords0 : ∀ t : Fin grid0.N, (grid0.coords t 0).val = t.val / 8 := by decide +kernel
theorem coords1 : ∀ t : Fin grid0.N, (grid0.coords t 1).val = t.val % 8 := by decide +kernel
theorem tr0 : ∀ t : Fin grid0.N, cc0_transform_0 (grid0.coords t) = ![if (grid0.coords t 0).val = 0 then 0 else (grid0.coords t 1).val, (grid0.coords t 0).val - 1] := by decide +kernel
theorem tr1 : ∀ t : Fin grid0.N, cc0_transform_1 (grid0.coords t) = ![if (grid0.coords t 0).val < 6 then (grid0.coords t 1).val else 7, min (grid0.coords t 0).val 5] := by decide +kernel
theorem tr2 : ∀ t : Fin grid0.N, cc0_transform_2 (grid0.coords t) = ![(grid0.coords t 1).val, 0] := by decide +kernel
theorem tr3 : ∀ t : Fin grid0.N, cc0_transform_3 (grid0.coords t) = ![0, 0] := by decide +kernel
theorem tr4 : ∀ t : Fin grid0.N, cc0_transform_4 (grid0.coords t) = ![if (grid0.coords t 0).val = 0 then 0 else (grid0.coords t 1).val, (grid0.coords t 0).val - 1] := by decide +kernel

variable (m)

/-- The block of window `w` at point `t`, of the array as it is at the call. -/
def iblk (c : Dev nD) (w : Fin 5) (t : Fin (cfg0 (F := Ideal) (adm m 0)).N) :
    (((cfg0 (F := Ideal) (adm m 0)).win w).xblock ((cfg0 (F := Ideal) (adm m 0)).grid.coords t)).Idx → Elt Ideal ((cfg0 (F := Ideal) (adm m 0)).win w).elt :=
  (((cfg0 (F := Ideal) (adm m 0)).win w).blk t).view.read (Elt Ideal) (V m c (Pipeline.arrRef spec0 w))

variable {m}

theorem iblk0 (c : Dev nD) (t : Fin grid0.N) (hp : 0 < (grid0.coords t 0).val) : XOK (S := src m) (grid0.coords t) (iblk m c 0 t) := by
  obtain rfl : c = 0 := Subsingleton.elim _ _
  intro r q
  have h0 : (grid0.coords t 0).val < 7 := (grid0.coords t 0).isLt
  have h1 : (grid0.coords t 1).val < 8 := (grid0.coords t 1).isLt
  have hr := r.isLt
  have hq := q.isLt
  refine Eq.trans ?_ (el_eq _ _ _ (by omega) (by omega)).symm
  show m (((0 : Dev nD) : Thread nD τ).loc main_arg1) _ = m (((0 : Dev nD) : Thread nD τ).loc main_arg1) _
  congr 1
  funext a
  fin_cases a
  · apply Fin.ext
    show cc0_transform_0 (grid0.coords t) 0 * 256 + 1 * r.val = (grid0.coords t 1).val * 256 + r.val
    rw [tr0]
    show (if (grid0.coords t 0).val = 0 then 0 else (grid0.coords t 1).val) * 256 + 1 * r.val = _
    rw [if_neg (by omega)]; omega
  · apply Fin.ext
    show cc0_transform_0 (grid0.coords t) 1 * 1024 + 1 * q.val = ((grid0.coords t 0).val - 1) * 1024 + q.val
    rw [tr0]
    show ((grid0.coords t 0).val - 1) * 1024 + 1 * q.val = _
    omega

theorem iblk1 (c : Dev nD) (t : Fin grid0.N) (hp : (grid0.coords t 0).val < 6) : YOK (S := src m) (grid0.coords t) (iblk m c 1 t) := by
  obtain rfl : c = 0 := Subsingleton.elim _ _
  intro r q
  have h0 : (grid0.coords t 0).val < 7 := (grid0.coords t 0).isLt
  have h1 : (grid0.coords t 1).val < 8 := (grid0.coords t 1).isLt
  have hr := r.isLt
  have hq := q.isLt
  refine Eq.trans ?_ (el_eq _ _ _ (by omega) (by omega)).symm
  show m (((0 : Dev nD) : Thread nD τ).loc main_arg2) _ = m (((0 : Dev nD) : Thread nD τ).loc main_arg2) _
  congr 1
  funext a
  fin_cases a
  · apply Fin.ext
    show cc0_transform_1 (grid0.coords t) 0 * 1024 + 1 * r.val = (grid0.coords t 1).val * 1024 + r.val
    rw [tr1]
    show (if (grid0.coords t 0).val < 6 then (grid0.coords t 1).val else 7) * 1024 + 1 * r.val = _
    rw [if_pos hp]; omega
  · apply Fin.ext
    show cc0_transform_1 (grid0.coords t) 1 * 1024 + 1 * q.val = (grid0.coords t 0).val * 1024 + q.val
    rw [tr1]
    show min (grid0.coords t 0).val 5 * 1024 + 1 * q.val = _
    omega

theorem iblk2 (c : Dev nD) (t : Fin grid0.N) : ScSrc (S := src m) (grid0.coords t) (iblk m c 2 t) := by
  obtain rfl : c = 0 := Subsingleton.elim _ _
  intro r q
  have h1 : (grid0.coords t 1).val < 8 := (grid0.coords t 1).isLt
  have hr := r.isLt
  have hq := q.isLt
  refine Eq.trans ?_ (el_eq _ _ _ (by omega) (by omega)).symm
  show m (((0 : Dev nD) : Thread nD τ).loc main_arg3) _ = m (((0 : Dev nD) : Thread nD τ).loc main_arg3) _
  congr 1
  funext a
  fin_cases a
  · apply Fin.ext
    show cc0_transform_2 (grid0.coords t) 0 * 1024 + 1 * r.val = (grid0.coords t 1).val * 1024 + r.val
    rw [tr2]
    show (grid0.coords t 1).val * 1024 + 1 * r.val = _
    omega
  · apply Fin.ext
    show cc0_transform_2 (grid0.coords t) 1 * 128 + 1 * q.val = q.val
    rw [tr2]
    show 0 * 128 + 1 * q.val = _
    omega

theorem iblk3 (c : Dev nD) (t : Fin grid0.N) : POK (S := src m) (iblk m c 3 t) := by
  obtain rfl : c = 0 := Subsingleton.elim _ _
  intro r q
  have hr := r.isLt
  have hq := q.isLt
  refine Eq.trans ?_ (el_eq _ _ _ (by omega) (by omega)).symm
  show m (((0 : Dev nD) : Thread nD τ).loc main_arg4) _ = m (((0 : Dev nD) : Thread nD τ).loc main_arg4) _
  congr 1
  funext a
  fin_cases a
  · apply Fin.ext
    show cc0_transform_3 (grid0.coords t) 0 * 6144 + 1 * r.val = r.val
    rw [tr3]
    show 0 * 6144 + 1 * r.val = _
    omega
  · apply Fin.ext
    show cc0_transform_3 (grid0.coords t) 1 * 256 + 1 * q.val = q.val
    rw [tr3]
    show 0 * 256 + 1 * q.val = _
    omega

/-! ## What the pair buffer holds between points -/

/-- What is filled of the pair buffer before point `n`; nothing is known at the first. -/
def BufInv (S : Src) (n : ℕ) (rd : S73764x2x128.Idx → EReal) : Prop :=
  0 < n → BufOK S (min (n / 8) 6) (if n / 8 < 6 then n % 8 * 512 else 0) rd

theorem BufInv.succ {S : Src} {n : ℕ} {rd : S73764x2x128.Idx → EReal} (h6 : n / 8 < 6) (h : BufOK S (n / 8) (n % 8 * 512 + 512) rd) : BufInv S (n + 1) rd := by
  intro _
  by_cases h7 : n % 8 = 7
  · rw [h7] at h
    have h' := BufOK.next S h
    rw [show min ((n + 1) / 8) 6 = n / 8 + 1 by omega]
    rw [show (if (n + 1) / 8 < 6 then (n + 1) % 8 * 512 else 0) = 0 by split <;> omega]
    exact h'
  · rw [show min ((n + 1) / 8) 6 = n / 8 by omega, if_pos (by omega), show (n + 1) % 8 * 512 = n % 8 * 512 + 512 by omega]
    exact h

theorem BufInv.last {S : Src} {n : ℕ} {rd : S73764x2x128.Idx → EReal} (h6 : n / 8 = 6) (h : BufOK S 6 0 rd) : BufInv S (n + 1) rd := by
  intro _
  rw [show min ((n + 1) / 8) 6 = 6 by omega, if_neg (by omega)]
  exact h

end Cert.Proof.KernelIdeal.Val

end
-- ==== Proof.Value.VExp1.lean ====
/- The loops that fill the pair buffer, with what they leave in it. -/
module

public import proofs.«01_k».proof.Proof.Value.VSteps

@[expose] public section

set_option maxRecDepth 8192
set_option maxHeartbeats 8000000

noncomputable section

namespace Cert.Proof.KernelIdeal.Val

open Cert.KernelIdeal Cert.KernelIdeal.Gen Cert.Proof.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section Loops

variable [S : Src] (c : Dev nD) (i : grid0.Coords)
  (arg2 : Memref sig .tc .smem S64x128 .i32) (harg2 : arg2.IsWhole)
  (arg3 : Memref sig .tc .vmem S256x1024 .bf16) (harg3 : arg3.IsWhole)
  (arg4 : Memref sig .tc .vmem S1024x1024 .fp8e4m3) (harg4 : arg4.IsWhole)
  (arg5 : Memref sig .tc .vmem S1024x128 .bf16) (harg5 : arg5.IsWhole)
  (arg6 : Memref sig .tc .vmem S6144x256 .bf16) (harg6 : arg6.IsWhole)
  (arg7 : Memref sig .tc .vmem S256x1024 .bf16) (harg7 : arg7.IsWhole)
  (arg8 : Memref sig .tc .vmem S73764x2x128 .bf16) (harg8 : arg8.IsWhole)
  (arg9 : Memref sig .tc .vmem S800x2x128 .bf16) (harg9 : arg9.IsWhole)
  (arg10 : Memref sig .tc .vmem S800x2x128 .bf16) (harg10 : arg10.IsWhole)
  (arg11 : Memref sig .tc .vmem S512x2x128 .bf16) (harg11 : arg11.IsWhole)

set_option warn.classDefReducibility false in
@[sl_loop] def loopInv_k0_t1 (arg1 v4 : BitVec 32) (k0_h3 : k0_cond3 i = 1#1) :
    LoopInvTy_k0_t1 (F := Ideal) Unit ℕ (UR sig nD τ) ℕ 𝒱₀ c none Set.univ i arg2 harg2 arg3 harg3 arg4 harg4 arg5 harg5 arg6 harg6 arg7 harg7 arg8 harg8 arg9 harg9 arg10 harg10 arg11 harg11 arg1 v4 k0_h3 where
  inv k acc := iprop(okP c arg4 (YOK i) ∗ okP c arg8 (BufOK S (i 0).val ((i 1).val * 512 + 16 * k)) ∗ okP c arg11 (ScOK i))
  step k acc := by
    unfold k0_t1_body
    iintro ⟨⟨%f4, %h4, H4⟩, ⟨%f8, %h8, H8⟩, ⟨%f11, %h11, H11⟩⟩
    sl_exec_parts
    sl_step
    isplitl [H4]
    · iexists f4
      isplitr
      · ipureintro; exact h4
      · iexact H4
    isplitr [H11]; swap
    · iexists f11
      isplitr
      · ipureintro; exact h11
      · iexact H11
    iexists _
    isplitr; swap
    · iexact H8
    ipureintro
    have hk : k.val < 32 := k.isLt
    have hi1 : (i 1).val < 8 := (i 1).isLt
    have e0 : (i 1).val * 512 + 16 * k.val = (i 1).val * 512 + 16 * (k.val) := by omega
    have e1 : (i 1).val * 512 + 16 * (k.val + 1) = (i 1).val * 512 + 16 * (k.val) + 16 := by omega
    rw [e0] at h8
    rw [e1]
    refine expand16 arg8.view f8 (i 0).val ((i 1).val * 512 + 16 * (k.val)) _ _ _ _ _ _ _ _ _ _ _ _ _ _ _ _ (by omega) h8 ?_ ?_ ?_ ?_ ?_ ?_ ?_ ?_ ?_ ?_ ?_ ?_ ?_ ?_ ?_ ?_
    · exact expPiece_of i arg4.view f4 arg11.view f11 h4 h11 (k.val) 0 0 (by omega) (by decide) (by decide) _ (off3_eq i k 0 0 (by decide) (by decide)) _ _ _ _ _ (k0_off1_eq k) (by omega) rfl _ _ _ _ (k0_off2_eq k 0) (by simp only []; omega) rfl _ ![0, 0] slices_S32x128_o0_0_S16x128 rfl _ rfl
    · exact expPiece_of i arg4.view f4 arg11.view f11 h4 h11 (k.val) 1 0 (by omega) (by decide) (by decide) _ (off3_eq i k 1 0 (by decide) (by decide)) _ _ _ _ _ (k0_off1_eq k) (by omega) rfl _ _ _ _ (k0_off2_eq k 1) (by simp only []; omega) rfl _ ![16, 0] slices_S32x128_o16_0_S16x128 rfl _ rfl
    · exact expPiece_of i arg4.view f4 arg11.view f11 h4 h11 (k.val) 0 1 (by omega) (by decide) (by decide) _ (off3_eq i k 0 1 (by decide) (by decide)) _ _ _ _ _ (k0_off4_eq k) (by omega) rfl _ _ _ _ (k0_off5_eq k 0) (by simp only []; omega) rfl _ ![0, 0] slices_S32x128_o0_0_S16x128 rfl _ rfl
    · exact expPiece_of i arg4.view f4 arg11.view f11 h4 h11 (k.val) 1 1 (by omega) (by decide) (by decide) _ (off3_eq i k 1 1 (by decide) (by decide)) _ _ _ _ _ (k0_off4_eq k) (by omega) rfl _ _ _ _ (k0_off5_eq k 1) (by simp only []; omega) rfl _ ![16, 0] slices_S32x128_o16_0_S16x128 rfl _ rfl
    · exact expPiece_of i arg4.view f4 arg11.view f11 h4 h11 (k.val) 0 2 (by omega) (by decide) (by decide) _ (off3_eq i k 0 2 (by decide) (by decide)) _ _ _ _ _ (k0_off6_eq k) (by omega) rfl _ _ _ _ (k0_off7_eq k 0) (by simp only []; omega) rfl _ ![0, 0] slices_S32x128_o0_0_S16x128 rfl _ rfl
    · exact expPiece_of i arg4.view f4 arg11.view f11 h4 h11 (k.val) 1 2 (by omega) (by decide) (by decide) _ (off3_eq i k 1 2 (by decide) (by decide)) _ _ _ _ _ (k0_off6_eq k) (by omega) rfl _ _ _ _ (k0_off7_eq k 1) (by simp only []; omega) rfl _ ![16, 0] slices_S32x128_o16_0_S16x128 rfl _ rfl
    · exact expPiece_of i arg4.view f4 arg11.view f11 h4 h11 (k.val) 0 3 (by omega) (by decide) (by decide) _ (off3_eq i k 0 3 (by decide) (by decide)) _ _ _ _ _ (k0_off8_eq k) (by omega) rfl _ _ _ _ (k0_off9_eq k 0) (by simp only []; omega) rfl _ ![0, 0] slices_S32x128_o0_0_S16x128 rfl _ rfl
    · exact expPiece_of i arg4.view f4 arg11.view f11 h4 h11 (k.val) 1 3 (by omega) (by decide) (by decide) _ (off3_eq i k 1 3 (by decide) (by decide)) _ _ _ _ _ (k0_off8_eq k) (by omega) rfl _ _ _ _ (k0_off9_eq k 1) (by simp only []; omega) rfl _ ![16, 0] slices_S32x128_o16_0_S16x128 rfl _ rfl
    · exact expPiece_of i arg4.view f4 arg11.view f11 h4 h11 (k.val) 0 4 (by omega) (by decide) (by decide) _ (off3_eq i k 0 4 (by decide) (by decide)) _ _ _ _ _ (k0_off10_eq k) (by omega) rfl _ _ _ _ (k0_off11_eq k 0) (by simp only []; omega) rfl _ ![0, 0] slices_S32x128_o0_0_S16x128 rfl _ rfl
    · exact expPiece_of i arg4.view f4 arg11.view f11 h4 h11 (k.val) 1 4 (by omega) (by decide) (by decide) _ (off3_eq i k 1 4 (by decide) (by decide)) _ _ _ _ _ (k0_off10_eq k) (by omega) rfl _ _ _ _ (k0_off11_eq k 1) (by simp only []; omega) rfl _ ![16, 0] slices_S32x128_o16_0_S16x128 rfl _ rfl
    · exact expPiece_of i arg4.view f4 arg11.view f11 h4 h11 (k.val) 0 5 (by omega) (by decide) (by decide) _ (off3_eq i k 0 5 (by decide) (by decide)) _ _ _ _ _ (k0_off12_eq k) (by omega) rfl _ _ _ _ (k0_off13_eq k 0) (by simp only []; omega) rfl _ ![0, 0] slices_S32x128_o0_0_S16x128 rfl _ rfl
    · exact expPiece_of i arg4.view f4 arg11.view f11 h4 h11 (k.val) 1 5 (by omega) (by decide) (by decide) _ (off3_eq i k 1 5 (by decide) (by decide)) _ _ _ _ _ (k0_off12_eq k) (by omega) rfl _ _ _ _ (k0_off13_eq k 1) (by simp only []; omega) rfl _ ![16, 0] slices_S32x128_o16_0_S16x128 rfl _ rfl
    · exact expPiece_of i arg4.view f4 arg11.view f11 h4 h11 (k.val) 0 6 (by omega) (by decide) (by decide) _ (off3_eq i k 0 6 (by decide) (by decide)) _ _ _ _ _ (k0_off14_eq k) (by omega) rfl _ _ _ _ (k0_off15_eq k 0) (by simp only []; omega) rfl _ ![0, 0] slices_S32x128_o0_0_S16x128 rfl _ rfl
    · exact expPiece_of i arg4.view f4 arg11.view f11 h4 h11 (k.val) 1 6 (by omega) (by decide) (by decide) _ (off3_eq i k 1 6 (by decide) (by decide)) _ _ _ _ _ (k0_off14_eq k) (by omega) rfl _ _ _ _ (k0_off15_eq k 1) (by simp only []; omega) rfl _ ![16, 0] slices_S32x128_o16_0_S16x128 rfl _ rfl
    · exact expPiece_of i arg4.view f4 arg11.view f11 h4 h11 (k.val) 0 7 (by omega) (by decide) (by decide) _ (off3_eq i k 0 7 (by decide) (by decide)) _ _ _ _ _ (k0_off16_eq k) (by omega) rfl _ _ _ _ (k0_off17_eq k 0) (by simp only []; omega) rfl _ ![0, 0] slices_S32x128_o0_0_S16x128 rfl _ rfl
    · exact expPiece_of i arg4.view f4 arg11.view f11 h4 h11 (k.val) 1 7 (by omega) (by decide) (by decide) _ (off3_eq i k 1 7 (by decide) (by decide)) _ _ _ _ _ (k0_off16_eq k) (by omega) rfl _ _ _ _ (k0_off17_eq k 1) (by simp only []; omega) rfl _ ![16, 0] slices_S32x128_o16_0_S16x128 rfl _ rfl

end Loops

end Cert.Proof.KernelIdeal.Val

end
-- ==== Proof.Value.VRun0.lean ====
/- The body run once at a grid point, with what it leaves. -/
module

public import proofs.«01_k».proof.Proof.Value.VFacts
public import proofs.«01_k».proof.Proof.Value.VExp1
public import Idealize.ShloMosaic.Lib.Pipeline.Frame
public import Idealize.ShloMosaic.Lib.Tactic

@[expose] public section

set_option maxRecDepth 8192
set_option maxHeartbeats 16000000

noncomputable section

namespace Cert.Proof.KernelIdeal.Val

open Cert.KernelIdeal Cert.KernelIdeal.Gen Cert.Proof.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section Loops

variable [S : Src] (c : Dev nD) (i : grid0.Coords)
  (arg2 : Memref sig .tc .smem S64x128 .i32) (harg2 : arg2.IsWhole)
  (arg3 : Memref sig .tc .vmem S256x1024 .bf16) (harg3 : arg3.IsWhole)
  (arg4 : Memref sig .tc .vmem S1024x1024 .fp8e4m3) (harg4 : arg4.IsWhole)
  (arg5 : Memref sig .tc .vmem S1024x128 .bf16) (harg5 : arg5.IsWhole)
  (arg6 : Memref sig .tc .vmem S6144x256 .bf16) (harg6 : arg6.IsWhole)
  (arg7 : Memref sig .tc .vmem S256x1024 .bf16) (harg7 : arg7.IsWhole)
  (arg8 : Memref sig .tc .vmem S73764x2x128 .bf16) (harg8 : arg8.IsWhole)
  (arg9 : Memref sig .tc .vmem S800x2x128 .bf16) (harg9 : arg9.IsWhole)
  (arg10 : Memref sig .tc .vmem S800x2x128 .bf16) (harg10 : arg10.IsWhole)
  (arg11 : Memref sig .tc .vmem S512x2x128 .bf16) (harg11 : arg11.IsWhole)

attribute [local irreducible] BufOK ScOK YOK XOK POK OutOK ScSrc TabW

/-- The first point: the rows past the end are set to zero and the first words are filled. -/
theorem kernelRun0 (hi0 : (i 0).val = 0) (hi1 : (i 1).val = 0)
    (ft : Buf (Elt Ideal) (arg2.view.loc (c : Thread nD τ))) (hT : TabW c arg2 ft) (f3 : arg3.view.ty.Contents (Elt Ideal)) (f4 : arg4.view.ty.Contents (Elt Ideal)) (f5 : arg5.view.ty.Contents (Elt Ideal)) (f6 : arg6.view.ty.Contents (Elt Ideal)) (f7 : arg7.view.ty.Contents (Elt Ideal))
    (h4 : YOK i (arg4.view.read (Elt Ideal) f4)) (h5 : ScSrc i (arg5.view.read (Elt Ideal) f5)) (W : Waits sig Unit) (K : PUnit → sProp 𝕄) :
    iprop(tabP c arg2 ft ∗ ptP c arg3 f3 ∗ ptP c arg4 f4 ∗ ptP c arg5 f5 ∗ ptP c arg6 f6 ∗ ptP c arg7 f7 ∗ anyP c arg8 ∗ anyP c arg9 ∗ anyP c arg10 ∗ anyP c arg11 ∗ owes (c : Thread nD τ) 0 W
        ∗ (iprop(tabP c arg2 ft ∗ ptP c arg3 f3 ∗ okP c arg4 (YOK i) ∗ ptP c arg5 f5 ∗ ptP c arg6 f6 ∗ ptP c arg7 f7 ∗ okP c arg8 (BufOK S (i 0).val ((i 1).val * 512 + 16 * 32)) ∗ anyP c arg9 ∗ anyP c arg10 ∗ anyP c arg11 ∗ ∃ W', owes (c : Thread nD τ) 0 W') -∗ K ⟨⟩))
      ⊢ wp frame (wpE (defs₀ (F := Ideal)) Variants.none c none) Set.univ
          (cc0_combine i arg2 harg2 arg3 harg3 arg4 harg4 arg5 harg5 arg6 harg6 arg7 harg7 arg8 harg8 arg9 harg9 arg10 harg10 arg11 harg11) K := by
  simp only [cc0_combine_eq_skeleton]; unfold cc0_combine_skel
  iintro ⟨HT, H3, H4, H5, H6, H7, ⟨%f8, H8⟩, ⟨%f9, H9⟩, ⟨%f10, H10⟩, ⟨%f11, H11⟩, HW, Hk⟩
  have b1 : cond1 i := (cond1_iff i).2 (by omega)
  have b2 : cond2 i := (cond2_iff i).2 (by omega)
  have b3 : k0_cond3 i = 1#1 := (cond3_iff i).2 (by omega)
  have b4 : ¬ k0_cond4 i = 1#1 := fun h => absurd ((cond4_iff i).1 h) (by omega)
  have b5 : ¬ k0_cond5 i = 1#1 := fun h => absurd ((cond5_iff i).1 h) (by omega)
  have z8 := zeros_ok i arg8.view f8 ((i 1).val * 512 + 16 * 0) (by omega) hi0 inb_S73764x2x128_S18x2x128_73746_0_0 inb_S73764x2x128_S18x2x128_36864_0_0
  have z11 := scales_ok i (by omega) arg11.view arg11.view.junk arg5.view f5 h5 inb_S512x2x128_S512x2x128_0_0_0 inb_S1024x128_S1024x128_0_0
  clear hi0 hi1
  sl_exec
  sl_step
  iapply Hk
  isplitl [HT]; · iexact HT
  isplitl [H3]; · iexact H3
  isplitl [H4]
  · iexists _
    isplitr; swap
    · iexact H4
    ipureintro; assumption
  isplitl [H5]; · iexact H5
  isplitl [H6]; · iexact H6
  isplitl [H7]; · iexact H7
  isplitl [H8]
  · iexists _
    isplitr; swap
    · iexact H8
    ipureintro; assumption
  isplitl [H9]; · iexists _; iexact H9
  isplitl [H10]; · iexists _; iexact H10
  isplitl [H11]; · iexists _; iexact H11
  iexists _; iexact HW

end Loops

end Cert.Proof.KernelIdeal.Val

end
-- ==== Proof.Value.VRun1.lean ====
/- The body run once at a grid point, with what it leaves. -/
module

public import proofs.«01_k».proof.Proof.Value.VFacts
public import proofs.«01_k».proof.Proof.Value.VExp1
public import Idealize.ShloMosaic.Lib.Pipeline.Frame
public import Idealize.ShloMosaic.Lib.Tactic

@[expose] public section

set_option maxRecDepth 8192
set_option maxHeartbeats 16000000

noncomputable section

namespace Cert.Proof.KernelIdeal.Val

open Cert.KernelIdeal Cert.KernelIdeal.Gen Cert.Proof.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section Loops

variable [S : Src] (c : Dev nD) (i : grid0.Coords)
  (arg2 : Memref sig .tc .smem S64x128 .i32) (harg2 : arg2.IsWhole)
  (arg3 : Memref sig .tc .vmem S256x1024 .bf16) (harg3 : arg3.IsWhole)
  (arg4 : Memref sig .tc .vmem S1024x1024 .fp8e4m3) (harg4 : arg4.IsWhole)
  (arg5 : Memref sig .tc .vmem S1024x128 .bf16) (harg5 : arg5.IsWhole)
  (arg6 : Memref sig .tc .vmem S6144x256 .bf16) (harg6 : arg6.IsWhole)
  (arg7 : Memref sig .tc .vmem S256x1024 .bf16) (harg7 : arg7.IsWhole)
  (arg8 : Memref sig .tc .vmem S73764x2x128 .bf16) (harg8 : arg8.IsWhole)
  (arg9 : Memref sig .tc .vmem S800x2x128 .bf16) (harg9 : arg9.IsWhole)
  (arg10 : Memref sig .tc .vmem S800x2x128 .bf16) (harg10 : arg10.IsWhole)
  (arg11 : Memref sig .tc .vmem S512x2x128 .bf16) (harg11 : arg11.IsWhole)

attribute [local irreducible] BufOK ScOK YOK XOK POK OutOK ScSrc TabW

/-- A later point of the first round: the next words are filled. -/
theorem kernelRun1 (hi0 : (i 0).val = 0) (hi1 : (i 1).val ≠ 0)
    (ft : Buf (Elt Ideal) (arg2.view.loc (c : Thread nD τ))) (hT : TabW c arg2 ft) (f3 : arg3.view.ty.Contents (Elt Ideal)) (f4 : arg4.view.ty.Contents (Elt Ideal)) (f5 : arg5.view.ty.Contents (Elt Ideal)) (f6 : arg6.view.ty.Contents (Elt Ideal)) (f7 : arg7.view.ty.Contents (Elt Ideal))
    (h4 : YOK i (arg4.view.read (Elt Ideal) f4)) (h5 : ScSrc i (arg5.view.read (Elt Ideal) f5)) (f8 : arg8.view.ty.Contents (Elt Ideal)) (h8 : BufOK S (i 0).val ((i 1).val * 512 + 16 * 0) (arg8.view.read (Elt Ideal) f8)) (W : Waits sig Unit) (K : PUnit → sProp 𝕄) :
    iprop(tabP c arg2 ft ∗ ptP c arg3 f3 ∗ ptP c arg4 f4 ∗ ptP c arg5 f5 ∗ ptP c arg6 f6 ∗ ptP c arg7 f7 ∗ ptP c arg8 f8 ∗ anyP c arg9 ∗ anyP c arg10 ∗ anyP c arg11 ∗ owes (c : Thread nD τ) 0 W
        ∗ (iprop(tabP c arg2 ft ∗ ptP c arg3 f3 ∗ okP c arg4 (YOK i) ∗ ptP c arg5 f5 ∗ ptP c arg6 f6 ∗ ptP c arg7 f7 ∗ okP c arg8 (BufOK S (i 0).val ((i 1).val * 512 + 16 * 32)) ∗ anyP c arg9 ∗ anyP c arg10 ∗ anyP c arg11 ∗ ∃ W', owes (c : Thread nD τ) 0 W') -∗ K ⟨⟩))
      ⊢ wp frame (wpE (defs₀ (F := Ideal)) Variants.none c none) Set.univ
          (cc0_combine i arg2 harg2 arg3 harg3 arg4 harg4 arg5 harg5 arg6 harg6 arg7 harg7 arg8 harg8 arg9 harg9 arg10 harg10 arg11 harg11) K := by
  simp only [cc0_combine_eq_skeleton]; unfold cc0_combine_skel
  iintro ⟨HT, H3, H4, H5, H6, H7, H8, ⟨%f9, H9⟩, ⟨%f10, H10⟩, ⟨%f11, H11⟩, HW, Hk⟩
  have b1 : ¬ cond1 i := fun h => absurd ((cond1_iff i).1 h) (by omega)
  have b2 : cond2 i := (cond2_iff i).2 (by omega)
  have b3 : k0_cond3 i = 1#1 := (cond3_iff i).2 (by omega)
  have b4 : ¬ k0_cond4 i = 1#1 := fun h => absurd ((cond4_iff i).1 h) (by omega)
  have b5 : ¬ k0_cond5 i = 1#1 := fun h => absurd ((cond5_iff i).1 h) (by omega)
  have z11 := scales_ok i (by omega) arg11.view arg11.view.junk arg5.view f5 h5 inb_S512x2x128_S512x2x128_0_0_0 inb_S1024x128_S1024x128_0_0
  clear hi0 hi1
  sl_exec
  sl_step
  iapply Hk
  isplitl [HT]; · iexact HT
  isplitl [H3]; · iexact H3
  isplitl [H4]
  · iexists _
    isplitr; swap
    · iexact H4
    ipureintro; assumption
  isplitl [H5]; · iexact H5
  isplitl [H6]; · iexact H6
  isplitl [H7]; · iexact H7
  isplitl [H8]
  · iexists _
    isplitr; swap
    · iexact H8
    ipureintro; assumption
  isplitl [H9]; · iexists _; iexact H9
  isplitl [H10]; · iexists _; iexact H10
  isplitl [H11]; · iexists _; iexact H11
  iexists _; iexact HW

end Loops

end Cert.Proof.KernelIdeal.Val

end
-- ==== Proof.Value.VOut.lean ====
/- The stores of a tile's output rows, read as pieces of what the output block is to hold. -/
module

public import proofs.«01_k».proof.Proof.Value.VSteps

@[expose] public section

set_option maxRecDepth 8192
set_option maxHeartbeats 4000000

noncomputable section

namespace Cert.Proof.KernelIdeal.Val

open Cert.KernelIdeal Cert.KernelIdeal.Gen Cert.Proof.KernelIdeal
open Idealize.ShloMosaic Idealize.ShloMosaic.TcCoe Idealize.ShloMosaic.Tactic Idealize.ShloMosaic.ValueIdx

variable [S : Src] (i : grid0.Coords) {sig' : RefSig} {κ : Kind} {sp : Space}

theorem outPiece_of (hi : 1 ≤ (i 0).val) (v6 : View sig' κ sp S6144x256 .bf16) (f6 : v6.ty.Contents (Elt Ideal)) (h6 : POK (v6.read (Elt Ideal) f6))
    (v9 : View sig' κ sp S800x2x128 .bf16) (f9 : v9.ty.Contents (Elt Ideal)) (T : ℕ) (h9 : StgOK S (i 0).val T 48 (v9.read (Elt Ideal) f9))
    (v3 : View sig' κ sp S256x1024 .bf16) (f3 : v3.ty.Contents (Elt Ideal)) (h3 : XOK i (v3.read (Elt Ideal) f3))
    (u c : ℕ) (hT : T = (i 1).val * 8 + u) (hu : u < 8) (hc : c < 4)
    (o7 : Fin 2 → ℕ) (a7 c7 : ℕ) (ho7 : o7 = ![a7, c7]) (ha7 : a7 = 32 * u) (hc7 : c7 = 256 * c) (inb7) (inb3)
    (o6 : Fin 2 → ℕ) (a6 : ℕ) (ho6 : o6 = ![a6, 0]) (ha6 : a6 = 96 * T) (inb6)
    (oa ob : Fin 3 → ℕ) (hoa : oa = ![100 * (2 * c), 0, 0]) (hob : ob = ![100 * (2 * c + 1), 0, 0]) (inba) (inbb) (pay : Vec Ideal S32x256 .bf16)
    (hp : pay = tilePay (v6.readAt (Elt Ideal) (Rect.unit (s := S6144x256) o6 S96x256.size inb6).toLoadRect f6)
      (v9.readAt (Elt Ideal) (Rect.unit (s := S800x2x128) oa S96x2x128.size inba).toLoadRect f9)
      (v9.readAt (Elt Ideal) (Rect.unit (s := S800x2x128) ob S96x2x128.size inbb).toLoadRect f9)
      (v3.readAt (Elt Ideal) (Rect.unit (s := S256x1024) o7 S32x256.size inb3).toLoadRect f3)) :
    OutPiece S (i 0).val (i 1).val u c (⟨Rect.unit (s := S256x1024) o7 S32x256.size inb7, pay⟩ : View.Piece (Elt Ideal) S256x1024 .bf16) := by
  subst ha7 hc7 ha6 hT
  refine ⟨ho7, rfl, ?_, ?_⟩
  · funext a; fin_cases a <;> rfl
  intro x
  obtain ⟨r, q, rfl⟩ : ∃ (r : Fin 32) (q : Fin 256), x = ix2 r q := ⟨x 0, x 1, eq_ix2 x⟩
  have h1 : (i 1).val < 8 := (i 1).isLt
  subst hp ho7 ho6 hoa hob
  have hs : ∀ (g : ℕ) (hg : g < 8) (inb) (p : Fin 96) (h : Fin 2) (l : Fin 128),
      v9.readAt (Elt Ideal) (Rect.unit (s := S800x2x128) ![100 * g, 0, 0] S96x2x128.size inb).toLoadRect f9 (ix3 p h l)
        = E S ((i 0).val - 1) (S.W ((i 1).val * 8 + u) (p.val / 2) + p.val % 2) g h.val l.val := by
    intro g hg inb p h l
    have hp := p.isLt
    have e : (Rect.unit (s := S800x2x128) ![100 * g, 0, 0] S96x2x128.size inb).toLoadRect.idx (ix3 p h l) = ix3 (⟨100 * g + p.val, by omega⟩ : Fin 800) h l := by
      funext a; fin_cases a
      · apply Fin.ext; show 100 * g + 1 * p.val = _; rw [one_mul]
      · apply Fin.ext; show 0 + 1 * h.val = _; rw [one_mul, zero_add]
      · apply Fin.ext; show 0 + 1 * l.val = _; rw [one_mul, zero_add]
    refine (congrArg (v9.read (Elt Ideal) f9) e).trans ?_
    refine (h9 _ ?_).trans ?_
    · show (100 * g + p.val) % 100 < 2 * 48; omega
    · show E S ((i 0).val - 1) (S.W ((i 1).val * 8 + u) ((100 * g + p.val) % 100 / 2) + (100 * g + p.val) % 100 % 2) ((100 * g + p.val) / 100) h.val l.val = _
      rw [show (100 * g + p.val) % 100 = p.val by omega, show (100 * g + p.val) / 100 = g by omega]
  refine tile_out S (i 0).val (i 1).val u c hc hu hi _ _ _ _ ?_ (hs (2 * c) (by omega) _) (hs (2 * c + 1) (by omega) _) ?_ r q
  · intro r k
    refine ((congrArg (v6.read (Elt Ideal) f6) ?_).trans (h6 ⟨96 * ((i 1).val * 8 + u) + r.val, by omega⟩ k)).trans ?_
    · funext a; fin_cases a
      · apply Fin.ext; show 96 * ((i 1).val * 8 + u) + 1 * r.val = _; rw [one_mul]
      · apply Fin.ext; show 0 + 1 * k.val = _; rw [one_mul, zero_add]
    · show S.P _ _ = S.P _ _
      congr 1
      show 96 * ((i 1).val * 8 + u) + r.val = _; omega
  · intro r q
    refine ((congrArg (v3.read (Elt Ideal) f3) ?_).trans (h3 ⟨32 * u + r.val, by omega⟩ ⟨256 * c + q.val, by omega⟩)).trans rfl
    funext a; fin_cases a
    · apply Fin.ext; show 32 * u + 1 * r.val = _; rw [one_mul]
    · apply Fin.ext; show 256 * c + 1 * q.val = _; rw [one_mul]

/-- Eight stores, two tiles of four column chunks, write sixty-four rows. -/
theorem out8 (v : View sig' κ sp S256x1024 .bf16) (f : v.ty.Contents (Elt Ideal)) (rnd step k : ℕ)
    (p00 p01 p02 p03 p10 p11 p12 p13 : View.Piece (Elt Ideal) S256x1024 .bf16) (h : OutOK S rnd step (64 * k) (v.read (Elt Ideal) f))
    (h00 : OutPiece S rnd step (2 * k) 0 p00) (h01 : OutPiece S rnd step (2 * k) 1 p01) (h02 : OutPiece S rnd step (2 * k) 2 p02) (h03 : OutPiece S rnd step (2 * k) 3 p03)
    (h10 : OutPiece S rnd step (2 * k + 1) 0 p10) (h11 : OutPiece S rnd step (2 * k + 1) 1 p11) (h12 : OutPiece S rnd step (2 * k + 1) 2 p12) (h13 : OutPiece S rnd step (2 * k + 1) 3 p13) :
    OutOK S rnd step (64 * (k + 1)) (v.read (Elt Ideal) (v.writes (Elt Ideal) f [p13, p12, p11, p10, p03, p02, p01, p00])) := by
  refine OutOK.step S v f rnd step k _ ?_ ?_ h
  · intro p hp
    simp only [List.mem_cons, List.not_mem_nil, or_false] at hp
    rcases hp with rfl | rfl | rfl | rfl | rfl | rfl | rfl | rfl
    · exact ⟨_, _, h13⟩
    · exact ⟨_, _, h12⟩
    · exact ⟨_, _, h11⟩
    · exact ⟨_, _, h10⟩
    · exact ⟨_, _, h03⟩
    · exact ⟨_, _, h02⟩
    · exact ⟨_, _, h01⟩
    · exact ⟨_, _, h00⟩
  · intro u c hu hc
    interval_cases u <;> interval_cases c
    · exact ⟨p00, by simp, h00⟩
    · exact ⟨p01, by simp, h01⟩
    · exact ⟨p02, by simp, h02⟩
    · exact ⟨p03, by simp, h03⟩
    · exact ⟨p10, by simp, h10⟩
    · exact ⟨p11, by simp, h11⟩
    · exact ⟨p12, by simp, h12⟩
    · exact ⟨p13, by simp, h13⟩

end Cert.Proof.KernelIdeal.Val

end
-- ==== Proof.Value.VStage.lean ====
/- The loops that stage a tile, with what they leave in the slabs. -/
module

public import proofs.«01_k».proof.Proof.Value.VSteps

@[expose] public section

set_option maxRecDepth 8192
set_option maxHeartbeats 8000000

noncomputable section

namespace Cert.Proof.KernelIdeal.Val

open Cert.KernelIdeal Cert.KernelIdeal.Gen Cert.Proof.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section Loops

variable [S : Src] (c : Dev nD) (i : grid0.Coords)
  (arg2 : Memref sig .tc .smem S64x128 .i32) (harg2 : arg2.IsWhole)
  (arg3 : Memref sig .tc .vmem S256x1024 .bf16) (harg3 : arg3.IsWhole)
  (arg4 : Memref sig .tc .vmem S1024x1024 .fp8e4m3) (harg4 : arg4.IsWhole)
  (arg5 : Memref sig .tc .vmem S1024x128 .bf16) (harg5 : arg5.IsWhole)
  (arg6 : Memref sig .tc .vmem S6144x256 .bf16) (harg6 : arg6.IsWhole)
  (arg7 : Memref sig .tc .vmem S256x1024 .bf16) (harg7 : arg7.IsWhole)
  (arg8 : Memref sig .tc .vmem S73764x2x128 .bf16) (harg8 : arg8.IsWhole)
  (arg9 : Memref sig .tc .vmem S800x2x128 .bf16) (harg9 : arg9.IsWhole)
  (arg10 : Memref sig .tc .vmem S800x2x128 .bf16) (harg10 : arg10.IsWhole)
  (arg11 : Memref sig .tc .vmem S512x2x128 .bf16) (harg11 : arg11.IsWhole)

set_option warn.classDefReducibility false in
@[sl_loop] def loopInv_k0_t3 (arg1 v2 : BitVec 32) (k0_h4 : k0_cond4 i = 1#1) (c0_i32_13 c1_i32_14 : BitVec 32) (k0_t2 : Fin k0_t2_loop.trips)
    (ft : Buf (Elt Ideal) (arg2.view.loc (c : Thread nD τ))) :
    LoopInvTy_k0_t3 (F := Ideal) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 k0_h4 c0_i32_13 c1_i32_14 k0_t2 where
  inv k acc := iprop(⌜TabW c arg2 ft⌝ ∗ tabP c arg2 ft ∗ okP c arg8 (BufOK S (i 0).val ((i 1).val * 512 + 128 * k0_t2.val))
    ∗ okP c arg9 (StgOK S (i 0).val ((i 1).val * 8 + 2 * k0_t2.val) k))
  step k acc := by
    unfold k0_t3_body
    iintro ⟨%hT, HT, ⟨%f8, %h8, H8⟩, ⟨%f9, %h9, H9⟩⟩
    sl_exec
    have hk : k.val < 48 := k.isLt
    have ho : k0_off18 i k0_t2 k = ![8 * (i 1).val + 2 * k0_t2.val, k.val] := k0_off18_eq i k0_t2 k
    have hv : S.W ((i 1).val * 8 + 2 * k0_t2.val) k.val ≤ 4096 ∧ BitVec.toNat (w := 32) (loopInv_k0_t3.sl.r c i arg2 k0_h4 k0_t2 ft k) = 9 * S.W ((i 1).val * 8 + 2 * k0_t2.val) k.val := by
      unfold loopInv_k0_t3.sl.r
      refine TabW.at' c arg2 hT ?_ ?_ hk
      · show k0_off18 i k0_t2 k 0 + 1 * 0 = _
        rw [ho]
        show 8 * (i 1).val + 2 * k0_t2.val + 1 * 0 = _
        omega
      · show k0_off18 i k0_t2 k 1 + 1 * 0 = _
        rw [ho]
        rfl
    have hw : k0_chk1 i (loopInv_k0_t3.sl.r c i arg2 k0_h4 k0_t2 ft k) := by
      apply chk1_of
      exact le_of_eq_of_le hv.2 (by omega)
    sl_exec
    sl_step
    isplitr
    · ipureintro; exact hT
    isplitl [HT]; · iexact HT
    isplitl [H8]
    · iexists f8
      isplitr
      · ipureintro; exact h8
      · iexact H8
    iexists _
    isplitr; swap
    · iexact H9
    ipureintro
    have hc := (cond4_iff i).1 k0_h4
    refine StgOK.step S arg9.view f9 (i 0).val ((i 1).val * 8 + 2 * k0_t2.val) k.val _ _ ?_ ?_ hk h9
    · exact stgPiece_of i (by omega) arg8.view f8 _ h8 ((i 1).val * 8 + 2 * k0_t2.val) k.val 0 (by decide) _ hv _ _ (k0_off20_eq k 0) rfl _ _ _ rfl _ _ rfl
    · exact stgPiece_of i (by omega) arg8.view f8 _ h8 ((i 1).val * 8 + 2 * k0_t2.val) k.val 1 (by decide) _ hv _ _ (k0_off20_eq k 1) rfl _ _ _ rfl _ _ rfl

set_option warn.classDefReducibility false in
@[sl_loop] def loopInv_k0_t5 (arg1 v2 v4 : BitVec 32) (k0_h4 : k0_cond4 i = 1#1) (k0_t2 : Fin k0_t2_loop.trips) (arg12 v26 : BitVec 32) (v33 : FVec Ideal S96x192 .bf16) (v91_raw : Vec Ideal S96x2x128 .bf16) (v91_lo : FVec Ideal S96x128 .bf16)
    (ft : Buf (Elt Ideal) (arg2.view.loc (c : Thread nD τ))) :
    LoopInvTy_k0_t5 (F := Ideal) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 v4 k0_h4 k0_t2 arg12 v26 v33 v91_raw v91_lo where
  inv k acc := iprop(⌜TabW c arg2 ft⌝ ∗ tabP c arg2 ft ∗ okP c arg8 (BufOK S (i 0).val ((i 1).val * 512 + 128 * k0_t2.val + 64))
    ∗ okP c arg10 (StgOK S (i 0).val ((i 1).val * 8 + 2 * k0_t2.val + 1) k))
  step k acc := by
    unfold k0_t5_body
    iintro ⟨%hT, HT, ⟨%f8, %h8, H8⟩, ⟨%f9, %h9, H9⟩⟩
    sl_exec
    have hk : k.val < 48 := k.isLt
    have ho : k0_off43 i k0_t2 k = ![8 * (i 1).val + 2 * k0_t2.val + 1, k.val] := k0_off43_eq i k0_t2 k
    have hv : S.W ((i 1).val * 8 + 2 * k0_t2.val + 1) k.val ≤ 4096 ∧ BitVec.toNat (w := 32) (loopInv_k0_t5.sl.r c i arg2 k0_h4 k0_t2 ft k) = 9 * S.W ((i 1).val * 8 + 2 * k0_t2.val + 1) k.val := by
      unfold loopInv_k0_t5.sl.r
      refine TabW.at' c arg2 hT ?_ ?_ hk
      · show k0_off43 i k0_t2 k 0 + 1 * 0 = _
        rw [ho]
        show 8 * (i 1).val + 2 * k0_t2.val + 1 + 1 * 0 = _
        omega
      · show k0_off43 i k0_t2 k 1 + 1 * 0 = _
        rw [ho]
        rfl
    have hw : k0_chk2 i (loopInv_k0_t5.sl.r c i arg2 k0_h4 k0_t2 ft k) := by
      apply chk2_of
      exact le_of_eq_of_le hv.2 (by omega)
    sl_exec
    sl_step
    isplitr
    · ipureintro; exact hT
    isplitl [HT]; · iexact HT
    isplitl [H8]
    · iexists f8
      isplitr
      · ipureintro; exact h8
      · iexact H8
    iexists _
    isplitr; swap
    · iexact H9
    ipureintro
    have hc := (cond4_iff i).1 k0_h4
    refine StgOK.step S arg10.view f9 (i 0).val ((i 1).val * 8 + 2 * k0_t2.val + 1) k.val _ _ ?_ ?_ hk h9
    · exact stgPiece_of i (by omega) arg8.view f8 _ h8 ((i 1).val * 8 + 2 * k0_t2.val + 1) k.val 0 (by decide) _ hv _ _ (k0_off45_eq k 0) rfl _ _ _ rfl _ _ rfl
    · exact stgPiece_of i (by omega) arg8.view f8 _ h8 ((i 1).val * 8 + 2 * k0_t2.val + 1) k.val 1 (by decide) _ hv _ _ (k0_off45_eq k 1) rfl _ _ _ rfl _ _ rfl

set_option warn.classDefReducibility false in
@[sl_loop] def loopInv_k0_t8 (arg1 v2 : BitVec 32) (k0_h5 : k0_cond5 i = 1#1) (c0_i32_13 c1_i32_14 : BitVec 32) (k0_t7 : Fin k0_t7_loop.trips)
    (ft : Buf (Elt Ideal) (arg2.view.loc (c : Thread nD τ))) :
    LoopInvTy_k0_t8 (F := Ideal) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 k0_h5 c0_i32_13 c1_i32_14 k0_t7 where
  inv k acc := iprop(⌜TabW c arg2 ft⌝ ∗ tabP c arg2 ft ∗ okP c arg8 (BufOK S (i 0).val (0))
    ∗ okP c arg9 (StgOK S (i 0).val ((i 1).val * 8 + 2 * k0_t7.val) k))
  step k acc := by
    unfold k0_t8_body
    iintro ⟨%hT, HT, ⟨%f8, %h8, H8⟩, ⟨%f9, %h9, H9⟩⟩
    sl_exec
    have hk : k.val < 48 := k.isLt
    have ho : k0_off63 i k0_t7 k = ![8 * (i 1).val + 2 * k0_t7.val, k.val] := k0_off63_eq i k0_t7 k
    have hv : S.W ((i 1).val * 8 + 2 * k0_t7.val) k.val ≤ 4096 ∧ BitVec.toNat (w := 32) (loopInv_k0_t8.sl.r c i arg2 k0_h5 k0_t7 ft k) = 9 * S.W ((i 1).val * 8 + 2 * k0_t7.val) k.val := by
      unfold loopInv_k0_t8.sl.r
      refine TabW.at' c arg2 hT ?_ ?_ hk
      · show k0_off63 i k0_t7 k 0 + 1 * 0 = _
        rw [ho]
        show 8 * (i 1).val + 2 * k0_t7.val + 1 * 0 = _
        omega
      · show k0_off63 i k0_t7 k 1 + 1 * 0 = _
        rw [ho]
        rfl
    have hw : k0_chk3 i (loopInv_k0_t8.sl.r c i arg2 k0_h5 k0_t7 ft k) := by
      apply chk3_of
      exact le_of_eq_of_le hv.2 (by omega)
    sl_exec
    sl_step
    isplitr
    · ipureintro; exact hT
    isplitl [HT]; · iexact HT
    isplitl [H8]
    · iexists f8
      isplitr
      · ipureintro; exact h8
      · iexact H8
    iexists _
    isplitr; swap
    · iexact H9
    ipureintro
    have hc := (cond5_iff i).1 k0_h5
    refine StgOK.step S arg9.view f9 (i 0).val ((i 1).val * 8 + 2 * k0_t7.val) k.val _ _ ?_ ?_ hk h9
    · exact stgPiece_of i (by omega) arg8.view f8 _ h8 ((i 1).val * 8 + 2 * k0_t7.val) k.val 0 (by decide) _ hv _ _ (k0_off65_eq k 0) rfl _ _ _ rfl _ _ rfl
    · exact stgPiece_of i (by omega) arg8.view f8 _ h8 ((i 1).val * 8 + 2 * k0_t7.val) k.val 1 (by decide) _ hv _ _ (k0_off65_eq k 1) rfl _ _ _ rfl _ _ rfl

set_option warn.classDefReducibility false in
@[sl_loop] def loopInv_k0_t9 (arg1 v2 : BitVec 32) (k0_h5 : k0_cond5 i = 1#1) (k0_t7 : Fin k0_t7_loop.trips) (arg12 v26 : BitVec 32) (v33 : FVec Ideal S96x192 .bf16) (v91_raw : Vec Ideal S96x2x128 .bf16) (v91_lo : FVec Ideal S96x128 .bf16)
    (ft : Buf (Elt Ideal) (arg2.view.loc (c : Thread nD τ))) :
    LoopInvTy_k0_t9 (F := Ideal) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 k0_h5 k0_t7 arg12 v26 v33 v91_raw v91_lo where
  inv k acc := iprop(⌜TabW c arg2 ft⌝ ∗ tabP c arg2 ft ∗ okP c arg8 (BufOK S (i 0).val (0))
    ∗ okP c arg10 (StgOK S (i 0).val ((i 1).val * 8 + 2 * k0_t7.val + 1) k))
  step k acc := by
    unfold k0_t9_body
    iintro ⟨%hT, HT, ⟨%f8, %h8, H8⟩, ⟨%f9, %h9, H9⟩⟩
    sl_exec
    have hk : k.val < 48 := k.isLt
    have ho : k0_off71 i k0_t7 k = ![8 * (i 1).val + 2 * k0_t7.val + 1, k.val] := k0_off71_eq i k0_t7 k
    have hv : S.W ((i 1).val * 8 + 2 * k0_t7.val + 1) k.val ≤ 4096 ∧ BitVec.toNat (w := 32) (loopInv_k0_t9.sl.r c i arg2 k0_h5 k0_t7 ft k) = 9 * S.W ((i 1).val * 8 + 2 * k0_t7.val + 1) k.val := by
      unfold loopInv_k0_t9.sl.r
      refine TabW.at' c arg2 hT ?_ ?_ hk
      · show k0_off71 i k0_t7 k 0 + 1 * 0 = _
        rw [ho]
        show 8 * (i 1).val + 2 * k0_t7.val + 1 + 1 * 0 = _
        omega
      · show k0_off71 i k0_t7 k 1 + 1 * 0 = _
        rw [ho]
        rfl
    have hw : k0_chk4 i (loopInv_k0_t9.sl.r c i arg2 k0_h5 k0_t7 ft k) := by
      apply chk4_of
      exact le_of_eq_of_le hv.2 (by omega)
    sl_exec
    sl_step
    isplitr
    · ipureintro; exact hT
    isplitl [HT]; · iexact HT
    isplitl [H8]
    · iexists f8
      isplitr
      · ipureintro; exact h8
      · iexact H8
    iexists _
    isplitr; swap
    · iexact H9
    ipureintro
    have hc := (cond5_iff i).1 k0_h5
    refine StgOK.step S arg10.view f9 (i 0).val ((i 1).val * 8 + 2 * k0_t7.val + 1) k.val _ _ ?_ ?_ hk h9
    · exact stgPiece_of i (by omega) arg8.view f8 _ h8 ((i 1).val * 8 + 2 * k0_t7.val + 1) k.val 0 (by decide) _ hv _ _ (k0_off73_eq k 0) rfl _ _ _ rfl _ _ rfl
    · exact stgPiece_of i (by omega) arg8.view f8 _ h8 ((i 1).val * 8 + 2 * k0_t7.val + 1) k.val 1 (by decide) _ hv _ _ (k0_off73_eq k 1) rfl _ _ _ rfl _ _ rfl

end Loops

end Cert.Proof.KernelIdeal.Val

end
-- ==== Proof.Value.VExp4.lean ====
/- The loops that fill the pair buffer between two tiles, with what they leave in it. -/
module

public import proofs.«01_k».proof.Proof.Value.VSteps

@[expose] public section

set_option maxRecDepth 8192
set_option maxHeartbeats 8000000

noncomputable section

namespace Cert.Proof.KernelIdeal.Val

open Cert.KernelIdeal Cert.KernelIdeal.Gen Cert.Proof.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section Loops

variable [S : Src] (c : Dev nD) (i : grid0.Coords)
  (arg2 : Memref sig .tc .smem S64x128 .i32) (harg2 : arg2.IsWhole)
  (arg3 : Memref sig .tc .vmem S256x1024 .bf16) (harg3 : arg3.IsWhole)
  (arg4 : Memref sig .tc .vmem S1024x1024 .fp8e4m3) (harg4 : arg4.IsWhole)
  (arg5 : Memref sig .tc .vmem S1024x128 .bf16) (harg5 : arg5.IsWhole)
  (arg6 : Memref sig .tc .vmem S6144x256 .bf16) (harg6 : arg6.IsWhole)
  (arg7 : Memref sig .tc .vmem S256x1024 .bf16) (harg7 : arg7.IsWhole)
  (arg8 : Memref sig .tc .vmem S73764x2x128 .bf16) (harg8 : arg8.IsWhole)
  (arg9 : Memref sig .tc .vmem S800x2x128 .bf16) (harg9 : arg9.IsWhole)
  (arg10 : Memref sig .tc .vmem S800x2x128 .bf16) (harg10 : arg10.IsWhole)
  (arg11 : Memref sig .tc .vmem S512x2x128 .bf16) (harg11 : arg11.IsWhole)

set_option warn.classDefReducibility false in
@[sl_loop] def loopInv_k0_t4 (arg1 v2 v4 : BitVec 32) (k0_h4 : k0_cond4 i = 1#1) (k0_t2 : Fin k0_t2_loop.trips) (arg12 v26 : BitVec 32) (v33 : FVec Ideal S96x192 .bf16) (v91_raw : Vec Ideal S96x2x128 .bf16) (v91_lo : FVec Ideal S96x128 .bf16) :
    LoopInvTy_k0_t4 (F := Ideal) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 v4 k0_h4 k0_t2 arg12 v26 v33 v91_raw v91_lo where
  inv k acc := iprop(okP c arg4 (YOK i) ∗ okP c arg8 (BufOK S (i 0).val ((i 1).val * 512 + 128 * k0_t2.val + 16 * k)) ∗ okP c arg11 (ScOK i))
  step k acc := by
    unfold k0_t4_body
    iintro ⟨⟨%f4, %h4, H4⟩, ⟨%f8, %h8, H8⟩, ⟨%f11, %h11, H11⟩⟩
    sl_exec_parts
    sl_step
    isplitl [H4]
    · iexists f4
      isplitr
      · ipureintro; exact h4
      · iexact H4
    isplitr [H11]; swap
    · iexists f11
      isplitr
      · ipureintro; exact h11
      · iexact H11
    iexists _
    isplitr; swap
    · iexact H8
    ipureintro
    have hk : k.val < 4 := k.isLt
    have hi1 : (i 1).val < 8 := (i 1).isLt
    have hu : k0_t2.val < 4 := k0_t2.isLt
    have e0 : (i 1).val * 512 + 128 * k0_t2.val + 16 * k.val = (i 1).val * 512 + 16 * (8 * k0_t2.val + k.val) := by omega
    have e1 : (i 1).val * 512 + 128 * k0_t2.val + 16 * (k.val + 1) = (i 1).val * 512 + 16 * (8 * k0_t2.val + k.val) + 16 := by omega
    rw [e0] at h8
    rw [e1]
    refine expand16 arg8.view f8 (i 0).val ((i 1).val * 512 + 16 * (8 * k0_t2.val + k.val)) _ _ _ _ _ _ _ _ _ _ _ _ _ _ _ _ (by omega) h8 ?_ ?_ ?_ ?_ ?_ ?_ ?_ ?_ ?_ ?_ ?_ ?_ ?_ ?_ ?_ ?_
    · exact expPiece_of i arg4.view f4 arg11.view f11 h4 h11 (8 * k0_t2.val + k.val) 0 0 (by omega) (by decide) (by decide) _ (off28_eq i k0_t2 k 0 0 (by decide) (by decide)) _ _ _ _ _ (k0_off26_eq k0_t2 k) (by omega) rfl _ _ _ _ (k0_off27_eq k0_t2 k 0) (by simp only []; omega) rfl _ ![0, 0] slices_S32x128_o0_0_S16x128 rfl _ rfl
    · exact expPiece_of i arg4.view f4 arg11.view f11 h4 h11 (8 * k0_t2.val + k.val) 1 0 (by omega) (by decide) (by decide) _ (off28_eq i k0_t2 k 1 0 (by decide) (by decide)) _ _ _ _ _ (k0_off26_eq k0_t2 k) (by omega) rfl _ _ _ _ (k0_off27_eq k0_t2 k 1) (by simp only []; omega) rfl _ ![16, 0] slices_S32x128_o16_0_S16x128 rfl _ rfl
    · exact expPiece_of i arg4.view f4 arg11.view f11 h4 h11 (8 * k0_t2.val + k.val) 0 1 (by omega) (by decide) (by decide) _ (off28_eq i k0_t2 k 0 1 (by decide) (by decide)) _ _ _ _ _ (k0_off29_eq k0_t2 k) (by omega) rfl _ _ _ _ (k0_off30_eq k0_t2 k 0) (by simp only []; omega) rfl _ ![0, 0] slices_S32x128_o0_0_S16x128 rfl _ rfl
    · exact expPiece_of i arg4.view f4 arg11.view f11 h4 h11 (8 * k0_t2.val + k.val) 1 1 (by omega) (by decide) (by decide) _ (off28_eq i k0_t2 k 1 1 (by decide) (by decide)) _ _ _ _ _ (k0_off29_eq k0_t2 k) (by omega) rfl _ _ _ _ (k0_off30_eq k0_t2 k 1) (by simp only []; omega) rfl _ ![16, 0] slices_S32x128_o16_0_S16x128 rfl _ rfl
    · exact expPiece_of i arg4.view f4 arg11.view f11 h4 h11 (8 * k0_t2.val + k.val) 0 2 (by omega) (by decide) (by decide) _ (off28_eq i k0_t2 k 0 2 (by decide) (by decide)) _ _ _ _ _ (k0_off31_eq k0_t2 k) (by omega) rfl _ _ _ _ (k0_off32_eq k0_t2 k 0) (by simp only []; omega) rfl _ ![0, 0] slices_S32x128_o0_0_S16x128 rfl _ rfl
    · exact expPiece_of i arg4.view f4 arg11.view f11 h4 h11 (8 * k0_t2.val + k.val) 1 2 (by omega) (by decide) (by decide) _ (off28_eq i k0_t2 k 1 2 (by decide) (by decide)) _ _ _ _ _ (k0_off31_eq k0_t2 k) (by omega) rfl _ _ _ _ (k0_off32_eq k0_t2 k 1) (by simp only []; omega) rfl _ ![16, 0] slices_S32x128_o16_0_S16x128 rfl _ rfl
    · exact expPiece_of i arg4.view f4 arg11.view f11 h4 h11 (8 * k0_t2.val + k.val) 0 3 (by omega) (by decide) (by decide) _ (off28_eq i k0_t2 k 0 3 (by decide) (by decide)) _ _ _ _ _ (k0_off33_eq k0_t2 k) (by omega) rfl _ _ _ _ (k0_off34_eq k0_t2 k 0) (by simp only []; omega) rfl _ ![0, 0] slices_S32x128_o0_0_S16x128 rfl _ rfl
    · exact expPiece_of i arg4.view f4 arg11.view f11 h4 h11 (8 * k0_t2.val + k.val) 1 3 (by omega) (by decide) (by decide) _ (off28_eq i k0_t2 k 1 3 (by decide) (by decide)) _ _ _ _ _ (k0_off33_eq k0_t2 k) (by omega) rfl _ _ _ _ (k0_off34_eq k0_t2 k 1) (by simp only []; omega) rfl _ ![16, 0] slices_S32x128_o16_0_S16x128 rfl _ rfl
    · exact expPiece_of i arg4.view f4 arg11.view f11 h4 h11 (8 * k0_t2.val + k.val) 0 4 (by omega) (by decide) (by decide) _ (off28_eq i k0_t2 k 0 4 (by decide) (by decide)) _ _ _ _ _ (k0_off35_eq k0_t2 k) (by omega) rfl _ _ _ _ (k0_off36_eq k0_t2 k 0) (by simp only []; omega) rfl _ ![0, 0] slices_S32x128_o0_0_S16x128 rfl _ rfl
    · exact expPiece_of i arg4.view f4 arg11.view f11 h4 h11 (8 * k0_t2.val + k.val) 1 4 (by omega) (by decide) (by decide) _ (off28_eq i k0_t2 k 1 4 (by decide) (by decide)) _ _ _ _ _ (k0_off35_eq k0_t2 k) (by omega) rfl _ _ _ _ (k0_off36_eq k0_t2 k 1) (by simp only []; omega) rfl _ ![16, 0] slices_S32x128_o16_0_S16x128 rfl _ rfl
    · exact expPiece_of i arg4.view f4 arg11.view f11 h4 h11 (8 * k0_t2.val + k.val) 0 5 (by omega) (by decide) (by decide) _ (off28_eq i k0_t2 k 0 5 (by decide) (by decide)) _ _ _ _ _ (k0_off37_eq k0_t2 k) (by omega) rfl _ _ _ _ (k0_off38_eq k0_t2 k 0) (by simp only []; omega) rfl _ ![0, 0] slices_S32x128_o0_0_S16x128 rfl _ rfl
    · exact expPiece_of i arg4.view f4 arg11.view f11 h4 h11 (8 * k0_t2.val + k.val) 1 5 (by omega) (by decide) (by decide) _ (off28_eq i k0_t2 k 1 5 (by decide) (by decide)) _ _ _ _ _ (k0_off37_eq k0_t2 k) (by omega) rfl _ _ _ _ (k0_off38_eq k0_t2 k 1) (by simp only []; omega) rfl _ ![16, 0] slices_S32x128_o16_0_S16x128 rfl _ rfl
    · exact expPiece_of i arg4.view f4 arg11.view f11 h4 h11 (8 * k0_t2.val + k.val) 0 6 (by omega) (by decide) (by decide) _ (off28_eq i k0_t2 k 0 6 (by decide) (by decide)) _ _ _ _ _ (k0_off39_eq k0_t2 k) (by omega) rfl _ _ _ _ (k0_off40_eq k0_t2 k 0) (by simp only []; omega) rfl _ ![0, 0] slices_S32x128_o0_0_S16x128 rfl _ rfl
    · exact expPiece_of i arg4.view f4 arg11.view f11 h4 h11 (8 * k0_t2.val + k.val) 1 6 (by omega) (by decide) (by decide) _ (off28_eq i k0_t2 k 1 6 (by decide) (by decide)) _ _ _ _ _ (k0_off39_eq k0_t2 k) (by omega) rfl _ _ _ _ (k0_off40_eq k0_t2 k 1) (by simp only []; omega) rfl _ ![16, 0] slices_S32x128_o16_0_S16x128 rfl _ rfl
    · exact expPiece_of i arg4.view f4 arg11.view f11 h4 h11 (8 * k0_t2.val + k.val) 0 7 (by omega) (by decide) (by decide) _ (off28_eq i k0_t2 k 0 7 (by decide) (by decide)) _ _ _ _ _ (k0_off41_eq k0_t2 k) (by omega) rfl _ _ _ _ (k0_off42_eq k0_t2 k 0) (by simp only []; omega) rfl _ ![0, 0] slices_S32x128_o0_0_S16x128 rfl _ rfl
    · exact expPiece_of i arg4.view f4 arg11.view f11 h4 h11 (8 * k0_t2.val + k.val) 1 7 (by omega) (by decide) (by decide) _ (off28_eq i k0_t2 k 1 7 (by decide) (by decide)) _ _ _ _ _ (k0_off41_eq k0_t2 k) (by omega) rfl _ _ _ _ (k0_off42_eq k0_t2 k 1) (by simp only []; omega) rfl _ ![16, 0] slices_S32x128_o16_0_S16x128 rfl _ rfl

end Loops

end Cert.Proof.KernelIdeal.Val

end
-- ==== Proof.Value.VExp6.lean ====
/- The loops that fill the pair buffer after two tiles, with what they leave in it. -/
module

public import proofs.«01_k».proof.Proof.Value.VSteps

@[expose] public section

set_option maxRecDepth 8192
set_option maxHeartbeats 8000000

noncomputable section

namespace Cert.Proof.KernelIdeal.Val

open Cert.KernelIdeal Cert.KernelIdeal.Gen Cert.Proof.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section Loops

variable [S : Src] (c : Dev nD) (i : grid0.Coords)
  (arg2 : Memref sig .tc .smem S64x128 .i32) (harg2 : arg2.IsWhole)
  (arg3 : Memref sig .tc .vmem S256x1024 .bf16) (harg3 : arg3.IsWhole)
  (arg4 : Memref sig .tc .vmem S1024x1024 .fp8e4m3) (harg4 : arg4.IsWhole)
  (arg5 : Memref sig .tc .vmem S1024x128 .bf16) (harg5 : arg5.IsWhole)
  (arg6 : Memref sig .tc .vmem S6144x256 .bf16) (harg6 : arg6.IsWhole)
  (arg7 : Memref sig .tc .vmem S256x1024 .bf16) (harg7 : arg7.IsWhole)
  (arg8 : Memref sig .tc .vmem S73764x2x128 .bf16) (harg8 : arg8.IsWhole)
  (arg9 : Memref sig .tc .vmem S800x2x128 .bf16) (harg9 : arg9.IsWhole)
  (arg10 : Memref sig .tc .vmem S800x2x128 .bf16) (harg10 : arg10.IsWhole)
  (arg11 : Memref sig .tc .vmem S512x2x128 .bf16) (harg11 : arg11.IsWhole)

set_option warn.classDefReducibility false in
@[sl_loop] def loopInv_k0_t6 (arg1 v4 : BitVec 32) (k0_h4 : k0_cond4 i = 1#1) (k0_t2 : Fin k0_t2_loop.trips) (v112 : BitVec 32) :
    LoopInvTy_k0_t6 (F := Ideal) Unit ℕ (UR sig nD τ) ℕ 𝒱₀ c none Set.univ i arg2 harg2 arg3 harg3 arg4 harg4 arg5 harg5 arg6 harg6 arg7 harg7 arg8 harg8 arg9 harg9 arg10 harg10 arg11 harg11 arg1 v4 k0_h4 k0_t2 v112 where
  inv k acc := iprop(okP c arg4 (YOK i) ∗ okP c arg8 (BufOK S (i 0).val ((i 1).val * 512 + 128 * k0_t2.val + 64 + 16 * k)) ∗ okP c arg11 (ScOK i))
  step k acc := by
    unfold k0_t6_body
    iintro ⟨⟨%f4, %h4, H4⟩, ⟨%f8, %h8, H8⟩, ⟨%f11, %h11, H11⟩⟩
    sl_exec_parts
    sl_step
    isplitl [H4]
    · iexists f4
      isplitr
      · ipureintro; exact h4
      · iexact H4
    isplitr [H11]; swap
    · iexists f11
      isplitr
      · ipureintro; exact h11
      · iexact H11
    iexists _
    isplitr; swap
    · iexact H8
    ipureintro
    have hk : k.val < 4 := k.isLt
    have hi1 : (i 1).val < 8 := (i 1).isLt
    have hu : k0_t2.val < 4 := k0_t2.isLt
    have e0 : (i 1).val * 512 + 128 * k0_t2.val + 64 + 16 * k.val = (i 1).val * 512 + 16 * (8 * k0_t2.val + 4 + k.val) := by omega
    have e1 : (i 1).val * 512 + 128 * k0_t2.val + 64 + 16 * (k.val + 1) = (i 1).val * 512 + 16 * (8 * k0_t2.val + 4 + k.val) + 16 := by omega
    rw [e0] at h8
    rw [e1]
    refine expand16 arg8.view f8 (i 0).val ((i 1).val * 512 + 16 * (8 * k0_t2.val + 4 + k.val)) _ _ _ _ _ _ _ _ _ _ _ _ _ _ _ _ (by omega) h8 ?_ ?_ ?_ ?_ ?_ ?_ ?_ ?_ ?_ ?_ ?_ ?_ ?_ ?_ ?_ ?_
    · exact expPiece_of i arg4.view f4 arg11.view f11 h4 h11 (8 * k0_t2.val + 4 + k.val) 0 0 (by omega) (by decide) (by decide) _ (off48_eq i k0_t2 k 0 0 (by decide) (by decide)) _ _ _ _ _ (k0_off46_eq k0_t2 k) (by omega) rfl _ _ _ _ (k0_off47_eq k0_t2 k 0) (by simp only []; omega) rfl _ ![0, 0] slices_S32x128_o0_0_S16x128 rfl _ rfl
    · exact expPiece_of i arg4.view f4 arg11.view f11 h4 h11 (8 * k0_t2.val + 4 + k.val) 1 0 (by omega) (by decide) (by decide) _ (off48_eq i k0_t2 k 1 0 (by decide) (by decide)) _ _ _ _ _ (k0_off46_eq k0_t2 k) (by omega) rfl _ _ _ _ (k0_off47_eq k0_t2 k 1) (by simp only []; omega) rfl _ ![16, 0] slices_S32x128_o16_0_S16x128 rfl _ rfl
    · exact expPiece_of i arg4.view f4 arg11.view f11 h4 h11 (8 * k0_t2.val + 4 + k.val) 0 1 (by omega) (by decide) (by decide) _ (off48_eq i k0_t2 k 0 1 (by decide) (by decide)) _ _ _ _ _ (k0_off49_eq k0_t2 k) (by omega) rfl _ _ _ _ (k0_off50_eq k0_t2 k 0) (by simp only []; omega) rfl _ ![0, 0] slices_S32x128_o0_0_S16x128 rfl _ rfl
    · exact expPiece_of i arg4.view f4 arg11.view f11 h4 h11 (8 * k0_t2.val + 4 + k.val) 1 1 (by omega) (by decide) (by decide) _ (off48_eq i k0_t2 k 1 1 (by decide) (by decide)) _ _ _ _ _ (k0_off49_eq k0_t2 k) (by omega) rfl _ _ _ _ (k0_off50_eq k0_t2 k 1) (by simp only []; omega) rfl _ ![16, 0] slices_S32x128_o16_0_S16x128 rfl _ rfl
    · exact expPiece_of i arg4.view f4 arg11.view f11 h4 h11 (8 * k0_t2.val + 4 + k.val) 0 2 (by omega) (by decide) (by decide) _ (off48_eq i k0_t2 k 0 2 (by decide) (by decide)) _ _ _ _ _ (k0_off51_eq k0_t2 k) (by omega) rfl _ _ _ _ (k0_off52_eq k0_t2 k 0) (by simp only []; omega) rfl _ ![0, 0] slices_S32x128_o0_0_S16x128 rfl _ rfl
    · exact expPiece_of i arg4.view f4 arg11.view f11 h4 h11 (8 * k0_t2.val + 4 + k.val) 1 2 (by omega) (by decide) (by decide) _ (off48_eq i k0_t2 k 1 2 (by decide) (by decide)) _ _ _ _ _ (k0_off51_eq k0_t2 k) (by omega) rfl _ _ _ _ (k0_off52_eq k0_t2 k 1) (by simp only []; omega) rfl _ ![16, 0] slices_S32x128_o16_0_S16x128 rfl _ rfl
    · exact expPiece_of i arg4.view f4 arg11.view f11 h4 h11 (8 * k0_t2.val + 4 + k.val) 0 3 (by omega) (by decide) (by decide) _ (off48_eq i k0_t2 k 0 3 (by decide) (by decide)) _ _ _ _ _ (k0_off53_eq k0_t2 k) (by omega) rfl _ _ _ _ (k0_off54_eq k0_t2 k 0) (by simp only []; omega) rfl _ ![0, 0] slices_S32x128_o0_0_S16x128 rfl _ rfl
    · exact expPiece_of i arg4.view f4 arg11.view f11 h4 h11 (8 * k0_t2.val + 4 + k.val) 1 3 (by omega) (by decide) (by decide) _ (off48_eq i k0_t2 k 1 3 (by decide) (by decide)) _ _ _ _ _ (k0_off53_eq k0_t2 k) (by omega) rfl _ _ _ _ (k0_off54_eq k0_t2 k 1) (by simp only []; omega) rfl _ ![16, 0] slices_S32x128_o16_0_S16x128 rfl _ rfl
    · exact expPiece_of i arg4.view f4 arg11.view f11 h4 h11 (8 * k0_t2.val + 4 + k.val) 0 4 (by omega) (by decide) (by decide) _ (off48_eq i k0_t2 k 0 4 (by decide) (by decide)) _ _ _ _ _ (k0_off55_eq k0_t2 k) (by omega) rfl _ _ _ _ (k0_off56_eq k0_t2 k 0) (by simp only []; omega) rfl _ ![0, 0] slices_S32x128_o0_0_S16x128 rfl _ rfl
    · exact expPiece_of i arg4.view f4 arg11.view f11 h4 h11 (8 * k0_t2.val + 4 + k.val) 1 4 (by omega) (by decide) (by decide) _ (off48_eq i k0_t2 k 1 4 (by decide) (by decide)) _ _ _ _ _ (k0_off55_eq k0_t2 k) (by omega) rfl _ _ _ _ (k0_off56_eq k0_t2 k 1) (by simp only []; omega) rfl _ ![16, 0] slices_S32x128_o16_0_S16x128 rfl _ rfl
    · exact expPiece_of i arg4.view f4 arg11.view f11 h4 h11 (8 * k0_t2.val + 4 + k.val) 0 5 (by omega) (by decide) (by decide) _ (off48_eq i k0_t2 k 0 5 (by decide) (by decide)) _ _ _ _ _ (k0_off57_eq k0_t2 k) (by omega) rfl _ _ _ _ (k0_off58_eq k0_t2 k 0) (by simp only []; omega) rfl _ ![0, 0] slices_S32x128_o0_0_S16x128 rfl _ rfl
    · exact expPiece_of i arg4.view f4 arg11.view f11 h4 h11 (8 * k0_t2.val + 4 + k.val) 1 5 (by omega) (by decide) (by decide) _ (off48_eq i k0_t2 k 1 5 (by decide) (by decide)) _ _ _ _ _ (k0_off57_eq k0_t2 k) (by omega) rfl _ _ _ _ (k0_off58_eq k0_t2 k 1) (by simp only []; omega) rfl _ ![16, 0] slices_S32x128_o16_0_S16x128 rfl _ rfl
    · exact expPiece_of i arg4.view f4 arg11.view f11 h4 h11 (8 * k0_t2.val + 4 + k.val) 0 6 (by omega) (by decide) (by decide) _ (off48_eq i k0_t2 k 0 6 (by decide) (by decide)) _ _ _ _ _ (k0_off59_eq k0_t2 k) (by omega) rfl _ _ _ _ (k0_off60_eq k0_t2 k 0) (by simp only []; omega) rfl _ ![0, 0] slices_S32x128_o0_0_S16x128 rfl _ rfl
    · exact expPiece_of i arg4.view f4 arg11.view f11 h4 h11 (8 * k0_t2.val + 4 + k.val) 1 6 (by omega) (by decide) (by decide) _ (off48_eq i k0_t2 k 1 6 (by decide) (by decide)) _ _ _ _ _ (k0_off59_eq k0_t2 k) (by omega) rfl _ _ _ _ (k0_off60_eq k0_t2 k 1) (by simp only []; omega) rfl _ ![16, 0] slices_S32x128_o16_0_S16x128 rfl _ rfl
    · exact expPiece_of i arg4.view f4 arg11.view f11 h4 h11 (8 * k0_t2.val + 4 + k.val) 0 7 (by omega) (by decide) (by decide) _ (off48_eq i k0_t2 k 0 7 (by decide) (by decide)) _ _ _ _ _ (k0_off61_eq k0_t2 k) (by omega) rfl _ _ _ _ (k0_off62_eq k0_t2 k 0) (by simp only []; omega) rfl _ ![0, 0] slices_S32x128_o0_0_S16x128 rfl _ rfl
    · exact expPiece_of i arg4.view f4 arg11.view f11 h4 h11 (8 * k0_t2.val + 4 + k.val) 1 7 (by omega) (by decide) (by decide) _ (off48_eq i k0_t2 k 1 7 (by decide) (by decide)) _ _ _ _ _ (k0_off61_eq k0_t2 k) (by omega) rfl _ _ _ _ (k0_off62_eq k0_t2 k 1) (by simp only []; omega) rfl _ ![16, 0] slices_S32x128_o16_0_S16x128 rfl _ rfl

end Loops

end Cert.Proof.KernelIdeal.Val

end
-- ==== Proof.Value.VTile2.lean ====
/- A round over the tiles: every tile staged, its output rows written. -/
module

public import proofs.«01_k».proof.Proof.Value.VOut
public import proofs.«01_k».proof.Proof.Value.VStage
public import proofs.«01_k».proof.Proof.Value.VExp4
public import proofs.«01_k».proof.Proof.Value.VExp6

@[expose] public section

set_option maxRecDepth 8192
set_option maxHeartbeats 8000000

noncomputable section

namespace Cert.Proof.KernelIdeal.Val

open Cert.KernelIdeal Cert.KernelIdeal.Gen Cert.Proof.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section Loops

variable [S : Src] (c : Dev nD) (i : grid0.Coords)
  (arg2 : Memref sig .tc .smem S64x128 .i32) (harg2 : arg2.IsWhole)
  (arg3 : Memref sig .tc .vmem S256x1024 .bf16) (harg3 : arg3.IsWhole)
  (arg4 : Memref sig .tc .vmem S1024x1024 .fp8e4m3) (harg4 : arg4.IsWhole)
  (arg5 : Memref sig .tc .vmem S1024x128 .bf16) (harg5 : arg5.IsWhole)
  (arg6 : Memref sig .tc .vmem S6144x256 .bf16) (harg6 : arg6.IsWhole)
  (arg7 : Memref sig .tc .vmem S256x1024 .bf16) (harg7 : arg7.IsWhole)
  (arg8 : Memref sig .tc .vmem S73764x2x128 .bf16) (harg8 : arg8.IsWhole)
  (arg9 : Memref sig .tc .vmem S800x2x128 .bf16) (harg9 : arg9.IsWhole)
  (arg10 : Memref sig .tc .vmem S800x2x128 .bf16) (harg10 : arg10.IsWhole)
  (arg11 : Memref sig .tc .vmem S512x2x128 .bf16) (harg11 : arg11.IsWhole)

set_option warn.classDefReducibility false in
@[sl_loop] def loopInv_k0_t2 (arg1 v2 v4 : BitVec 32) (k0_h4 : k0_cond4 i = 1#1)
    (ft : Buf (Elt Ideal) (arg2.view.loc (c : Thread nD τ))) :
    LoopInvTy_k0_t2 (F := Ideal) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 v4 k0_h4 where
  inv k acc := iprop(⌜TabW c arg2 ft⌝ ∗ tabP c arg2 ft ∗ okP c arg3 (XOK i) ∗ okP c arg4 (YOK i) ∗ okP c arg6 POK ∗ okP c arg7 (OutOK S (i 0).val (i 1).val (64 * k))
    ∗ okP c arg8 (BufOK S (i 0).val ((i 1).val * 512 + 128 * k)) ∗ anyP c arg9 ∗ anyP c arg10 ∗ okP c arg11 (ScOK i))
  step k acc := by
    unfold k0_t2_body
    iintro ⟨%hT, HT, ⟨%f3, %h3, H3⟩, ⟨%f4, %h4, H4⟩, ⟨%f6, %h6, H6⟩, ⟨%f7, %h7, H7⟩, ⟨%f8, %h8, H8⟩, ⟨%f9, H9⟩, ⟨%f10, H10⟩, ⟨%f11, %h11, H11⟩⟩
    have z9 := StgOK.zero (S := S) (i 0).val ((i 1).val * 8 + 2 * k.val) (arg9.view.read (Elt Ideal) f9)
    have z10 := StgOK.zero (S := S) (i 0).val ((i 1).val * 8 + 2 * k.val + 1) (arg10.view.read (Elt Ideal) f10)
    sl_exec_parts
    sl_step
    have hk : k.val < 4 := k.isLt
    have hi1 : (i 1).val < 8 := (i 1).isLt
    have hc := (cond4_iff i).1 k0_h4
    isplitr
    · ipureintro; exact hT
    isplitl [HT]; · iexact HT
    isplitl [H3]
    · iexists f3
      isplitr
      · ipureintro; exact h3
      · iexact H3
    isplitl [H4]
    · iexists _
      isplitr
      · ipureintro; exact (by assumption)
      · iexact H4
    isplitl [H6]
    · iexists f6
      isplitr
      · ipureintro; exact h6
      · iexact H6
    isplitl [H7]
    · iexists _
      isplitr; swap
      · iexact H7
      ipureintro
      refine out8 arg7.view f7 (i 0).val (i 1).val k.val _ _ _ _ _ _ _ _ h7 ?_ ?_ ?_ ?_ ?_ ?_ ?_ ?_
      · exact outPiece_of i (by omega) arg6.view f6 h6 arg9.view _ ((i 1).val * 8 + 2 * k.val) hL4 arg3.view f3 h3 (2 * k.val) 0 (by omega) (by omega) (by decide) _ _ _ (k0_off22_eq k 0) (by show 64 * k.val + 32 * 0 = _; omega) rfl _ _ _ _ (k0_off21_eq i k 0) (by show 768 * (i 1).val + 192 * k.val + 96 * 0 = _; omega) _ _ _ rfl rfl _ _ _ rfl
      · exact outPiece_of i (by omega) arg6.view f6 h6 arg9.view _ ((i 1).val * 8 + 2 * k.val) hL4 arg3.view f3 h3 (2 * k.val) 1 (by omega) (by omega) (by decide) _ _ _ (k0_off23_eq k 0) (by show 64 * k.val + 32 * 0 = _; omega) rfl _ _ _ _ (k0_off21_eq i k 0) (by show 768 * (i 1).val + 192 * k.val + 96 * 0 = _; omega) _ _ _ rfl rfl _ _ _ rfl
      · exact outPiece_of i (by omega) arg6.view f6 h6 arg9.view _ ((i 1).val * 8 + 2 * k.val) hL4 arg3.view f3 h3 (2 * k.val) 2 (by omega) (by omega) (by decide) _ _ _ (k0_off24_eq k 0) (by show 64 * k.val + 32 * 0 = _; omega) rfl _ _ _ _ (k0_off21_eq i k 0) (by show 768 * (i 1).val + 192 * k.val + 96 * 0 = _; omega) _ _ _ rfl rfl _ _ _ rfl
      · exact outPiece_of i (by omega) arg6.view f6 h6 arg9.view _ ((i 1).val * 8 + 2 * k.val) hL4 arg3.view f3 h3 (2 * k.val) 3 (by omega) (by omega) (by decide) _ _ _ (k0_off25_eq k 0) (by show 64 * k.val + 32 * 0 = _; omega) rfl _ _ _ _ (k0_off21_eq i k 0) (by show 768 * (i 1).val + 192 * k.val + 96 * 0 = _; omega) _ _ _ rfl rfl _ _ _ rfl
      · exact outPiece_of i (by omega) arg6.view f6 h6 arg10.view _ ((i 1).val * 8 + 2 * k.val + 1) hL16 arg3.view f3 h3 (2 * k.val + 1) 0 (by omega) (by omega) (by decide) _ _ _ (k0_off22_eq k 1) (by show 64 * k.val + 32 * 1 = _; omega) rfl _ _ _ _ (k0_off21_eq i k 1) (by show 768 * (i 1).val + 192 * k.val + 96 * 1 = _; omega) _ _ _ rfl rfl _ _ _ rfl
      · exact outPiece_of i (by omega) arg6.view f6 h6 arg10.view _ ((i 1).val * 8 + 2 * k.val + 1) hL16 arg3.view f3 h3 (2 * k.val + 1) 1 (by omega) (by omega) (by decide) _ _ _ (k0_off23_eq k 1) (by show 64 * k.val + 32 * 1 = _; omega) rfl _ _ _ _ (k0_off21_eq i k 1) (by show 768 * (i 1).val + 192 * k.val + 96 * 1 = _; omega) _ _ _ rfl rfl _ _ _ rfl
      · exact outPiece_of i (by omega) arg6.view f6 h6 arg10.view _ ((i 1).val * 8 + 2 * k.val + 1) hL16 arg3.view f3 h3 (2 * k.val + 1) 2 (by omega) (by omega) (by decide) _ _ _ (k0_off24_eq k 1) (by show 64 * k.val + 32 * 1 = _; omega) rfl _ _ _ _ (k0_off21_eq i k 1) (by show 768 * (i 1).val + 192 * k.val + 96 * 1 = _; omega) _ _ _ rfl rfl _ _ _ rfl
      · exact outPiece_of i (by omega) arg6.view f6 h6 arg10.view _ ((i 1).val * 8 + 2 * k.val + 1) hL16 arg3.view f3 h3 (2 * k.val + 1) 3 (by omega) (by omega) (by decide) _ _ _ (k0_off25_eq k 1) (by show 64 * k.val + 32 * 1 = _; omega) rfl _ _ _ _ (k0_off21_eq i k 1) (by show 768 * (i 1).val + 192 * k.val + 96 * 1 = _; omega) _ _ _ rfl rfl _ _ _ rfl
    isplitl [H8]
    · iexists _
      isplitr; swap
      · iexact H8
      ipureintro
      have e : (i 1).val * 512 + 128 * (k.val + 1) = (i 1).val * 512 + 128 * k.val + 64 + 16 * 4 := by omega
      rw [e]
      exact hL20
    isplitl [H9]; · iexists _; iexact H9
    isplitl [H10]; · iexists _; iexact H10
    iexists _
    isplitr
    · ipureintro; exact (by assumption)
    · iexact H11

end Loops

end Cert.Proof.KernelIdeal.Val

end
-- ==== Proof.Value.VRun2.lean ====
/- The body run once at a grid point, with what it leaves. -/
module

public import proofs.«01_k».proof.Proof.Value.VFacts
public import proofs.«01_k».proof.Proof.Value.VTile2
public import Idealize.ShloMosaic.Lib.Pipeline.Frame
public import Idealize.ShloMosaic.Lib.Tactic

@[expose] public section

set_option maxRecDepth 8192
set_option maxHeartbeats 16000000

noncomputable section

namespace Cert.Proof.KernelIdeal.Val

open Cert.KernelIdeal Cert.KernelIdeal.Gen Cert.Proof.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section Loops

variable [S : Src] (c : Dev nD) (i : grid0.Coords)
  (arg2 : Memref sig .tc .smem S64x128 .i32) (harg2 : arg2.IsWhole)
  (arg3 : Memref sig .tc .vmem S256x1024 .bf16) (harg3 : arg3.IsWhole)
  (arg4 : Memref sig .tc .vmem S1024x1024 .fp8e4m3) (harg4 : arg4.IsWhole)
  (arg5 : Memref sig .tc .vmem S1024x128 .bf16) (harg5 : arg5.IsWhole)
  (arg6 : Memref sig .tc .vmem S6144x256 .bf16) (harg6 : arg6.IsWhole)
  (arg7 : Memref sig .tc .vmem S256x1024 .bf16) (harg7 : arg7.IsWhole)
  (arg8 : Memref sig .tc .vmem S73764x2x128 .bf16) (harg8 : arg8.IsWhole)
  (arg9 : Memref sig .tc .vmem S800x2x128 .bf16) (harg9 : arg9.IsWhole)
  (arg10 : Memref sig .tc .vmem S800x2x128 .bf16) (harg10 : arg10.IsWhole)
  (arg11 : Memref sig .tc .vmem S512x2x128 .bf16) (harg11 : arg11.IsWhole)

attribute [local irreducible] BufOK ScOK YOK XOK POK OutOK ScSrc TabW

/-- A point of a round between: the block before is combined and the next words are filled. -/
theorem kernelRun2 (hi0 : 0 < (i 0).val ∧ (i 0).val < 6)
    (ft : Buf (Elt Ideal) (arg2.view.loc (c : Thread nD τ))) (hT : TabW c arg2 ft) (f3 : arg3.view.ty.Contents (Elt Ideal)) (f4 : arg4.view.ty.Contents (Elt Ideal)) (f5 : arg5.view.ty.Contents (Elt Ideal)) (f6 : arg6.view.ty.Contents (Elt Ideal)) (f7 : arg7.view.ty.Contents (Elt Ideal))
    (h3 : XOK i (arg3.view.read (Elt Ideal) f3)) (h4 : YOK i (arg4.view.read (Elt Ideal) f4)) (h5 : ScSrc i (arg5.view.read (Elt Ideal) f5)) (h6 : POK (arg6.view.read (Elt Ideal) f6)) (f8 : arg8.view.ty.Contents (Elt Ideal)) (h8 : BufOK S (i 0).val ((i 1).val * 512 + 128 * 0) (arg8.view.read (Elt Ideal) f8)) (W : Waits sig Unit) (K : PUnit → sProp 𝕄) :
    iprop(tabP c arg2 ft ∗ ptP c arg3 f3 ∗ ptP c arg4 f4 ∗ ptP c arg5 f5 ∗ ptP c arg6 f6 ∗ ptP c arg7 f7 ∗ ptP c arg8 f8 ∗ anyP c arg9 ∗ anyP c arg10 ∗ anyP c arg11 ∗ owes (c : Thread nD τ) 0 W
        ∗ (iprop(tabP c arg2 ft ∗ okP c arg3 (XOK i) ∗ okP c arg4 (YOK i) ∗ ptP c arg5 f5 ∗ okP c arg6 (POK) ∗ okP c arg7 (OutOK S (i 0).val (i 1).val (64 * 4)) ∗ okP c arg8 (BufOK S (i 0).val ((i 1).val * 512 + 128 * 4)) ∗ anyP c arg9 ∗ anyP c arg10 ∗ anyP c arg11 ∗ ∃ W', owes (c : Thread nD τ) 0 W') -∗ K ⟨⟩))
      ⊢ wp frame (wpE (defs₀ (F := Ideal)) Variants.none c none) Set.univ
          (cc0_combine i arg2 harg2 arg3 harg3 arg4 harg4 arg5 harg5 arg6 harg6 arg7 harg7 arg8 harg8 arg9 harg9 arg10 harg10 arg11 harg11) K := by
  simp only [cc0_combine_eq_skeleton]; unfold cc0_combine_skel
  iintro ⟨HT, H3, H4, H5, H6, H7, H8, ⟨%f9, H9⟩, ⟨%f10, H10⟩, ⟨%f11, H11⟩, HW, Hk⟩
  have b1 : ¬ cond1 i := fun h => absurd ((cond1_iff i).1 h) (by omega)
  have b2 : cond2 i := (cond2_iff i).2 (by omega)
  have b3 : ¬ k0_cond3 i = 1#1 := fun h => absurd ((cond3_iff i).1 h) (by omega)
  have b4 : k0_cond4 i = 1#1 := (cond4_iff i).2 (by omega)
  have b5 : ¬ k0_cond5 i = 1#1 := fun h => absurd ((cond5_iff i).1 h) (by omega)
  have z7 : OutOK S (i 0).val (i 1).val (64 * 0) (arg7.view.read (Elt Ideal) f7) := out_zero _
  have z11 := scales_ok i (by omega) arg11.view arg11.view.junk arg5.view f5 h5 inb_S512x2x128_S512x2x128_0_0_0 inb_S1024x128_S1024x128_0_0
  clear hi0
  sl_exec
  sl_step
  iapply Hk
  isplitl [HT]; · iexact HT
  isplitl [H3]
  · iexists _
    isplitr; swap
    · iexact H3
    ipureintro; assumption
  isplitl [H4]
  · iexists _
    isplitr; swap
    · iexact H4
    ipureintro; assumption
  isplitl [H5]; · iexact H5
  isplitl [H6]
  · iexists _
    isplitr; swap
    · iexact H6
    ipureintro; assumption
  isplitl [H7]
  · iexists _
    isplitr; swap
    · iexact H7
    ipureintro; assumption
  isplitl [H8]
  · iexists _
    isplitr; swap
    · iexact H8
    ipureintro; assumption
  isplitl [H9]; · iexists _; iexact H9
  isplitl [H10]; · iexists _; iexact H10
  isplitl [H11]; · iexists _; iexact H11
  iexists _; iexact HW

end Loops

end Cert.Proof.KernelIdeal.Val

end
-- ==== Proof.Value.VTile7.lean ====
/- The last round over the tiles: every tile staged, its output rows written. -/
module

public import proofs.«01_k».proof.Proof.Value.VStage
public import proofs.«01_k».proof.Proof.Value.VOut

@[expose] public section

set_option maxRecDepth 8192
set_option maxHeartbeats 8000000

noncomputable section

namespace Cert.Proof.KernelIdeal.Val

open Cert.KernelIdeal Cert.KernelIdeal.Gen Cert.Proof.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section Loops

variable [S : Src] (c : Dev nD) (i : grid0.Coords)
  (arg2 : Memref sig .tc .smem S64x128 .i32) (harg2 : arg2.IsWhole)
  (arg3 : Memref sig .tc .vmem S256x1024 .bf16) (harg3 : arg3.IsWhole)
  (arg4 : Memref sig .tc .vmem S1024x1024 .fp8e4m3) (harg4 : arg4.IsWhole)
  (arg5 : Memref sig .tc .vmem S1024x128 .bf16) (harg5 : arg5.IsWhole)
  (arg6 : Memref sig .tc .vmem S6144x256 .bf16) (harg6 : arg6.IsWhole)
  (arg7 : Memref sig .tc .vmem S256x1024 .bf16) (harg7 : arg7.IsWhole)
  (arg8 : Memref sig .tc .vmem S73764x2x128 .bf16) (harg8 : arg8.IsWhole)
  (arg9 : Memref sig .tc .vmem S800x2x128 .bf16) (harg9 : arg9.IsWhole)
  (arg10 : Memref sig .tc .vmem S800x2x128 .bf16) (harg10 : arg10.IsWhole)
  (arg11 : Memref sig .tc .vmem S512x2x128 .bf16) (harg11 : arg11.IsWhole)

set_option warn.classDefReducibility false in
@[sl_loop] def loopInv_k0_t7 (arg1 v2 : BitVec 32) (k0_h5 : k0_cond5 i = 1#1)
    (ft : Buf (Elt Ideal) (arg2.view.loc (c : Thread nD τ))) :
    LoopInvTy_k0_t7 (F := Ideal) Unit ℕ (UR sig nD τ) ℕ 𝒱₀ c none Set.univ i arg2 harg2 arg3 harg3 arg4 harg4 arg5 harg5 arg6 harg6 arg7 harg7 arg8 harg8 arg9 harg9 arg10 harg10 arg11 harg11 arg1 v2 k0_h5 where
  inv k acc := iprop(⌜TabW c arg2 ft⌝ ∗ tabP c arg2 ft ∗ okP c arg3 (XOK i) ∗ okP c arg6 POK ∗ okP c arg7 (OutOK S (i 0).val (i 1).val (64 * k))
    ∗ okP c arg8 (BufOK S (i 0).val (0)) ∗ anyP c arg9 ∗ anyP c arg10)
  step k acc := by
    unfold k0_t7_body
    iintro ⟨%hT, HT, ⟨%f3, %h3, H3⟩, ⟨%f6, %h6, H6⟩, ⟨%f7, %h7, H7⟩, ⟨%f8, %h8, H8⟩, ⟨%f9, H9⟩, ⟨%f10, H10⟩⟩
    have z9 := StgOK.zero (S := S) (i 0).val ((i 1).val * 8 + 2 * k.val) (arg9.view.read (Elt Ideal) f9)
    have z10 := StgOK.zero (S := S) (i 0).val ((i 1).val * 8 + 2 * k.val + 1) (arg10.view.read (Elt Ideal) f10)
    sl_exec_parts
    sl_step
    have hk : k.val < 4 := k.isLt
    have hi1 : (i 1).val < 8 := (i 1).isLt
    have hc := (cond5_iff i).1 k0_h5
    isplitr
    · ipureintro; exact hT
    isplitl [HT]; · iexact HT
    isplitl [H3]
    · iexists f3
      isplitr
      · ipureintro; exact h3
      · iexact H3
    isplitl [H6]
    · iexists f6
      isplitr
      · ipureintro; exact h6
      · iexact H6
    isplitl [H7]
    · iexists _
      isplitr; swap
      · iexact H7
      ipureintro
      refine out8 arg7.view f7 (i 0).val (i 1).val k.val _ _ _ _ _ _ _ _ h7 ?_ ?_ ?_ ?_ ?_ ?_ ?_ ?_
      · exact outPiece_of i (by omega) arg6.view f6 h6 arg9.view _ ((i 1).val * 8 + 2 * k.val) hL4 arg3.view f3 h3 (2 * k.val) 0 (by omega) (by omega) (by decide) _ _ _ (k0_off67_eq k 0) (by show 64 * k.val + 32 * 0 = _; omega) rfl _ _ _ _ (k0_off66_eq i k 0) (by show 768 * (i 1).val + 192 * k.val + 96 * 0 = _; omega) _ _ _ rfl rfl _ _ _ rfl
      · exact outPiece_of i (by omega) arg6.view f6 h6 arg9.view _ ((i 1).val * 8 + 2 * k.val) hL4 arg3.view f3 h3 (2 * k.val) 1 (by omega) (by omega) (by decide) _ _ _ (k0_off68_eq k 0) (by show 64 * k.val + 32 * 0 = _; omega) rfl _ _ _ _ (k0_off66_eq i k 0) (by show 768 * (i 1).val + 192 * k.val + 96 * 0 = _; omega) _ _ _ rfl rfl _ _ _ rfl
      · exact outPiece_of i (by omega) arg6.view f6 h6 arg9.view _ ((i 1).val * 8 + 2 * k.val) hL4 arg3.view f3 h3 (2 * k.val) 2 (by omega) (by omega) (by decide) _ _ _ (k0_off69_eq k 0) (by show 64 * k.val + 32 * 0 = _; omega) rfl _ _ _ _ (k0_off66_eq i k 0) (by show 768 * (i 1).val + 192 * k.val + 96 * 0 = _; omega) _ _ _ rfl rfl _ _ _ rfl
      · exact outPiece_of i (by omega) arg6.view f6 h6 arg9.view _ ((i 1).val * 8 + 2 * k.val) hL4 arg3.view f3 h3 (2 * k.val) 3 (by omega) (by omega) (by decide) _ _ _ (k0_off70_eq k 0) (by show 64 * k.val + 32 * 0 = _; omega) rfl _ _ _ _ (k0_off66_eq i k 0) (by show 768 * (i 1).val + 192 * k.val + 96 * 0 = _; omega) _ _ _ rfl rfl _ _ _ rfl
      · exact outPiece_of i (by omega) arg6.view f6 h6 arg10.view _ ((i 1).val * 8 + 2 * k.val + 1) hL10 arg3.view f3 h3 (2 * k.val + 1) 0 (by omega) (by omega) (by decide) _ _ _ (k0_off67_eq k 1) (by show 64 * k.val + 32 * 1 = _; omega) rfl _ _ _ _ (k0_off66_eq i k 1) (by show 768 * (i 1).val + 192 * k.val + 96 * 1 = _; omega) _ _ _ rfl rfl _ _ _ rfl
      · exact outPiece_of i (by omega) arg6.view f6 h6 arg10.view _ ((i 1).val * 8 + 2 * k.val + 1) hL10 arg3.view f3 h3 (2 * k.val + 1) 1 (by omega) (by omega) (by decide) _ _ _ (k0_off68_eq k 1) (by show 64 * k.val + 32 * 1 = _; omega) rfl _ _ _ _ (k0_off66_eq i k 1) (by show 768 * (i 1).val + 192 * k.val + 96 * 1 = _; omega) _ _ _ rfl rfl _ _ _ rfl
      · exact outPiece_of i (by omega) arg6.view f6 h6 arg10.view _ ((i 1).val * 8 + 2 * k.val + 1) hL10 arg3.view f3 h3 (2 * k.val + 1) 2 (by omega) (by omega) (by decide) _ _ _ (k0_off69_eq k 1) (by show 64 * k.val + 32 * 1 = _; omega) rfl _ _ _ _ (k0_off66_eq i k 1) (by show 768 * (i 1).val + 192 * k.val + 96 * 1 = _; omega) _ _ _ rfl rfl _ _ _ rfl
      · exact outPiece_of i (by omega) arg6.view f6 h6 arg10.view _ ((i 1).val * 8 + 2 * k.val + 1) hL10 arg3.view f3 h3 (2 * k.val + 1) 3 (by omega) (by omega) (by decide) _ _ _ (k0_off70_eq k 1) (by show 64 * k.val + 32 * 1 = _; omega) rfl _ _ _ _ (k0_off66_eq i k 1) (by show 768 * (i 1).val + 192 * k.val + 96 * 1 = _; omega) _ _ _ rfl rfl _ _ _ rfl
    isplitl [H8]
    · iexists _
      isplitr
      · ipureintro; exact (by assumption)
      · iexact H8
    isplitl [H9]; · iexists _; iexact H9
    iexists _; iexact H10

end Loops

end Cert.Proof.KernelIdeal.Val

end
-- ==== Proof.Value.VRun3.lean ====
/- The body run once at a grid point, with what it leaves. -/
module

public import proofs.«01_k».proof.Proof.Value.VFacts
public import proofs.«01_k».proof.Proof.Value.VTile7
public import Idealize.ShloMosaic.Lib.Pipeline.Frame
public import Idealize.ShloMosaic.Lib.Tactic

@[expose] public section

set_option maxRecDepth 8192
set_option maxHeartbeats 16000000

noncomputable section

namespace Cert.Proof.KernelIdeal.Val

open Cert.KernelIdeal Cert.KernelIdeal.Gen Cert.Proof.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section Loops

variable [S : Src] (c : Dev nD) (i : grid0.Coords)
  (arg2 : Memref sig .tc .smem S64x128 .i32) (harg2 : arg2.IsWhole)
  (arg3 : Memref sig .tc .vmem S256x1024 .bf16) (harg3 : arg3.IsWhole)
  (arg4 : Memref sig .tc .vmem S1024x1024 .fp8e4m3) (harg4 : arg4.IsWhole)
  (arg5 : Memref sig .tc .vmem S1024x128 .bf16) (harg5 : arg5.IsWhole)
  (arg6 : Memref sig .tc .vmem S6144x256 .bf16) (harg6 : arg6.IsWhole)
  (arg7 : Memref sig .tc .vmem S256x1024 .bf16) (harg7 : arg7.IsWhole)
  (arg8 : Memref sig .tc .vmem S73764x2x128 .bf16) (harg8 : arg8.IsWhole)
  (arg9 : Memref sig .tc .vmem S800x2x128 .bf16) (harg9 : arg9.IsWhole)
  (arg10 : Memref sig .tc .vmem S800x2x128 .bf16) (harg10 : arg10.IsWhole)
  (arg11 : Memref sig .tc .vmem S512x2x128 .bf16) (harg11 : arg11.IsWhole)

attribute [local irreducible] BufOK ScOK YOK XOK POK OutOK ScSrc TabW

/-- A point of the last round: the last block is combined. -/
theorem kernelRun3 (hi0 : (i 0).val = 6)
    (ft : Buf (Elt Ideal) (arg2.view.loc (c : Thread nD τ))) (hT : TabW c arg2 ft) (f3 : arg3.view.ty.Contents (Elt Ideal)) (f4 : arg4.view.ty.Contents (Elt Ideal)) (f5 : arg5.view.ty.Contents (Elt Ideal)) (f6 : arg6.view.ty.Contents (Elt Ideal)) (f7 : arg7.view.ty.Contents (Elt Ideal))
    (h3 : XOK i (arg3.view.read (Elt Ideal) f3)) (h6 : POK (arg6.view.read (Elt Ideal) f6)) (f8 : arg8.view.ty.Contents (Elt Ideal)) (h8 : BufOK S (i 0).val (0) (arg8.view.read (Elt Ideal) f8)) (W : Waits sig Unit) (K : PUnit → sProp 𝕄) :
    iprop(tabP c arg2 ft ∗ ptP c arg3 f3 ∗ ptP c arg4 f4 ∗ ptP c arg5 f5 ∗ ptP c arg6 f6 ∗ ptP c arg7 f7 ∗ ptP c arg8 f8 ∗ anyP c arg9 ∗ anyP c arg10 ∗ anyP c arg11 ∗ owes (c : Thread nD τ) 0 W
        ∗ (iprop(tabP c arg2 ft ∗ okP c arg3 (XOK i) ∗ ptP c arg4 f4 ∗ ptP c arg5 f5 ∗ okP c arg6 (POK) ∗ okP c arg7 (OutOK S (i 0).val (i 1).val (64 * 4)) ∗ okP c arg8 (BufOK S (i 0).val 0) ∗ anyP c arg9 ∗ anyP c arg10 ∗ anyP c arg11 ∗ ∃ W', owes (c : Thread nD τ) 0 W') -∗ K ⟨⟩))
      ⊢ wp frame (wpE (defs₀ (F := Ideal)) Variants.none c none) Set.univ
          (cc0_combine i arg2 harg2 arg3 harg3 arg4 harg4 arg5 harg5 arg6 harg6 arg7 harg7 arg8 harg8 arg9 harg9 arg10 harg10 arg11 harg11) K := by
  simp only [cc0_combine_eq_skeleton]; unfold cc0_combine_skel
  iintro ⟨HT, H3, H4, H5, H6, H7, H8, ⟨%f9, H9⟩, ⟨%f10, H10⟩, ⟨%f11, H11⟩, HW, Hk⟩
  have b1 : ¬ cond1 i := fun h => absurd ((cond1_iff i).1 h) (by omega)
  have b2 : ¬ cond2 i := fun h => absurd ((cond2_iff i).1 h) (by omega)
  have b3 : ¬ k0_cond3 i = 1#1 := fun h => absurd ((cond3_iff i).1 h) (by omega)
  have b4 : ¬ k0_cond4 i = 1#1 := fun h => absurd ((cond4_iff i).1 h) (by omega)
  have b5 : k0_cond5 i = 1#1 := (cond5_iff i).2 (by omega)
  have z7 : OutOK S (i 0).val (i 1).val (64 * 0) (arg7.view.read (Elt Ideal) f7) := out_zero _
  clear hi0
  sl_exec
  sl_step
  iapply Hk
  isplitl [HT]; · iexact HT
  isplitl [H3]
  · iexists _
    isplitr; swap
    · iexact H3
    ipureintro; assumption
  isplitl [H4]; · iexact H4
  isplitl [H5]; · iexact H5
  isplitl [H6]
  · iexists _
    isplitr; swap
    · iexact H6
    ipureintro; assumption
  isplitl [H7]
  · iexists _
    isplitr; swap
    · iexact H7
    ipureintro; assumption
  isplitl [H8]
  · iexists _
    isplitr; swap
    · iexact H8
    ipureintro; assumption
  isplitl [H9]; · iexists _; iexact H9
  isplitl [H10]; · iexists _; iexact H10
  isplitl [H11]; · iexists _; iexact H11
  iexists _; iexact HW

end Loops

end Cert.Proof.KernelIdeal.Val

end
-- ==== Proof.Value.VStep.lean ====
/- The body at a grid point, from the blocks the windows hold to what it leaves in them. -/
module

public import proofs.«01_k».proof.Proof.Value.VBlocks
public import proofs.«01_k».proof.Proof.Value.VRun0
public import proofs.«01_k».proof.Proof.Value.VRun1
public import proofs.«01_k».proof.Proof.Value.VRun2
public import proofs.«01_k».proof.Proof.Value.VRun3

@[expose] public section

set_option maxRecDepth 8192
set_option maxHeartbeats 4000000

noncomputable section

namespace Cert.Proof.KernelIdeal.Val

open Cert.KernelIdeal Cert.KernelIdeal.Gen Cert.Proof.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem owns_of_ok (c : Dev nD) {sp : Space} {S : Shape} {e : EltTy} (M : Memref sig .tc sp S e) (Q : (S.Idx → Elt Ideal e) → Prop) (d : S.Idx → Elt Ideal e)
    (h : ∀ rd, Q rd → rd = d) : (okP c M Q : sProp 𝕄) ⊢ okP c M (fun rd => rd = d) := by
  iintro ⟨%f, %hf, H⟩
  iexists f
  isplitr; swap
  · iexact H
  ipureintro; exact h _ hf

theorem owns_of_pt (c : Dev nD) {sp : Space} {S : Shape} {e : EltTy} (M : Memref sig .tc sp S e) (f : M.view.ty.Contents (Elt Ideal)) (d : S.Idx → Elt Ideal e)
    (h : M.view.read (Elt Ideal) f = d) : (ptP c M f : sProp 𝕄) ⊢ okP c M (fun rd => rd = d) := by
  iintro H
  iexists f
  isplitr; swap
  · iexact H
  ipureintro; exact h

theorem ext2 {a b : ℕ} {α : Type} (f g : (⟨2, ![a, b]⟩ : Shape).Idx → α) (h : ∀ (r : Fin a) (q : Fin b), f (ix2 r q) = g (ix2 r q)) : f = g := by
  funext y
  have e : (ix2 (y 0) (y 1) : (⟨2, ![a, b]⟩ : Shape).Idx) = y := by funext k; fin_cases k <;> rfl
  rw [← e]; exact h _ _

variable [S : Src]

theorem XOK.unique {i : grid0.Coords} {d rd : S256x1024.Idx → EReal} (hd : XOK i d) (h : XOK i rd) : rd = d := ext2 _ _ fun r q => (h r q).trans (hd r q).symm
theorem YOK.unique {i : grid0.Coords} {d rd : S1024x1024.Idx → EReal} (hd : YOK i d) (h : YOK i rd) : rd = d := ext2 _ _ fun r q => (h r q).trans (hd r q).symm
theorem POK.unique {d rd : S6144x256.Idx → EReal} (hd : POK d) (h : POK rd) : rd = d := ext2 _ _ fun r q => (h r q).trans (hd r q).symm

/-- The output block of a point. -/
def outBlk (S : Src) (i : grid0.Coords) (y : S256x1024.Idx) : EReal := outVal S ((i 1).val * 256 + (y 0).val) (((i 0).val - 1) * 1024 + (y 1).val)

theorem OutOK.unique {i : grid0.Coords} {rd : S256x1024.Idx → EReal} (h : OutOK S (i 0).val (i 1).val (64 * 4) rd) : rd = outBlk S i :=
  funext fun y => h y (by have : (y 0).val < 256 := (y 0).isLt; omega)

variable (c : Dev nD) (t : Fin grid0.N)
  (arg2 : Memref sig .tc .smem S64x128 .i32) (harg2 : arg2.IsWhole)
  (arg3 : Memref sig .tc .vmem S256x1024 .bf16) (harg3 : arg3.IsWhole)
  (arg4 : Memref sig .tc .vmem S1024x1024 .fp8e4m3) (harg4 : arg4.IsWhole)
  (arg5 : Memref sig .tc .vmem S1024x128 .bf16) (harg5 : arg5.IsWhole)
  (arg6 : Memref sig .tc .vmem S6144x256 .bf16) (harg6 : arg6.IsWhole)
  (arg7 : Memref sig .tc .vmem S256x1024 .bf16) (harg7 : arg7.IsWhole)
  (arg8 : Memref sig .tc .vmem S73764x2x128 .bf16) (harg8 : arg8.IsWhole)
  (arg9 : Memref sig .tc .vmem S800x2x128 .bf16) (harg9 : arg9.IsWhole)
  (arg10 : Memref sig .tc .vmem S800x2x128 .bf16) (harg10 : arg10.IsWhole)
  (arg11 : Memref sig .tc .vmem S512x2x128 .bf16) (harg11 : arg11.IsWhole)

/-- What the body is given at a point and leaves: the windows' blocks, and the pair buffer filled so far. -/
abbrev stepP (ft : Buf (Elt Ideal) (arg2.view.loc (c : Thread nD τ))) (d3 : S256x1024.Idx → EReal) (d4 : S1024x1024.Idx → EReal) (d5 : S1024x128.Idx → EReal) (d6 : S6144x256.Idx → EReal)
    (d7 : S256x1024.Idx → EReal) (n : ℕ) : sProp 𝕄 :=
  iprop(tabP c arg2 ft ∗ owns (c : Thread nD τ) arg3 fullShare d3 ∗ owns (c : Thread nD τ) arg4 fullShare d4 ∗ owns (c : Thread nD τ) arg5 fullShare d5
    ∗ owns (c : Thread nD τ) arg6 fullShare d6 ∗ owns (c : Thread nD τ) arg7 fullShare d7 ∗ okP c arg8 (BufInv S n)
    ∗ anyP c arg9 ∗ anyP c arg10 ∗ anyP c arg11 ∗ ∃ W, owes (c : Thread nD τ) 0 W)

attribute [local irreducible] BufOK ScOK YOK XOK POK OutOK ScSrc TabW BufInv outBlk

theorem BufInv.pos {S : Src} {n : ℕ} {rd : S73764x2x128.Idx → EReal} (h : BufInv S n rd) (hn : 0 < n) : BufOK S (min (n / 8) 6) (if n / 8 < 6 then n % 8 * 512 else 0) rd := by
  unfold BufInv at h; exact h hn

/-- The first point. -/
theorem step0 (hi0 : (grid0.coords t 0).val = 0) (hi1 : (grid0.coords t 1).val = 0)
    (ft : Buf (Elt Ideal) (arg2.view.loc (c : Thread nD τ))) (hT : TabW c arg2 ft) (d3 : S256x1024.Idx → EReal) (d4 : S1024x1024.Idx → EReal) (d5 : S1024x128.Idx → EReal) (d6 : S6144x256.Idx → EReal)
    (d7 : S256x1024.Idx → EReal) (hX : 0 < (grid0.coords t 0).val → XOK (grid0.coords t) d3) (hY : (grid0.coords t 0).val < 6 → YOK (grid0.coords t) d4) (hS : ScSrc (grid0.coords t) d5) (hP : POK d6) :
    stepP c arg2 arg3 arg4 arg5 arg6 arg7 arg8 arg9 arg10 arg11 ft d3 d4 d5 d6 d7 t.val
      ⊢ wp frame (wpE (defs₀ (F := Ideal)) Variants.none c none) Set.univ
          (cc0_combine (grid0.coords t) arg2 harg2 arg3 harg3 arg4 harg4 arg5 harg5 arg6 harg6 arg7 harg7 arg8 harg8 arg9 harg9 arg10 harg10 arg11 harg11)
          (fun _ => stepP c arg2 arg3 arg4 arg5 arg6 arg7 arg8 arg9 arg10 arg11 ft d3 d4 d5 d6 d7 (t.val + 1)) := by
  have e0 := coords0 t
  have e1 := coords1 t
  have hN : t.val < 56 := t.isLt
  unfold stepP owns
  iintro ⟨HT, ⟨%f3, %h3, H3⟩, ⟨%f4, %h4, H4⟩, ⟨%f5, %h5, H5⟩, ⟨%f6, %h6, H6⟩, ⟨%f7, %h7, H7⟩, ⟨%f8, %h8, H8⟩, H9, H10, H11, ⟨%W, HO⟩⟩
  subst h3 h4 h5 h6 h7
  iapply (kernelRun0 c (grid0.coords t) arg2 harg2 arg3 harg3 arg4 harg4 arg5 harg5 arg6 harg6 arg7 harg7 arg8 harg8 arg9 harg9 arg10 harg10 arg11 harg11 hi0 hi1 ft hT f3 f4 f5 f6 f7 (hY (by omega)) hS W _)
  isplitl [HT]; · iexact HT
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [HO]; · iexact HO
  iintro ⟨HT, H3, H4, H5, H6, H7, ⟨%g8, %k8, H8⟩, H9, H10, H11, HO⟩
  isplitl [HT]; · iexact HT
  isplitl [H3]; · iapply (owns_of_pt c arg3 _ _ rfl); iexact H3
  isplitl [H4]; · iapply (owns_of_ok c arg4 _ _ fun rd h => YOK.unique (hY (by omega)) h); iexact H4
  isplitl [H5]; · iapply (owns_of_pt c arg5 _ _ rfl); iexact H5
  isplitl [H6]; · iapply (owns_of_pt c arg6 _ _ rfl); iexact H6
  isplitl [H7]; · iapply (owns_of_pt c arg7 _ _ rfl); iexact H7
  isplitl [H8]
  · iexists g8
    isplitr; swap
    · iexact H8
    ipureintro
    refine BufInv.succ (by omega) ?_
    rw [← e0, ← e1]; exact k8
  isplitl [H9]; · iexact H9
  isplitl [H10]; · iexact H10
  isplitl [H11]; · iexact H11
  iexact HO

/-- A later point of the first round. -/
theorem step1 (hi0 : (grid0.coords t 0).val = 0) (hi1 : (grid0.coords t 1).val ≠ 0)
    (ft : Buf (Elt Ideal) (arg2.view.loc (c : Thread nD τ))) (hT : TabW c arg2 ft) (d3 : S256x1024.Idx → EReal) (d4 : S1024x1024.Idx → EReal) (d5 : S1024x128.Idx → EReal) (d6 : S6144x256.Idx → EReal)
    (d7 : S256x1024.Idx → EReal) (hX : 0 < (grid0.coords t 0).val → XOK (grid0.coords t) d3) (hY : (grid0.coords t 0).val < 6 → YOK (grid0.coords t) d4) (hS : ScSrc (grid0.coords t) d5) (hP : POK d6) :
    stepP c arg2 arg3 arg4 arg5 arg6 arg7 arg8 arg9 arg10 arg11 ft d3 d4 d5 d6 d7 t.val
      ⊢ wp frame (wpE (defs₀ (F := Ideal)) Variants.none c none) Set.univ
          (cc0_combine (grid0.coords t) arg2 harg2 arg3 harg3 arg4 harg4 arg5 harg5 arg6 harg6 arg7 harg7 arg8 harg8 arg9 harg9 arg10 harg10 arg11 harg11)
          (fun _ => stepP c arg2 arg3 arg4 arg5 arg6 arg7 arg8 arg9 arg10 arg11 ft d3 d4 d5 d6 d7 (t.val + 1)) := by
  have e0 := coords0 t
  have e1 := coords1 t
  have hN : t.val < 56 := t.isLt
  unfold stepP owns
  iintro ⟨HT, ⟨%f3, %h3, H3⟩, ⟨%f4, %h4, H4⟩, ⟨%f5, %h5, H5⟩, ⟨%f6, %h6, H6⟩, ⟨%f7, %h7, H7⟩, ⟨%f8, %h8, H8⟩, H9, H10, H11, ⟨%W, HO⟩⟩
  subst h3 h4 h5 h6 h7
  have b8 := BufInv.pos h8 (by omega)
  rw [show min (t.val / 8) 6 = (grid0.coords t 0).val by omega, if_pos (by omega), show t.val % 8 * 512 = (grid0.coords t 1).val * 512 + 16 * 0 by omega] at b8
  iapply (kernelRun1 c (grid0.coords t) arg2 harg2 arg3 harg3 arg4 harg4 arg5 harg5 arg6 harg6 arg7 harg7 arg8 harg8 arg9 harg9 arg10 harg10 arg11 harg11 hi0 hi1 ft hT f3 f4 f5 f6 f7 (hY (by omega)) hS f8 b8 W _)
  isplitl [HT]; · iexact HT
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HO]; · iexact HO
  iintro ⟨HT, H3, H4, H5, H6, H7, ⟨%g8, %k8, H8⟩, H9, H10, H11, HO⟩
  isplitl [HT]; · iexact HT
  isplitl [H3]; · iapply (owns_of_pt c arg3 _ _ rfl); iexact H3
  isplitl [H4]; · iapply (owns_of_ok c arg4 _ _ fun rd h => YOK.unique (hY (by omega)) h); iexact H4
  isplitl [H5]; · iapply (owns_of_pt c arg5 _ _ rfl); iexact H5
  isplitl [H6]; · iapply (owns_of_pt c arg6 _ _ rfl); iexact H6
  isplitl [H7]; · iapply (owns_of_pt c arg7 _ _ rfl); iexact H7
  isplitl [H8]
  · iexists g8
    isplitr; swap
    · iexact H8
    ipureintro
    refine BufInv.succ (by omega) ?_
    rw [← e0, ← e1]; exact k8
  isplitl [H9]; · iexact H9
  isplitl [H10]; · iexact H10
  isplitl [H11]; · iexact H11
  iexact HO

/-- A point of a round between. -/
theorem step2 (hi0 : 0 < (grid0.coords t 0).val ∧ (grid0.coords t 0).val < 6)
    (ft : Buf (Elt Ideal) (arg2.view.loc (c : Thread nD τ))) (hT : TabW c arg2 ft) (d3 : S256x1024.Idx → EReal) (d4 : S1024x1024.Idx → EReal) (d5 : S1024x128.Idx → EReal) (d6 : S6144x256.Idx → EReal)
    (d7 : S256x1024.Idx → EReal) (hX : 0 < (grid0.coords t 0).val → XOK (grid0.coords t) d3) (hY : (grid0.coords t 0).val < 6 → YOK (grid0.coords t) d4) (hS : ScSrc (grid0.coords t) d5) (hP : POK d6) :
    stepP c arg2 arg3 arg4 arg5 arg6 arg7 arg8 arg9 arg10 arg11 ft d3 d4 d5 d6 d7 t.val
      ⊢ wp frame (wpE (defs₀ (F := Ideal)) Variants.none c none) Set.univ
          (cc0_combine (grid0.coords t) arg2 harg2 arg3 harg3 arg4 harg4 arg5 harg5 arg6 harg6 arg7 harg7 arg8 harg8 arg9 harg9 arg10 harg10 arg11 harg11)
          (fun _ => stepP c arg2 arg3 arg4 arg5 arg6 arg7 arg8 arg9 arg10 arg11 ft d3 d4 d5 d6 (outBlk S (grid0.coords t)) (t.val + 1)) := by
  have e0 := coords0 t
  have e1 := coords1 t
  have hN : t.val < 56 := t.isLt
  unfold stepP owns
  iintro ⟨HT, ⟨%f3, %h3, H3⟩, ⟨%f4, %h4, H4⟩, ⟨%f5, %h5, H5⟩, ⟨%f6, %h6, H6⟩, ⟨%f7, %h7, H7⟩, ⟨%f8, %h8, H8⟩, H9, H10, H11, ⟨%W, HO⟩⟩
  subst h3 h4 h5 h6 h7
  have b8 := BufInv.pos h8 (by omega)
  rw [show min (t.val / 8) 6 = (grid0.coords t 0).val by omega, if_pos (by omega), show t.val % 8 * 512 = (grid0.coords t 1).val * 512 + 128 * 0 by omega] at b8
  iapply (kernelRun2 c (grid0.coords t) arg2 harg2 arg3 harg3 arg4 harg4 arg5 harg5 arg6 harg6 arg7 harg7 arg8 harg8 arg9 harg9 arg10 harg10 arg11 harg11 hi0 ft hT f3 f4 f5 f6 f7 (hX (by omega)) (hY (by omega)) hS hP f8 b8 W _)
  isplitl [HT]; · iexact HT
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HO]; · iexact HO
  iintro ⟨HT, H3, H4, H5, H6, H7, ⟨%g8, %k8, H8⟩, H9, H10, H11, HO⟩
  isplitl [HT]; · iexact HT
  isplitl [H3]; · iapply (owns_of_ok c arg3 _ _ fun rd h => XOK.unique (hX (by omega)) h); iexact H3
  isplitl [H4]; · iapply (owns_of_ok c arg4 _ _ fun rd h => YOK.unique (hY (by omega)) h); iexact H4
  isplitl [H5]; · iapply (owns_of_pt c arg5 _ _ rfl); iexact H5
  isplitl [H6]; · iapply (owns_of_ok c arg6 _ _ fun rd h => POK.unique hP h); iexact H6
  isplitl [H7]; · iapply (owns_of_ok c arg7 _ _ fun rd h => OutOK.unique h); iexact H7
  isplitl [H8]
  · iexists g8
    isplitr; swap
    · iexact H8
    ipureintro
    refine BufInv.succ (by omega) ?_
    rw [← e0, ← e1]; exact k8
  isplitl [H9]; · iexact H9
  isplitl [H10]; · iexact H10
  isplitl [H11]; · iexact H11
  iexact HO

/-- A point of the last round. -/
theorem step3 (hi0 : (grid0.coords t 0).val = 6)
    (ft : Buf (Elt Ideal) (arg2.view.loc (c : Thread nD τ))) (hT : TabW c arg2 ft) (d3 : S256x1024.Idx → EReal) (d4 : S1024x1024.Idx → EReal) (d5 : S1024x128.Idx → EReal) (d6 : S6144x256.Idx → EReal)
    (d7 : S256x1024.Idx → EReal) (hX : 0 < (grid0.coords t 0).val → XOK (grid0.coords t) d3) (hY : (grid0.coords t 0).val < 6 → YOK (grid0.coords t) d4) (hS : ScSrc (grid0.coords t) d5) (hP : POK d6) :
    stepP c arg2 arg3 arg4 arg5 arg6 arg7 arg8 arg9 arg10 arg11 ft d3 d4 d5 d6 d7 t.val
      ⊢ wp frame (wpE (defs₀ (F := Ideal)) Variants.none c none) Set.univ
          (cc0_combine (grid0.coords t) arg2 harg2 arg3 harg3 arg4 harg4 arg5 harg5 arg6 harg6 arg7 harg7 arg8 harg8 arg9 harg9 arg10 harg10 arg11 harg11)
          (fun _ => stepP c arg2 arg3 arg4 arg5 arg6 arg7 arg8 arg9 arg10 arg11 ft d3 d4 d5 d6 (outBlk S (grid0.coords t)) (t.val + 1)) := by
  have e0 := coords0 t
  have e1 := coords1 t
  have hN : t.val < 56 := t.isLt
  unfold stepP owns
  iintro ⟨HT, ⟨%f3, %h3, H3⟩, ⟨%f4, %h4, H4⟩, ⟨%f5, %h5, H5⟩, ⟨%f6, %h6, H6⟩, ⟨%f7, %h7, H7⟩, ⟨%f8, %h8, H8⟩, H9, H10, H11, ⟨%W, HO⟩⟩
  subst h3 h4 h5 h6 h7
  have b8 := BufInv.pos h8 (by omega)
  rw [show min (t.val / 8) 6 = (grid0.coords t 0).val by omega, if_neg (by omega)] at b8
  iapply (kernelRun3 c (grid0.coords t) arg2 harg2 arg3 harg3 arg4 harg4 arg5 harg5 arg6 harg6 arg7 harg7 arg8 harg8 arg9 harg9 arg10 harg10 arg11 harg11 hi0 ft hT f3 f4 f5 f6 f7 (hX (by omega)) hP f8 b8 W _)
  isplitl [HT]; · iexact HT
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HO]; · iexact HO
  iintro ⟨HT, H3, H4, H5, H6, H7, ⟨%g8, %k8, H8⟩, H9, H10, H11, HO⟩
  isplitl [HT]; · iexact HT
  isplitl [H3]; · iapply (owns_of_ok c arg3 _ _ fun rd h => XOK.unique (hX (by omega)) h); iexact H3
  isplitl [H4]; · iapply (owns_of_pt c arg4 _ _ rfl); iexact H4
  isplitl [H5]; · iapply (owns_of_pt c arg5 _ _ rfl); iexact H5
  isplitl [H6]; · iapply (owns_of_ok c arg6 _ _ fun rd h => POK.unique hP h); iexact H6
  isplitl [H7]; · iapply (owns_of_ok c arg7 _ _ fun rd h => OutOK.unique h); iexact H7
  isplitl [H8]
  · iexists g8
    isplitr; swap
    · iexact H8
    ipureintro
    refine BufInv.last (by omega) ?_
    rw [← hi0]; exact k8
  isplitl [H9]; · iexact H9
  isplitl [H10]; · iexact H10
  isplitl [H11]; · iexact H11
  iexact HO

end Cert.Proof.KernelIdeal.Val

end
-- ==== Proof.Value.VLaunch.lean ====
/- The launch with its values: what the output array holds when the call ends. -/
module

public import proofs.«01_k».proof.Proof.Value.VStep
public import Idealize.ShloMosaic.Lib.Pipeline.FrameBody
public import Idealize.ShloMosaic.Lib.Pipeline.ValueKit.Geometry

@[expose] public section

set_option maxRecDepth 8192
set_option maxHeartbeats 4000000

noncomputable section

namespace Cert.Proof.KernelIdeal.Val

open Cert.KernelIdeal Cert.KernelIdeal.Gen Cert.Proof.KernelIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- What is carried between points: the pair buffer filled so far, the other scratch buffers and the register at anything, the table. -/
def PhiV (c : Dev nD) (n : ℕ) : sProp 𝕄 :=
  iprop(iprop((okP c (Memref.whole cc0_scratch0) (BufInv (src m) n) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)) ∗ (∃ r, prngReg c r))
    ∗ Pipeline.ΦT pre0 (tbl m) c)

def vdats (_ : Fin 1) (c : Dev nD) : Dat τ (Elt Ideal) Unit ℕ (UR sig nD τ) ℕ (cfg0 (adm m 0)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (src m) (grid0.coords t)
  Φ t := PhiV m c t.val
  q _ := fullShare
  owed _ := 0

theorem vA (c : Dev nD) (w : Fin 5) : (vdats m 0 c).A w = V m c (Pipeline.arrRef spec0 w) := by dsimp only [vdats]
theorem vafter0 (c : Dev nD) (t) : (vdats m 0 c).after 0 t = iblk m c 0 t := rfl
theorem vafter1 (c : Dev nD) (t) : (vdats m 0 c).after 1 t = iblk m c 1 t := rfl
theorem vafter2 (c : Dev nD) (t) : (vdats m 0 c).after 2 t = iblk m c 2 t := rfl
theorem vafter3 (c : Dev nD) (t) : (vdats m 0 c).after 3 t = iblk m c 3 t := rfl
theorem vafter4 (c : Dev nD) (t) : (vdats m 0 c).after 4 t = outBlk (src m) (grid0.coords t) := rfl

theorem vbefore0 (c : Dev nD) (t) (d) : (vdats m 0 c).before 0 t d = iblk m c 0 t :=
  ((vdats m 0 c).before_in_eq_fetched 0 rfl (fun _ => rfl) (fun _ _ _ => rfl) (fun t => by rw [vafter0]; unfold Dat.blockOf iblk; rw [vA]; try rfl) t d).trans
    (by unfold Dat.fetched Dat.blockOf iblk; rw [vA]; try rfl)
theorem vbefore1 (c : Dev nD) (t) (d) : (vdats m 0 c).before 1 t d = iblk m c 1 t :=
  ((vdats m 0 c).before_in_eq_fetched 1 rfl (fun _ => rfl) (fun _ _ _ => rfl) (fun t => by rw [vafter1]; unfold Dat.blockOf iblk; rw [vA]; try rfl) t d).trans
    (by unfold Dat.fetched Dat.blockOf iblk; rw [vA]; try rfl)
theorem vbefore2 (c : Dev nD) (t) (d) : (vdats m 0 c).before 2 t d = iblk m c 2 t :=
  ((vdats m 0 c).before_in_eq_fetched 2 rfl (fun _ => rfl) (fun _ _ _ => rfl) (fun t => by rw [vafter2]; unfold Dat.blockOf iblk; rw [vA]; try rfl) t d).trans
    (by unfold Dat.fetched Dat.blockOf iblk; rw [vA]; try rfl)
theorem vbefore3 (c : Dev nD) (t) (d) : (vdats m 0 c).before 3 t d = iblk m c 3 t :=
  ((vdats m 0 c).before_in_eq_fetched 3 rfl (fun _ => rfl) (fun _ _ _ => rfl) (fun t => by rw [vafter3]; unfold Dat.blockOf iblk; rw [vA]; try rfl) t d).trans
    (by unfold Dat.fetched Dat.blockOf iblk; rw [vA]; try rfl)

/-! ## The body at a point -/

def vPre (c : Dev nD) (t : Fin (cfg0 (F := Ideal) (adm m 0)).N) (d7 : S256x1024.Idx → EReal) (n : ℕ) : sProp 𝕄 :=
  iprop(PhiV m c n ∗ (vdats m 0 c).owesAt () t.castSucc
    ∗ owns (c : Thread nD τ) (spec0_0.stage ((cfg0 (F := Ideal) (adm m 0)).slots t 0)) fullShare (iblk m c 0 t)
    ∗ owns (c : Thread nD τ) (spec0_1.stage ((cfg0 (F := Ideal) (adm m 0)).slots t 1)) fullShare (iblk m c 1 t)
    ∗ owns (c : Thread nD τ) (spec0_2.stage ((cfg0 (F := Ideal) (adm m 0)).slots t 2)) fullShare (iblk m c 2 t)
    ∗ owns (c : Thread nD τ) (spec0_3.stage ((cfg0 (F := Ideal) (adm m 0)).slots t 3)) fullShare (iblk m c 3 t)
    ∗ owns (c : Thread nD τ) (spec0_4.stage ((cfg0 (F := Ideal) (adm m 0)).slots t 4)) fullShare d7)

/-- What the output window's buffer holds after the body. -/
def vOut (t : Fin grid0.N) (d7 : S256x1024.Idx → EReal) : S256x1024.Idx → EReal := if (grid0.coords t 0).val = 0 then d7 else outBlk (src m) (grid0.coords t)

theorem vOut_idle (t : Fin (cfg0 (F := Ideal) (adm m 0)).N) (h : (grid0.coords t 0).val = 0) (d7 : S256x1024.Idx → EReal) : vOut m t d7 = d7 := by
  unfold vOut; exact if_pos h
theorem vOut_busy (t : Fin (cfg0 (F := Ideal) (adm m 0)).N) (h : (grid0.coords t 0).val ≠ 0) (d7 : S256x1024.Idx → EReal) : vOut m t d7 = outBlk (src m) (grid0.coords t) := by
  unfold vOut; exact if_neg h

theorem step_all (hL : Lists9 m) (c : Dev nD) (t : Fin grid0.N) (s : (w : Fin 5) → Fin (spec0 w).nbuf) (d7 : S256x1024.Idx → EReal)
    (ft : Buf (Elt Ideal) ((Memref.whole (sig := sig) main_arg0).view.loc (c : Thread nD τ))) (hT : TabW (S := src m) c (Memref.whole main_arg0) ft) :
    stepP (S := src m) c (Memref.whole main_arg0) (spec0_0.stage (s 0)) (spec0_1.stage (s 1)) (spec0_2.stage (s 2)) (spec0_3.stage (s 3)) (spec0_4.stage (s 4))
        (Memref.whole cc0_scratch0) (Memref.whole cc0_scratch1) (Memref.whole cc0_scratch2) (Memref.whole cc0_scratch3) ft (iblk m c 0 t) (iblk m c 1 t) (iblk m c 2 t) (iblk m c 3 t) d7 t.val
      ⊢ wp frame (wpE (defs₀ (F := Ideal)) Variants.none c none) Set.univ (bodyAt m t s)
        (fun _ => stepP (S := src m) c (Memref.whole main_arg0) (spec0_0.stage (s 0)) (spec0_1.stage (s 1)) (spec0_2.stage (s 2)) (spec0_3.stage (s 3)) (spec0_4.stage (s 4))
        (Memref.whole cc0_scratch0) (Memref.whole cc0_scratch1) (Memref.whole cc0_scratch2) (Memref.whole cc0_scratch3) ft (iblk m c 0 t) (iblk m c 1 t) (iblk m c 2 t) (iblk m c 3 t) (vOut m t d7) (t.val + 1)) := by
  have h7 : (grid0.coords t 0).val < 7 := (grid0.coords t 0).isLt
  by_cases h0 : (grid0.coords t 0).val = 0
  · rw [show vOut m t d7 = d7 from if_pos h0]
    by_cases h1 : (grid0.coords t 1).val = 0
    · exact step0 (S := src m) c t _ _ _ _ _ _ _ _ _ _ _ _ _ _ _ _ _ _ _ _ h0 h1 ft hT _ _ _ _ d7 (iblk0 c t) (iblk1 c t) (iblk2 c t) (iblk3 c t)
    · exact step1 (S := src m) c t _ _ _ _ _ _ _ _ _ _ _ _ _ _ _ _ _ _ _ _ h0 h1 ft hT _ _ _ _ d7 (iblk0 c t) (iblk1 c t) (iblk2 c t) (iblk3 c t)
  · rw [show vOut m t d7 = outBlk (src m) (grid0.coords t) from vOut_busy m t h0 _]
    by_cases h6 : (grid0.coords t 0).val = 6
    · exact step3 (S := src m) c t _ _ _ _ _ _ _ _ _ _ _ _ _ _ _ _ _ _ _ _ h6 ft hT _ _ _ _ d7 (iblk0 c t) (iblk1 c t) (iblk2 c t) (iblk3 c t)
    · exact step2 (S := src m) c t _ _ _ _ _ _ _ _ _ _ _ _ _ _ _ _ _ _ _ _ (by omega) ft hT _ _ _ _ d7 (iblk0 c t) (iblk1 c t) (iblk2 c t) (iblk3 c t)

attribute [local irreducible] BufInv outBlk vOut TabW iblk

theorem any_of_owns (c : Dev nD) {sp : Space} {S : Shape} {e : EltTy} (M : Memref sig .tc sp S e) :
    (iprop(∃ d, owns (c : Thread nD τ) M fullShare d) : sProp 𝕄) ⊢ anyP c M := by
  unfold owns
  iintro ⟨%d, %f, -, H⟩
  iexists f; iexact H

theorem owns_of_any (c : Dev nD) {sp : Space} {S : Shape} {e : EltTy} (M : Memref sig .tc sp S e) :
    (anyP c M : sProp 𝕄) ⊢ iprop(∃ d, owns (c : Thread nD τ) M fullShare d) := by
  unfold owns
  iintro ⟨%f, H⟩
  iexists _, f; isplitr; swap
  · iexact H
  ipureintro; rfl

theorem wand_of {c : Dev nD} {p : Prog (TpuEff nD τ sig (Elt Ideal) Λ₀ .tc) PUnit} {P : sProp 𝕄} {Q K : PUnit → sProp 𝕄}
    (h : P ⊢ wp frame (wpE (defs₀ (F := Ideal)) Variants.none c none) Set.univ p Q) :
    iprop(P ∗ (∀ a, Q a -∗ K a)) ⊢ wp frame (wpE (defs₀ (F := Ideal)) Variants.none c none) Set.univ p K :=
  (BI.sep_mono_l h).trans (wp_wand_r _ _ _)

theorem PhiT0_eq' (c : Dev nD) : (Pipeline.ΦT pre0 (tbl m) c : sProp 𝕄)
    = iprop(∃ ft, ⌜(Memref.whole main_arg0).view.read (Elt Ideal) ft = m (((0 : Dev nD) : Thread nD τ).loc main_arg0)⌝ ∗ tabP c (Memref.whole main_arg0) ft) := by
  rw [PhiT0_eq]; rfl

theorem vsound (hL : Lists9 m) (c : Dev nD) (t : Fin (cfg0 (F := Ideal) (adm m 0)).N) (d7 : S256x1024.Idx → EReal) :
    vPre m c t d7 t.val ⊢ wp frame (wpE (defs₀ (F := Ideal)) Variants.none c none) Set.univ (bodyAt m t ((cfg0 (F := Ideal) (adm m 0)).slots t)) (fun _ => vPre m c t (vOut m t d7) (t.val + 1)) := by
  unfold vPre PhiV
  rw [PhiT0_eq']
  unfold Dat.owesAt Pipeline.owesWithin
  rw [show (vdats m 0 c).owed t.castSucc = 0 from rfl]
  iintro ⟨⟨⟨⟨H8, H9, H10, H11⟩, Hg⟩, ⟨%ft, %ht, HT⟩⟩, ⟨%W, %hW, HO⟩, H3, H4, H5, H6, H7⟩
  iapply (wand_of (step_all m hL c t ((cfg0 (F := Ideal) (adm m 0)).slots t) d7 ft (tabW_of hL c ft ht)))
  isplitl [HT H3 H4 H5 H6 H7 H8 H9 H10 H11 HO]
  · isplitl [HT]; · iexact HT
    isplitl [H3]; · iexact H3
    isplitl [H4]; · iexact H4
    isplitl [H5]; · iexact H5
    isplitl [H6]; · iexact H6
    isplitl [H7]; · iexact H7
    isplitl [H8]; · iexact H8
    isplitl [H9]; · iapply (any_of_owns c _); iexact H9
    isplitl [H10]; · iapply (any_of_owns c _); iexact H10
    isplitl [H11]; · iapply (any_of_owns c _); iexact H11
    iexists W; iexact HO
  iintro %a ⟨HT, H3, H4, H5, H6, H7, H8, H9, H10, H11, ⟨%W', HO⟩⟩
  isplitl [HT H8 H9 H10 H11 Hg]
  · isplitl [H8 H9 H10 H11 Hg]
    · isplitl [H8 H9 H10 H11]
      · isplitl [H8]; · iexact H8
        isplitl [H9]; · iapply (owns_of_any c _); iexact H9
        isplitl [H10]; · iapply (owns_of_any c _); iexact H10
        iapply (owns_of_any c _); iexact H11
      iexact Hg
    iexists ft; isplitr; swap
    · iexact HT
    ipureintro; exact ht
  isplitl [HO]
  · iexists W'; isplitr; swap
    · iexact HO
    ipureintro; exact fun _ _ => Or.inl trivial
  isplitl [H3]; · iexact H3
  isplitl [H4]; · iexact H4
  isplitl [H5]; · iexact H5
  isplitl [H6]; · iexact H6
  iexact H7

theorem idle4 (t : Fin (cfg0 (F := Ideal) (adm m 0)).N) (h : (grid0.coords t 0).val = 0) : (cfg0 (F := Ideal) (adm m 0)).idle 4 ((cfg0 (F := Ideal) (adm m 0)).grid.coords t) = true :=
  (by decide +kernel : ∀ t : Fin grid0.N, (grid0.coords t 0).val = 0 → idle0 4 (grid0.coords t) = true) t h
theorem busy4 (t : Fin (cfg0 (F := Ideal) (adm m 0)).N) (h : (grid0.coords t 0).val ≠ 0) : (cfg0 (F := Ideal) (adm m 0)).idle 4 ((cfg0 (F := Ideal) (adm m 0)).grid.coords t) = false :=
  (by decide +kernel : ∀ t : Fin grid0.N, (grid0.coords t 0).val ≠ 0 → idle0 4 (grid0.coords t) = false) t h
theorem flush4 (t : Fin (cfg0 (F := Ideal) (adm m 0)).N) : ((cfg0 (F := Ideal) (adm m 0)).win 4).flush t = decide ((grid0.coords t 0).val ≠ 0) :=
  (Pipeline.Window.flush_eq_flushOf _ _).trans
    ((by decide +kernel : ∀ t : Fin grid0.N, Pipeline.Window.flushOf grid0 true cc0_transform_4 t = decide ((grid0.coords t 0).val ≠ 0)) t)

/-- What the output's slot holds after a point: as before it when the point writes nothing, and the point's block otherwise. -/
def post4 (b f : Bool) (A B : sProp 𝕄) : sProp 𝕄 :=
  match b with
  | true => match f with
    | false => A
    | true => B
  | false => B
theorem post4_idle {b f : Bool} {A B Q : sProp 𝕄} (hb : b = true) (hf : f = false) (h : Q ⊢ A) : Q ⊢ post4 b f A B := by subst hb hf; exact h
theorem post4_busy {b f : Bool} {A B Q : sProp 𝕄} (hb : b = false) (h : Q ⊢ B) : Q ⊢ post4 b f A B := by subst hb; exact h

theorem post4_of (c : Dev nD) (t : Fin (cfg0 (F := Ideal) (adm m 0)).N) (d4 : _) :
    owns (c : Thread nD τ) (spec0_4.stage ((cfg0 (F := Ideal) (adm m 0)).slots t 4)) fullShare (vOut m t ((vdats m 0 c).before 4 t d4))
      ⊢ post4 ((cfg0 (F := Ideal) (adm m 0)).idle 4 ((cfg0 (F := Ideal) (adm m 0)).grid.coords t)) (((cfg0 (F := Ideal) (adm m 0)).win 4).flush t)
        iprop(∃ d, owns (c : Thread nD τ) (spec0_4.stage ((cfg0 (F := Ideal) (adm m 0)).slots t 4)) fullShare ((vdats m 0 c).before 4 t d))
        (owns (c : Thread nD τ) (spec0_4.stage ((cfg0 (F := Ideal) (adm m 0)).slots t 4)) fullShare (outBlk (src m) (grid0.coords t))) := by
  by_cases h0 : (grid0.coords t 0).val = 0
  · refine post4_idle (idle4 m t h0) ((flush4 m t).trans (by simp [h0])) ?_
    rw [show vOut m t ((vdats m 0 c).before 4 t d4) = (vdats m 0 c).before 4 t d4 from vOut_idle m t h0 _]
    iintro H
    iexists d4
    iexact H
  · refine post4_busy (busy4 m t h0) ?_
    rw [show vOut m t ((vdats m 0 c).before 4 t d4) = outBlk (src m) (grid0.coords t) from vOut_busy m t h0 _]

theorem vbody (hL : Lists9 m) (c : Dev nD) : BodyObligation (vdats m 0 c) (defs₀ (F := Ideal)) Variants.none () Set.univ := fun t => by
  rw [bigSep_W0, bigSep_W0, defs₀_row]
  show iprop(PhiV m c t.val ∗ (vdats m 0 c).owesAt () t.castSucc
    ∗ (∃ d, owns (c : Thread nD τ) (spec0_0.stage ((cfg0 (F := Ideal) (adm m 0)).slots t 0)) fullShare ((vdats m 0 c).before 0 t d))
    ∗ (∃ d, owns (c : Thread nD τ) (spec0_1.stage ((cfg0 (F := Ideal) (adm m 0)).slots t 1)) fullShare ((vdats m 0 c).before 1 t d))
    ∗ (∃ d, owns (c : Thread nD τ) (spec0_2.stage ((cfg0 (F := Ideal) (adm m 0)).slots t 2)) fullShare ((vdats m 0 c).before 2 t d))
    ∗ (∃ d, owns (c : Thread nD τ) (spec0_3.stage ((cfg0 (F := Ideal) (adm m 0)).slots t 3)) fullShare ((vdats m 0 c).before 3 t d))
    ∗ (∃ d, owns (c : Thread nD τ) (spec0_4.stage ((cfg0 (F := Ideal) (adm m 0)).slots t 4)) fullShare ((vdats m 0 c).before 4 t d)))
    ⊢ wp frame (wpE (defs₀ (F := Ideal)) Variants.none c none) Set.univ (bodyAt m t ((cfg0 (F := Ideal) (adm m 0)).slots t)) (fun _ => iprop(PhiV m c (t.val + 1) ∗ (vdats m 0 c).owesAt () t.castSucc
    ∗ owns (c : Thread nD τ) (spec0_0.stage ((cfg0 (F := Ideal) (adm m 0)).slots t 0)) fullShare (iblk m c 0 t)
    ∗ owns (c : Thread nD τ) (spec0_1.stage ((cfg0 (F := Ideal) (adm m 0)).slots t 1)) fullShare (iblk m c 1 t)
    ∗ owns (c : Thread nD τ) (spec0_2.stage ((cfg0 (F := Ideal) (adm m 0)).slots t 2)) fullShare (iblk m c 2 t)
    ∗ owns (c : Thread nD τ) (spec0_3.stage ((cfg0 (F := Ideal) (adm m 0)).slots t 3)) fullShare (iblk m c 3 t)
    ∗ post4 ((cfg0 (F := Ideal) (adm m 0)).idle 4 ((cfg0 (F := Ideal) (adm m 0)).grid.coords t)) (((cfg0 (F := Ideal) (adm m 0)).win 4).flush t)
        iprop(∃ d, owns (c : Thread nD τ) (spec0_4.stage ((cfg0 (F := Ideal) (adm m 0)).slots t 4)) fullShare ((vdats m 0 c).before 4 t d))
        (owns (c : Thread nD τ) (spec0_4.stage ((cfg0 (F := Ideal) (adm m 0)).slots t 4)) fullShare (outBlk (src m) (grid0.coords t)))))
  simp only [vbefore0, vbefore1, vbefore2, vbefore3]
  iintro ⟨HΦ, Ho, ⟨%d0, H0⟩, ⟨%d1, H1⟩, ⟨%d2, H2⟩, ⟨%d3, H3⟩, ⟨%d4, H4⟩⟩
  iapply (wand_of (vsound m hL c t ((vdats m 0 c).before 4 t d4)))
  isplitl [HΦ Ho H0 H1 H2 H3 H4]
  · unfold vPre
    isplitl [HΦ]; · iexact HΦ
    isplitl [Ho]; · iexact Ho
    isplitl [H0]; · iexact H0
    isplitl [H1]; · iexact H1
    isplitl [H2]; · iexact H2
    isplitl [H3]; · iexact H3
    iexact H4
  unfold vPre
  iintro %a ⟨HΦ, Ho, H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply (post4_of m c t d4)
  iexact H4

set_option backward.isDefEq.respectTransparency.types false in
/-- Every run of @main ends with each array at what the pipeline writes back. -/
theorem vrun (hL : Lists9 m) :
    θ_run defs (onTc (τ := τ) (main (F := Ideal))) (s₀ m ρ)
      (Pipeline.FramePost (Pipeline.pin pcfgs (adm m)) (vdats m) 0 (V m)) :=
  Pipeline.θ_run_frameP_track (Q' := _) pcfgs (adm m) (vdats m) (0 : Fin 1) launch0 defs₀ Variants.none m ρ main
    (hbody := fun c => (vbody m hL c).loose) (hshare := fun c => (vdats m 0 c).share_full fun _ => rfl)
    (howed := fun _ _ => rfl) (V := V m) (hmain := hmain m) (hA := fun _ _ => rfl)
    (hpf := fun c k => by rw [Subsingleton.elim c 0])
    (hin := fun c => by
      show iprop(Pipeline.ΦA spec0 c ∗ Pipeline.ΦT pre0 (tbl m) c) ⊢ PhiV m c 0
      rw [PhiA0_eq]; unfold PhiV
      iintro ⟨⟨⟨⟨%d, H8⟩, Hr⟩, Hg⟩, HT⟩
      isplitl [H8 Hr Hg]
      · isplitl [H8 Hr]
        · isplitl [H8]
          · unfold owns
            icases H8 with ⟨%f, %hf, H8⟩
            iexists f; isplitr; swap
            · iexact H8
            ipureintro; unfold BufInv; intro h; exact absurd h (by decide)
          iexact Hr
        iexact Hg
      iexact HT)
    (hout := fun c => by
      show PhiV m c _ ⊢ Pipeline.ΦA spec0 c
      rw [PhiA0_eq]; unfold PhiV
      iintro ⟨⟨⟨⟨%f, %hf, H8⟩, Hr⟩, Hg⟩, HT⟩
      isplitl [H8 Hr]
      · isplitl [H8]
        · unfold owns
          iexists _, f; isplitr; swap
          · iexact H8
          ipureintro; rfl
        iexact Hr
      iexact Hg)

end Cert.Proof.KernelIdeal.Val

end
-- ==== Proof.Value.VFinal.lean ====
/- What the idealized kernel's runs leave in its result: each token plus its three parts' weighted sums. -/
module

public import proofs.«01_k».proof.Proof.Value.VLaunch

@[expose] public section

set_option maxRecDepth 8192
set_option maxHeartbeats 400000

noncomputable section

namespace Cert.Proof.KernelIdeal.Val

open Cert.KernelIdeal Cert.KernelIdeal.Gen Cert.Proof.KernelIdeal
open Idealize.ShloMosaic Idealize.ShloMosaic.TcCoe Idealize.ShloMosaic.Tactic Idealize.ShloMosaic.ValueIdx
open Idealize.SL.Sem
open Idealize.ShloMosaic.Pipeline (Dat)

variable (m : (ℓ : Loc nD τ sig) → Buf (Elt Ideal) ℓ) (ρ : Dev nD → PrngReg)

/-- The result array, by row and column. -/
def outArr : S2048x6144.Idx → EReal := fun i => outVal (src m) (i 0).val (i 1).val

theorem blk_val (t : Fin grid0.N) (y : S256x1024.Idx) (z : S2048x6144.Idx)
    (hz0 : (z 0).val = (grid0.coords t 1).val * 256 + (y 0).val) (hz1 : (z 1).val = ((grid0.coords t 0).val - 1) * 1024 + (y 1).val) :
    outBlk (src m) (grid0.coords t) y = outArr m z := by
  unfold outBlk outArr; rw [hz0, hz1]

theorem emb4_0 (t : Fin (cfg0 (F := Ideal) (adm m 0)).N) (h0 : (grid0.coords t 0).val ≠ 0) (y : (((cfg0 (F := Ideal) (adm m 0)).win 4).xblock ((cfg0 (F := Ideal) (adm m 0)).grid.coords t)).Idx) :
    ((((cfg0 (F := Ideal) (adm m 0)).win 4).blk t).view.emb y (0 : Fin 2)).val = (grid0.coords t 1).val * 256 + (y (0 : Fin 2)).val := by
  show cc0_transform_4 (grid0.coords t) 0 * 256 + 1 * (y (0 : Fin 2)).val = _
  rw [tr4]
  show (if (grid0.coords t 0).val = 0 then 0 else (grid0.coords t 1).val) * 256 + 1 * (y (0 : Fin 2)).val = _
  rw [if_neg h0, Nat.one_mul]

theorem emb4_1 (t : Fin (cfg0 (F := Ideal) (adm m 0)).N) (y : (((cfg0 (F := Ideal) (adm m 0)).win 4).xblock ((cfg0 (F := Ideal) (adm m 0)).grid.coords t)).Idx) :
    ((((cfg0 (F := Ideal) (adm m 0)).win 4).blk t).view.emb y (1 : Fin 2)).val = ((grid0.coords t 0).val - 1) * 1024 + (y (1 : Fin 2)).val := by
  show cc0_transform_4 (grid0.coords t) 1 * 1024 + 1 * (y (1 : Fin 2)).val = _
  rw [tr4, Nat.one_mul]; rfl

theorem cover4 (i : S2048x6144.Idx) : ∃ t : Fin (cfg0 (F := Ideal) (adm m 0)).N, ((cfg0 (F := Ideal) (adm m 0)).win 4).flush t = true ∧ i ∈ (((cfg0 (F := Ideal) (adm m 0)).win 4).blk t).view.set := by
  have hr : (i (0 : Fin 2)).val < 2048 := (i (0 : Fin 2)).isLt
  have hq : (i (1 : Fin 2)).val < 6144 := (i (1 : Fin 2)).isLt
  let t : Fin grid0.N := ⟨((i (1 : Fin 2)).val / 1024 + 1) * 8 + (i (0 : Fin 2)).val / 256, by show _ < 56; omega⟩
  have c0 : (grid0.coords t 0).val = (i (1 : Fin 2)).val / 1024 + 1 := (coords0 t).trans (by show (((i (1 : Fin 2)).val / 1024 + 1) * 8 + (i (0 : Fin 2)).val / 256) / 8 = _; omega)
  have c1 : (grid0.coords t 1).val = (i (0 : Fin 2)).val / 256 := (coords1 t).trans (by show (((i (1 : Fin 2)).val / 1024 + 1) * 8 + (i (0 : Fin 2)).val / 256) % 8 = _; omega)
  refine ⟨t, (flush4 m t).trans (by rw [c0]; simp), ?_⟩
  refine (((cfg0 (F := Ideal) (adm m 0)).win 4).emb_mem_blk_iff t i rfl).mpr fun a => ?_
  fin_cases a
  · show cc0_transform_4 (grid0.coords t) 0 * 256 ≤ (i (0 : Fin 2)).val ∧ (i (0 : Fin 2)).val < cc0_transform_4 (grid0.coords t) 0 * 256 + 256
    rw [tr4]
    show (if (grid0.coords t 0).val = 0 then 0 else (grid0.coords t 1).val) * 256 ≤ _ ∧ _ < (if (grid0.coords t 0).val = 0 then 0 else (grid0.coords t 1).val) * 256 + 256
    rw [if_neg (by omega), c1]; omega
  · show cc0_transform_4 (grid0.coords t) 1 * 1024 ≤ (i (1 : Fin 2)).val ∧ (i (1 : Fin 2)).val < cc0_transform_4 (grid0.coords t) 1 * 1024 + 1024
    rw [tr4]
    show ((grid0.coords t 0).val - 1) * 1024 ≤ _ ∧ _ < ((grid0.coords t 0).val - 1) * 1024 + 1024
    rw [c0]; omega

theorem final4 (c : Dev nD) : (vdats m 0 c).arrAt 4 (cfg0 (F := Ideal) (adm m 0)).N = outArr m :=
  (vdats m 0 c).arrAt_eq_of_emb 4 (outArr m) (fun t hf y => by
    have h0 : (grid0.coords t 0).val ≠ 0 := by
      have := (flush4 m t).symm.trans hf
      simpa using this
    refine (cast_eq _ _).trans ?_
    rw [vafter4]
    exact blk_val m t _ _ (emb4_0 m t h0 y) (emb4_1 m t y)) (cover4 m)

theorem in_eq (c : Dev nD) (w : Fin 5) (hw : ((cfg0 (F := Ideal) (adm m 0)).win w).isOut = false) : (vdats m 0 c).arrAt w (cfg0 (F := Ideal) (adm m 0)).N = (vdats m 0 c).A w :=
  (vdats m 0 c).arrAt_in w hw _

/-- Every run ends with the result at that array and the arguments unchanged. -/
theorem run_value (hL : Lists9 m) :
    θ_run defs (onTc (τ := τ) (main (F := Ideal))) ⟨m, fun _ => 0, ρ⟩ fun r => ∀ c : Dev nD,
      r.2.mem ((c.tc : Thread nD τ).loc main_v0) = outArr m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 4).trans (final4 m c),
    ((h c).2 main_arg0 (Pipeline.mem_restRefs_of main_arg0 (by decide) (by decide : ∀ w : Fin 5, (spec0 w).arr.view.ref ≠ main_arg0))),
    ((h c).1 0).trans (in_eq m c 0 rfl), ((h c).1 1).trans (in_eq m c 1 rfl), ((h c).1 2).trans (in_eq m c 2 rfl), ((h c).1 3).trans (in_eq m c 3 rfl)⟩) (vrun m ρ hL)

end Cert.Proof.KernelIdeal.Val

end
-- ==== Proof.Value.VRef.lean ====
/- The plain reference's result, read at an index. -/
module

public import proofs.«01_k».proof.Proof.Value.VBlocks
public import proofs.«01_k».proof.Proof.Gen.ReferenceIdeal.Read
public import Idealize.ShloMosaic.Lib.Routing.Words

@[expose] public section

set_option maxRecDepth 8192
set_option maxHeartbeats 4000000

noncomputable section

namespace Cert.Proof.Ref

open Cert.ReferenceIdeal Cert.ReferenceIdeal.Gen Cert.ReferenceIdeal.Read
open Idealize.ShloMosaic Idealize.ShloMosaic.TcCoe Idealize.ShloMosaic.ValueIdx Idealize.SL.Sem
open Cert.Proof.KernelIdeal.Val (el el_eq pairOf srcOf)
open Cert.Proof.KernelIdeal (outVal outPart E Src)

/-- The gather at an index: the row its index word names, clamped to the last row. -/
theorem gather_apply {α : Type} (x : S8196x6144.Idx → α) (idx : IVec S64x192x1 32) (y : S64x192x6144.Idx) :
    Host.gather gather_S8196x6144_S64x192x1_S64x192x6144_2_0_n_n_0_2_16144 x idx y
      = x (ix2 ⟨min (idx (ix3 (y 0) (y 1) 0)).toInt.toNat 8195, by omega⟩ (y 2)) := by
  unfold Host.gather
  congr 1
  funext a
  refine Fin.ext ?_
  show gather_S8196x6144_S64x192x1_S64x192x6144_2_0_n_n_0_2_16144.start y idx a + gather_S8196x6144_S64x192x1_S64x192x6144_2_0_n_n_0_2_16144.batchCoord y a
      + gather_S8196x6144_S64x192x1_S64x192x6144_2_0_n_n_0_2_16144.offCoord y a = _
  rw [GatherDims.batchCoord_eq_zero _ _ _ (fun h => by exact absurd h List.not_mem_nil), Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8196x6144_S64x192x1_S64x192x6144_2_0_n_n_0_2_16144.startIndexMap from List.mem_singleton.mpr rfl)]
    have hsi : gather_S8196x6144_S64x192x1_S64x192x6144_2_0_n_n_0_2_16144.siIdx y ⟨List.idxOf (0 : Fin 2) gather_S8196x6144_S64x192x1_S64x192x6144_2_0_n_n_0_2_16144.startIndexMap,
        List.idxOf_lt_length_iff.2 (List.mem_singleton.mpr rfl)⟩ = ix3 (y 0) (y 1) 0 := by
      funext b; refine Fin.ext ?_
      match b with
      | ⟨0, _⟩ => rfl
      | ⟨1, _⟩ => rfl
      | ⟨2, _⟩ => rfl
    rw [hsi]
    rfl
  · unfold GatherDims.start GatherDims.offCoord
    rw [dif_neg (by decide), dif_pos (by decide)]
    simp only [Nat.zero_add]
    rfl

variable (x0 : S64x128.Idx → BitVec 32) (x1 : S2048x6144.Idx → EReal) (x2 : S8192x6144.Idx → EReal) (x3 : S8192x128.Idx → EReal) (x4 : S6144x256.Idx → EReal)

/-- The dequantised rows followed by four zero rows, at an index. -/
theorem v9_apply (r q : ℕ) (hr : r < 8196) (hq : q < 6144) :
    (val_main_v9 (F := Ideal) x3 x2 (ix2 ⟨r, hr⟩ ⟨q, hq⟩) : EReal) = if r < 8192 then el x2 r q * el x3 r (q / 128) else 0 := by
  unfold val_main_v9
  by_cases h : r < 8192
  · rw [if_pos h, el_eq x2 r q h hq, el_eq x3 r (q / 128) h (by omega)]
    rw [concatenate_pair_apply_left (t := S8196x6144) (s₁ := S8192x6144) (s₂ := S4x6144) 0 _ _ _ _ rfl (ix2 ⟨r, h⟩ ⟨q, hq⟩) (fun b => by fin_cases b <;> rfl)]
    rw [val_main_v7_apply, val_main_v6_apply, val_main_v1_apply, val_main_v5_apply, val_main_v4_apply, val_main_v3_apply, val_main_v2_apply]
    show x2 _ * x3 _ = x2 _ * x3 _
    congr 1
    · congr 1; funext a; fin_cases a <;> apply Fin.ext
      · show (((r * 6144 + q) / 6144 * 48 + (r * 6144 + q) / 128 % 48) * 128 + (r * 6144 + q) % 128) / 6144 = r; omega
      · show (((r * 6144 + q) / 6144 * 48 + (r * 6144 + q) / 128 % 48) * 128 + (r * 6144 + q) % 128) % 6144 = q; omega
    · congr 1; funext a; fin_cases a <;> apply Fin.ext
      · show (r * 6144 + q) / 6144 = r; omega
      · show (r * 6144 + q) / 128 % 48 = q / 128; omega
  · rw [if_neg h]
    rw [concatenate_pair_apply_right (t := S8196x6144) (s₁ := S8192x6144) (s₂ := S4x6144) 0 _ _ _ _ rfl rfl (ix2 ⟨r - 8192, by omega⟩ ⟨q, hq⟩) (fun b hb => by
      match b with
      | ⟨0, _⟩ => exact absurd rfl hb
      | ⟨1, _⟩ => rfl) (by show r - 8192 + 8192 = r; omega)]
    rw [val_main_v8_apply, val_main_cst_apply]
    exact Ideal.ofBits_zero_f32

/-- The row that column `k` of list `T` reads. -/
theorem row_apply (hL : ∀ x : S64x128.Idx, (x 1).val < 48 → ∃ w, w ≤ 4096 ∧ (x0 x).toNat = 9 * w) (T k : ℕ) (hT : T < 64) (hk : k < 192) :
    min (val_main_call0_v0 (F := Ideal) x0 (ix3 ⟨T, hT⟩ ⟨k, hk⟩ 0)).toInt.toNat 8195 = 2 * pairOf x0 T (k / 4) + k % 4 ∧ pairOf x0 T (k / 4) ≤ 4096 := by
  obtain ⟨w, hw, e⟩ := hL (ix2 ⟨T, hT⟩ ⟨k / 4, by omega⟩) (by show k / 4 < 48; omega)
  have hp : pairOf x0 T (k / 4) = w := by
    unfold pairOf; rw [dif_pos ⟨hT, by omega⟩]; omega
  rw [hp]
  refine ⟨?_, hw⟩
  rw [val_main_call0_v0_apply, val_main_v21_apply, val_main_v20_apply, val_main_v18_apply, val_main_v15_apply, val_main_v14_apply, val_main_v13_apply, val_main_c_0_apply,
    val_main_v12_apply, val_main_v10_apply, val_main_v11_apply, val_main_c_apply, val_main_v19_apply, val_main_v17_apply, val_main_v16_apply]
  have ei : (idx_main_v10 (idx_main_v15 (idx_main_v18 (idx_main_v21 (idx_main_call0_v0 (ix3 ⟨T, hT⟩ ⟨k, hk⟩ 0)))))) = ix2 ⟨T, hT⟩ ⟨k / 4, by omega⟩ := by
    funext a; fin_cases a <;> apply Fin.ext
    · show (T * 192 + k) / 192 = T; omega
    · show (T * 192 + k) / 4 % 48 = k / 4; omega
  rw [ei]
  have ew : x0 (ix2 ⟨T, hT⟩ ⟨k / 4, by omega⟩) = BitVec.ofNat 32 (9 * w) := by
    apply BitVec.eq_of_toNat_eq; rw [e, BitVec.toNat_ofNat]; omega
  rw [ew]
  have ed : IntOp.divsi .host (BitVec.ofNat 32 (9 * w)) 9#32 = BitVec.ofNat 32 w := by
    have := Routing.divsi_word .host (a := 9 * w) (b := 9) (by omega) (by omega) (by omega)
    rw [this]; congr 1; omega
  rw [ed]
  have ek : ((idx_main_v17 (idx_main_v19 (idx_main_v21 (idx_main_call0_v0 (ix3 ⟨T, hT⟩ ⟨k, hk⟩ 0))))) 0).val = k % 4 := by
    show (T * 192 + k) % 4 = k % 4; omega
  rw [ek]
  have es : IntOp.addi (IntOp.muli 2#32 (BitVec.ofNat 32 w)) (BitVec.ofNat 32 (k % 4)) = BitVec.ofNat 32 (2 * w + k % 4) := by
    apply BitVec.eq_of_toNat_eq
    show (2#32 * BitVec.ofNat 32 w + BitVec.ofNat 32 (k % 4)).toNat = _
    simp only [BitVec.toNat_add, BitVec.toNat_mul, BitVec.toNat_ofNat]
    omega
  rw [es, BitVec.toInt_eq_toNat_of_lt (by rw [BitVec.toNat_ofNat]; omega), BitVec.toNat_ofNat]
  omega

/-- The rows gathered for a list, at an index. -/
theorem v22_apply (hL : ∀ x : S64x128.Idx, (x 1).val < 48 → ∃ w, w ≤ 4096 ∧ (x0 x).toNat = 9 * w) (T k q : ℕ) (hT : T < 64) (hk : k < 192) (hq : q < 6144) :
    (val_main_v22 (F := Ideal) x0 x3 x2 (ix3 ⟨T, hT⟩ ⟨k, hk⟩ ⟨q, hq⟩) : EReal)
      = E (srcOf x0 x1 x2 x3 x4) (q / 1024) (pairOf x0 T (k / 4) + k / 2 % 2) (q % 1024 / 128) (k % 2) (q % 128) := by
  obtain ⟨e, hw⟩ := row_apply x0 hL T k hT hk
  unfold val_main_v22
  rw [gather_apply]
  have hr : 2 * pairOf x0 T (k / 4) + k % 4 < 8196 := by omega
  have ei : (ix2 ⟨min (val_main_call0_v0 (F := Ideal) x0 (ix3 ⟨T, hT⟩ ⟨k, hk⟩ 0)).toInt.toNat 8195, by omega⟩ ⟨q, hq⟩ : S8196x6144.Idx)
      = ix2 ⟨2 * pairOf x0 T (k / 4) + k % 4, hr⟩ ⟨q, hq⟩ := by
    funext a; fin_cases a
    · exact Fin.ext e
    · rfl
  refine (congrArg (val_main_v9 (F := Ideal) x3 x2) ei).trans ((v9_apply x2 x3 _ q hr hq).trans ?_)
  unfold E
  show (if 2 * pairOf x0 T (k / 4) + k % 4 < 8192 then el x2 (2 * pairOf x0 T (k / 4) + k % 4) q * el x3 (2 * pairOf x0 T (k / 4) + k % 4) (q / 128) else 0)
    = if pairOf x0 T (k / 4) + k / 2 % 2 < 4096 then el x2 (2 * (pairOf x0 T (k / 4) + k / 2 % 2) + k % 2) (q / 1024 * 1024 + q % 1024 / 128 * 128 + q % 128)
      * el x3 (2 * (pairOf x0 T (k / 4) + k / 2 % 2) + k % 2) (q / 1024 * 8 + q % 1024 / 128) else 0
  rw [show 2 * (pairOf x0 T (k / 4) + k / 2 % 2) + k % 2 = 2 * pairOf x0 T (k / 4) + k % 4 by omega,
    show q / 1024 * 1024 + q % 1024 / 128 * 128 + q % 128 = q by omega, show q / 1024 * 8 + q % 1024 / 128 = q / 128 by omega]
  by_cases h : 2 * pairOf x0 T (k / 4) + k % 4 < 8192
  · rw [if_pos h, if_pos (by omega)]
  · rw [if_neg h, if_neg (by omega)]

/-- One part of a token's weighted sum. -/
theorem v26_apply (hL : ∀ x : S64x128.Idx, (x 1).val < 48 → ∃ w, w ≤ 4096 ∧ (x0 x).toNat = 9 * w) (i : S64x3x32x6144.Idx) :
    (val_main_v26 (F := Ideal) x0 x3 x4 x2 i : EReal)
      = outPart (srcOf x0 x1 x2 x3 x4) (i 0).val (i 2).val (i 1).val ((i 3).val / 1024) ((i 3).val % 1024 / 128) ((i 3).val % 128) := by
  have h0 : (i 0).val < 64 := (i 0).isLt
  have h1 : (i 1).val < 3 := (i 1).isLt
  have h2 : (i 2).val < 32 := (i 2).isLt
  have h3 : (i 3).val < 6144 := (i 3).isLt
  rw [val_main_v26_apply]
  unfold outPart
  refine Finset.sum_congr rfl fun k _ => ?_
  congr 1
  · rw [val_main_v25_apply, val_main_v24_apply, val_main_v23_apply]
    show x4 _ = el x4 _ _
    rw [el_eq x4 _ _ (by omega) (by have := k.isLt; omega)]
    congr 1; funext a; fin_cases a <;> apply Fin.ext
    · show ((((i 0).val * 3 + (i 1).val) * 32 + (i 2).val) * 256 + k.val) / 256 = (i 0).val * 96 + (i 1).val * 32 + (i 2).val
      have := k.isLt; omega
    · show ((((i 0).val * 3 + (i 1).val) * 32 + (i 2).val) * 256 + k.val) % 256 = k.val
      have := k.isLt; omega
  · refine Eq.trans ?_ (v22_apply x0 x1 x2 x3 x4 hL (i 0).val k.val (i 3).val h0 k.isLt h3)
    congr 1
    funext a; fin_cases a <;> rfl

/-- The reference's result is the token plus its three parts' weighted sums. -/
theorem v31_apply (hL : ∀ x : S64x128.Idx, (x 1).val < 48 → ∃ w, w ≤ 4096 ∧ (x0 x).toNat = 9 * w) (i : S2048x6144.Idx) :
    (val_main_v31 (F := Ideal) x0 x1 x3 x4 x2 i : EReal) = outVal (srcOf x0 x1 x2 x3 x4) (i 0).val (i 1).val := by
  have h0 : (i 0).val < 2048 := (i 0).isLt
  have h1 : (i 1).val < 6144 := (i 1).isLt
  rw [val_main_v31_apply, val_main_v30_apply, val_main_v28_apply, val_main_v29_apply, val_main_v27_apply, Fin.sum_univ_three,
    v26_apply x0 x1 x2 x3 x4 hL, v26_apply x0 x1 x2 x3 x4 hL, v26_apply x0 x1 x2 x3 x4 hL, val_main_cst_1_apply]
  show x1 i + (Ideal.ofBits .f32 0x00000000#32 + (outPart (srcOf x0 x1 x2 x3 x4) (((i 0).val * 6144 + (i 1).val) / 196608) (((i 0).val * 6144 + (i 1).val) / 6144 % 32) 0 ((((i 0).val * 6144 + (i 1).val) % 6144) / 1024) ((((i 0).val * 6144 + (i 1).val) % 6144) % 1024 / 128) ((((i 0).val * 6144 + (i 1).val) % 6144) % 128)
    + outPart (srcOf x0 x1 x2 x3 x4) (((i 0).val * 6144 + (i 1).val) / 196608) (((i 0).val * 6144 + (i 1).val) / 6144 % 32) 1 ((((i 0).val * 6144 + (i 1).val) % 6144) / 1024) ((((i 0).val * 6144 + (i 1).val) % 6144) % 1024 / 128) ((((i 0).val * 6144 + (i 1).val) % 6144) % 128)
    + outPart (srcOf x0 x1 x2 x3 x4) (((i 0).val * 6144 + (i 1).val) / 196608) (((i 0).val * 6144 + (i 1).val) / 6144 % 32) 2 ((((i 0).val * 6144 + (i 1).val) % 6144) / 1024) ((((i 0).val * 6144 + (i 1).val) % 6144) % 1024 / 128) ((((i 0).val * 6144 + (i 1).val) % 6144) % 128))) = _
  rw [Ideal.ofBits_zero_f32, zero_add, show ((i 0).val * 6144 + (i 1).val) / 196608 = (i 0).val / 32 by omega,
    show ((i 0).val * 6144 + (i 1).val) / 6144 % 32 = (i 0).val % 32 by omega, show ((i 0).val * 6144 + (i 1).val) % 6144 = (i 1).val by omega]
  unfold outVal
  congr 1
  show x1 i = el x1 (i 0).val (i 1).val
  rw [el_eq x1 _ _ h0 h1]
  congr 1
  funext a; fin_cases a <;> rfl

end Cert.Proof.Ref

end
-- ==== Proof.Value.VReg.lean ====
/- The plain reference's runs: its first call leaves the codes themselves, and its result is each token plus its weighted sums. -/
module

public import proofs.«01_k».proof.Proof.Value.VRef
public import Idealize.ShloMosaic.Lib.Pipeline.ValueKit

@[expose] public section

set_option maxRecDepth 8192
set_option maxHeartbeats 400000

noncomputable section

namespace Cert.Proof.Ref

open Cert.ReferenceIdeal Cert.ReferenceIdeal.Gen Cert.ReferenceIdeal.Read Cert.ReferenceIdeal.Value
open Idealize.ShloMosaic Idealize.ShloMosaic.TcCoe Idealize.ShloMosaic.ValueIdx Idealize.SL.Sem
open Cert.Proof.KernelIdeal.Val (srcOf)
open Cert.Proof.KernelIdeal (outVal)

variable (m : (ℓ : Loc nD τ sig) → Buf (Elt Ideal) ℓ) (ρ : Dev nD → PrngReg)

/-- The widened codes are the codes. -/
theorem out_eq (x : S8192x6144.Idx → EReal) : (out0_1 (F := Ideal) x : S8192x6144.Idx → EReal) = x := by
  unfold out0_1
  refine (View.canon_cons_unit_lit inb_S8192x6144_S8192x6144_0_0 _ [] (by decide)).trans ?_
  exact View.ld_unit_lit (S := S8192x6144) (Val := Elt Ideal) (e := .fp8e4m3) (off := ![0, 0]) inb_S8192x6144_S8192x6144_0_0 x (by decide)

theorem cover1 (i : S8192x6144.Idx) : ∃ t : Fin cfg0.N, (cfg0.win 1).flush t = true ∧ i ∈ ((cfg0.win 1).blk t).view.set := by
  refine ⟨⟨0, by decide⟩, by decide +kernel, ?_⟩
  refine ((cfg0.win 1).emb_mem_blk_iff _ i rfl).mpr fun a => ?_
  fin_cases a
  · have := (i (0 : Fin 2)).isLt
    show 0 * 8192 ≤ (i (0 : Fin 2)).val ∧ (i (0 : Fin 2)).val < 0 * 8192 + 8192
    exact ⟨by omega, by rw [Nat.zero_mul, Nat.zero_add]; exact this⟩
  · have := (i (1 : Fin 2)).isLt
    show 0 * 6144 ≤ (i (1 : Fin 2)).val ∧ (i (1 : Fin 2)).val < 0 * 6144 + 6144
    exact ⟨by omega, by rw [Nat.zero_mul, Nat.zero_add]; exact this⟩

/-- What the first call leaves: the codes. -/
theorem reg_eq (c : Dev nD) : reg_main_v0 m c = m ((c.tc : Thread nD τ).loc main_arg2) := by
  unfold reg_main_v0
  refine (dats m 0 c).arrAt_eq_of_emb 1 (m ((c.tc : Thread nD τ).loc main_arg2)) (fun t hf y => ?_) cover1
  refine (cast_eq _ _).trans ?_
  rw [after0_1]
  refine (congrFun (out_eq (iblk m c 0 t)) _).trans ?_
  show V m c main_arg2 _ = _
  rw [V_main_arg2]
  refine congrArg (m ((c.tc : Thread nD τ).loc main_arg2)) ?_
  funext a
  fin_cases a <;> rfl

/-- The result of a run, from the arguments. -/
def refArr (c : Dev nD) : S2048x6144.Idx → EReal := fun i =>
  outVal (srcOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (i 0).val (i 1).val

theorem ref_value (c : Dev nD) (hL : ∀ x : S64x128.Idx, (x 1).val < 48 → ∃ w, w ≤ 4096 ∧ BitVec.toNat (w := 32) (m ((c.tc : Thread nD τ).loc main_arg0) x) = 9 * w) :
    val_main_v31 (F := Ideal) (m ((c.tc : Thread nD τ).loc main_arg0)) (m ((c.tc : Thread nD τ).loc main_arg1)) (m ((c.tc : Thread nD τ).loc main_arg3)) (m ((c.tc : Thread nD τ).loc main_arg4)) (reg_main_v0 m c)
      = refArr m c := by
  rw [reg_eq]
  funext i
  exact v31_apply _ _ _ _ _ hL i

/-- Every run of the reference ends with the result at that array and the arguments unchanged. -/
theorem run_ref (hL : ∀ c : Dev nD, ∀ x : S64x128.Idx, (x 1).val < 48 → ∃ w, w ≤ 4096 ∧ BitVec.toNat (w := 32) (m ((c.tc : Thread nD τ).loc main_arg0) x) = 9 * w) :
    θ_run defs (onTc (τ := τ) (main (F := Ideal))) ⟨m, fun _ => 0, ρ⟩ fun r => ∀ c : Dev nD,
      r.2.mem ((c.tc : Thread nD τ).loc main_v31) = refArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨by
    have e := val_main_v31_eq (exitV m c)
    rw [exit_main_arg0, exit_main_arg1, exit_main_arg3, exit_main_arg4, exit_main_v0] at e
    exact ((h c).1.trans e).trans (ref_value m c (hL c)), (h c).2⟩) (Cert.ReferenceIdeal.Value.run m ρ)

end Cert.Proof.Ref

end
-- ==== Proof.lean ====
module

public import proofs.«01_k».proof.Proof.Gen.ReferenceIdeal.Read
public import proofs.«01_k».proof.Defs
public import proofs.«01_k».proof.Proof.Gen.Kernel
public import proofs.«01_k».proof.Proof.Gen.KernelIdeal
public import proofs.«01_k».proof.Proof.Gen.Pre_pairs_in_buffer
public import proofs.«01_k».proof.Proof.Frame.KRun
public import proofs.«01_k».proof.Proof.Frame.IRun
public import proofs.«01_k».proof.Proof.Frame.Lists
public import proofs.«01_k».proof.Proof.Value.VFinal
public import proofs.«01_k».proof.Proof.Value.VReg
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The precondition of the kernel's launch memory bounds every list entry it reads. -/
theorem lists_kernel (m) (h : Cert.Pre_Kernel (hPre_pairs_in_buffer := Cert.Pre_pairs_in_buffer.Gen.facts) m) : Cert.Proof.Kernel.Lists (F := Bits) m := by
  intro x hx
  obtain ⟨w, hw, e⟩ := lists_of_pre (hf := Cert.Pre_pairs_in_buffer.Gen.facts) _ _ _ _ _ (h 0) x hx
  exact le_of_eq_of_le e (by omega)

/-- The same of its idealization. -/
theorem lists_ideal (m) (h : Cert.Pre_KernelIdeal (hPre_pairs_in_buffer := Cert.Pre_pairs_in_buffer.Gen.facts) m) : Cert.Proof.KernelIdeal.Lists (F := Ideal) m := by
  intro x hx
  obtain ⟨w, hw, e⟩ := lists_of_pre (hf := Cert.Pre_pairs_in_buffer.Gen.facts) _ _ _ _ _ (h 0) x hx
  exact le_of_eq_of_le e (by omega)

theorem preserves : Cert.preserves_Kernel_KernelIdeal :=
  ⟨IdealRules.bf16_pair.bufferStatement _ _, IdealRules.bf16_pair.bufferStatement _ _, IdealRules.bf16_pair.bufferStatement _ _,
    IdealRules.bf16_pair.statement _ _, IdealRules.bf16_pair.selectZeroStatement _, IdealRules.bf16_pair.statement _ _, IdealRules.bf16_pair.selectZeroStatement _,
    IdealRules.bf16_pair.statement _ _, IdealRules.bf16_pair.statement _ _, IdealRules.bf16_pair.statement _ _, IdealRules.bf16_pair.statement _ _,
    IdealRules.bf16_pair.statement _ _, IdealRules.bf16_pair.statement _ _, IdealRules.bf16_pair.statement _ _, IdealRules.bf16_pair.statement _ _⟩

theorem frame_kernel : Cert.quiescent_Kernel (hKernel := Cert.Kernel.Gen.facts) (hPre_pairs_in_buffer := Cert.Pre_pairs_in_buffer.Gen.facts) := by
  intro m ρ h
  exact Cert.Proof.Kernel.frame_main (lists_kernel m h)

theorem frame_ideal : Cert.quiescent_KernelIdeal (hKernelIdeal := Cert.KernelIdeal.Gen.facts) (hPre_pairs_in_buffer := Cert.Pre_pairs_in_buffer.Gen.facts) := by
  intro m ρ h
  exact Cert.Proof.KernelIdeal.frame_main (lists_ideal m h)

theorem frame_ref : Cert.quiescent_ReferenceIdeal (hReferenceIdeal := Cert.ReferenceIdeal.Gen.facts) :=
  fun m ρ _ => Cert.ReferenceIdeal.Gen.frame m ρ

theorem frame_ref_pre : Cert.quiescent_ReferenceIdeal_pre_pairs_in_buffer (hReferenceIdeal := Cert.ReferenceIdeal.Gen.facts) (hPre_pairs_in_buffer := Cert.Pre_pairs_in_buffer.Gen.facts) :=
  fun m ρ _ => Cert.ReferenceIdeal.Gen.frame m ρ

/-- The idealized kernel and the reference compute the same array: each token plus its three parts' weighted sums. -/
theorem algebraic : Cert.algebraic_KernelIdeal_ReferenceIdeal (hKernelIdeal := Cert.KernelIdeal.Gen.facts) (hReferenceIdeal := Cert.ReferenceIdeal.Gen.facts)
    (hPre_pairs_in_buffer := Cert.Pre_pairs_in_buffer.Gen.facts) := by
  intro m g m' g' hpre hargs
  have hL : Cert.Proof.KernelIdeal.Val.Lists9 m := lists_of_pre (hf := Cert.Pre_pairs_in_buffer.Gen.facts) _ _ _ _ _ (hpre 0)
  refine ⟨fun _ => Cert.Proof.KernelIdeal.Val.outArr m, Cert.Proof.KernelIdeal.Val.run_value m g hL, ?_⟩
  have hL' : ∀ c : Dev Cert.ReferenceIdeal.nD, ∀ x : Cert.ReferenceIdeal.S64x128.Idx, (x 1).val < 48 →
      ∃ w, w ≤ 4096 ∧ BitVec.toNat (w := 32) (m' ((c.tc : Thread Cert.ReferenceIdeal.nD Cert.ReferenceIdeal.τ).loc Cert.ReferenceIdeal.main_arg0) x) = 9 * w := by
    intro c
    obtain rfl : c = 0 := Subsingleton.elim _ _
    rw [(hargs 0).1]
    exact hL
  refine (θ_run _ _ _).mono (fun r h c => ⟨(h c).1.trans ?_, (h c).2⟩) (Cert.Proof.Ref.run_ref m' g' hL')
  obtain rfl : c = 0 := Subsingleton.elim _ _
  unfold Cert.Proof.Ref.refArr
  rw [(hargs 0).1, (hargs 0).2.1, (hargs 0).2.2.1, (hargs 0).2.2.2.1, (hargs 0).2.2.2.2]
  rfl

theorem claim : Cert.Claim := ⟨Cert.Kernel.Gen.facts, Cert.KernelIdeal.Gen.facts, Cert.ReferenceIdeal.Gen.facts, Cert.Pre_pairs_in_buffer.Gen.facts,
  frame_kernel, frame_ideal, frame_ref, frame_ref_pre, preserves, algebraic⟩

end Cert.Proof

end
